-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0_0)) (v1 : (c : Dev Cert.ExpertsIdeal.nD) → Buf (Elt Ideal) ((c.tc : Thread Cert.ExpertsIdeal.nD Cert.ExpertsIdeal.τ).loc Cert.ExpertsIdeal.main_v0_1)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0_0) = v0 c
          ∧ r.2.mem ((c.tc : Thread Cert.ExpertsIdeal.nD Cert.ExpertsIdeal.τ).loc Cert.ExpertsIdeal.main_v0_1) = v1 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v17) = v0 c
          ∧ r.2.mem ((c.tc : Thread Cert.ExpertsRefIdeal.nD Cert.ExpertsRefIdeal.τ).loc Cert.ExpertsRefIdeal.main_v35) = v1 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v20_0)) (v1 : (c : Dev Cert.MergeIdeal.nD) → Buf (Elt Ideal) ((c.tc : Thread Cert.MergeIdeal.nD Cert.MergeIdeal.τ).loc Cert.MergeIdeal.main_v20_1)) (v2 : (c : Dev Cert.MergeIdeal.nD) → Buf (Elt Ideal) ((c.tc : Thread Cert.MergeIdeal.nD Cert.MergeIdeal.τ).loc Cert.MergeIdeal.main_v20_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v20_0) = v0 c
          ∧ r.2.mem ((c.tc : Thread Cert.MergeIdeal.nD Cert.MergeIdeal.τ).loc Cert.MergeIdeal.main_v20_1) = v1 c
          ∧ r.2.mem ((c.tc : Thread Cert.MergeIdeal.nD Cert.MergeIdeal.τ).loc Cert.MergeIdeal.main_v20_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v57) = v0 c
          ∧ r.2.mem ((c.tc : Thread Cert.MergeRefIdeal.nD Cert.MergeRefIdeal.τ).loc Cert.MergeRefIdeal.main_v91) = v1 c
          ∧ r.2.mem ((c.tc : Thread Cert.MergeRefIdeal.nD Cert.MergeRefIdeal.τ).loc Cert.MergeRefIdeal.main_v92) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)) →
    ∃ (v0 : (c : Dev Cert.InprojIdeal.nD) → Buf (Elt Ideal) ((c.tc : Thread Cert.InprojIdeal.nD Cert.InprojIdeal.τ).loc Cert.InprojIdeal.main_v39_0)) (v1 : (c : Dev Cert.InprojIdeal.nD) → Buf (Elt Ideal) ((c.tc : Thread Cert.InprojIdeal.nD Cert.InprojIdeal.τ).loc Cert.InprojIdeal.main_v39_1)) (v2 : (c : Dev Cert.InprojIdeal.nD) → Buf (Elt Ideal) ((c.tc : Thread Cert.InprojIdeal.nD Cert.InprojIdeal.τ).loc Cert.InprojIdeal.main_v39_2)) (v3 : (c : Dev Cert.InprojIdeal.nD) → Buf (Elt Ideal) ((c.tc : Thread Cert.InprojIdeal.nD Cert.InprojIdeal.τ).loc Cert.InprojIdeal.main_v39_3)) (v4 : (c : Dev Cert.InprojIdeal.nD) → Buf (Elt Ideal) ((c.tc : Thread Cert.InprojIdeal.nD Cert.InprojIdeal.τ).loc Cert.InprojIdeal.main_v39_4)) (v5 : (c : Dev Cert.InprojIdeal.nD) → Buf (Elt Ideal) ((c.tc : Thread Cert.InprojIdeal.nD Cert.InprojIdeal.τ).loc Cert.InprojIdeal.main_v39_5)) (v6 : (c : Dev Cert.InprojIdeal.nD) → Buf (Elt Ideal) ((c.tc : Thread Cert.InprojIdeal.nD Cert.InprojIdeal.τ).loc Cert.InprojIdeal.main_v39_6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v39_0) = v0 c
          ∧ r.2.mem ((c.tc : Thread Cert.InprojIdeal.nD Cert.InprojIdeal.τ).loc Cert.InprojIdeal.main_v39_1) = v1 c
          ∧ r.2.mem ((c.tc : Thread Cert.InprojIdeal.nD Cert.InprojIdeal.τ).loc Cert.InprojIdeal.main_v39_2) = v2 c
          ∧ r.2.mem ((c.tc : Thread Cert.InprojIdeal.nD Cert.InprojIdeal.τ).loc Cert.InprojIdeal.main_v39_3) = v3 c
          ∧ r.2.mem ((c.tc : Thread Cert.InprojIdeal.nD Cert.InprojIdeal.τ).loc Cert.InprojIdeal.main_v39_4) = v4 c
          ∧ r.2.mem ((c.tc : Thread Cert.InprojIdeal.nD Cert.InprojIdeal.τ).loc Cert.InprojIdeal.main_v39_5) = v5 c
          ∧ r.2.mem ((c.tc : Thread Cert.InprojIdeal.nD Cert.InprojIdeal.τ).loc Cert.InprojIdeal.main_v39_6) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v151) = v0 c
          ∧ r.2.mem ((c.tc : Thread Cert.InprojRefIdeal.nD Cert.InprojRefIdeal.τ).loc Cert.InprojRefIdeal.main_v157) = v1 c
          ∧ r.2.mem ((c.tc : Thread Cert.InprojRefIdeal.nD Cert.InprojRefIdeal.τ).loc Cert.InprojRefIdeal.main_v161) = v2 c
          ∧ r.2.mem ((c.tc : Thread Cert.InprojRefIdeal.nD Cert.InprojRefIdeal.τ).loc Cert.InprojRefIdeal.main_v166) = v3 c
          ∧ r.2.mem ((c.tc : Thread Cert.InprojRefIdeal.nD Cert.InprojRefIdeal.τ).loc Cert.InprojRefIdeal.main_v172) = v4 c
          ∧ r.2.mem ((c.tc : Thread Cert.InprojRefIdeal.nD Cert.InprojRefIdeal.τ).loc Cert.InprojRefIdeal.main_v176) = v5 c
          ∧ r.2.mem ((c.tc : Thread Cert.InprojRefIdeal.nD Cert.InprojRefIdeal.τ).loc Cert.InprojRefIdeal.main_v181) = v6 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Experts_ExpertsIdeal
    ∧ algebraic_ExpertsIdeal_ExpertsRefIdeal (hExpertsIdeal := hExpertsIdeal) (hExpertsRefIdeal := hExpertsRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
-- ==== Pre_finite_scores.lean ====
abbrev S8x2048x8x64 : Shape := ⟨4, ![8, 2048, 8, 64]⟩
abbrev S8x2048x2x64 : Shape := ⟨4, ![8, 2048, 2, 64]⟩
abbrev S8x256x2x64 : Shape := ⟨4, ![8, 256, 2, 64]⟩
abbrev S_ : Shape := ⟨0, ![]⟩

class Facts : Prop where
  bcast_S_S8x2048x8x64 : S_.BroadcastsInDim S8x2048x8x64 (![] : Fin 0 → Fin S8x2048x8x64.rank)
  bcast_S_S8x2048x2x64 : S_.BroadcastsInDim S8x2048x2x64 (![] : Fin 0 → Fin S8x2048x2x64.rank)
  bcast_S_S8x256x2x64 : S_.BroadcastsInDim S8x256x2x64 (![] : Fin 0 → Fin S8x256x2x64.rank)

variable [Facts]

def fn {F : FTy → Type} [FloatOps F] (main_arg0 : FVec F S8x2048x8x64 .f32) (main_arg1 : FVec F S8x2048x2x64 .f32) (main_arg2 : FVec F S8x2048x2x64 .f32) (main_arg3 : FVec F S8x256x2x64 .f32) (main_arg4 : FVec F S8x256x2x64 .f32) : IVec S8x2048x8x64 1 × IVec S8x2048x2x64 1 × IVec S8x256x2x64 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_v3 : FVec F S8x2048x2x64 .f32 := Host.absf main_arg1
  let main_cst_0 : FVec F S_ .f32 := constant S_ .f32 0x7F800000#32
  let main_v4 : FVec F S8x2048x2x64 .f32 := broadcastInDim S8x2048x2x64 ![] bcast_S_S8x2048x2x64 main_cst_0
  let main_v5 : IVec S8x2048x2x64 1 := cmpf .olt main_v3 main_v4
  let main_v6 : FVec F S8x256x2x64 .f32 := Host.absf main_arg3
  let main_cst_1 : FVec F S_ .f32 := constant S_ .f32 0x7F800000#32
  let main_v7 : FVec F S8x256x2x64 .f32 := broadcastInDim S8x256x2x64 ![] bcast_S_S8x256x2x64 main_cst_1
  let main_v8 : IVec S8x256x2x64 1 := cmpf .olt main_v6 main_v7
  (main_v2, main_v5, main_v8)
-- ==== Kernel.lean ====
abbrev S8x2048x8x64 : Shape := ⟨4, ![8, 2048, 8, 64]⟩
abbrev S8x2048x2x64 : Shape := ⟨4, ![8, 2048, 2, 64]⟩
abbrev S8x256x2x64 : Shape := ⟨4, ![8, 256, 2, 64]⟩
abbrev S_ : Shape := ⟨0, ![]⟩
abbrev S8x2048x8x128 : Shape := ⟨4, ![8, 2048, 8, 128]⟩
abbrev S8x2048x1024 : Shape := ⟨3, ![8, 2048, 1024]⟩
abbrev S8x2048x2x128 : Shape := ⟨4, ![8, 2048, 2, 128]⟩
abbrev S8x2048x256 : Shape := ⟨3, ![8, 2048, 256]⟩
abbrev S8x256x2x128 : Shape := ⟨4, ![8, 256, 2, 128]⟩
abbrev S8x256x256 : Shape := ⟨3, ![8, 256, 256]⟩
abbrev S8x2048x512 : Shape := ⟨3, ![8, 2048, 512]⟩
abbrev S1x256x1024 : Shape := ⟨3, ![1, 256, 1024]⟩
abbrev S1x2048x256 : Shape := ⟨3, ![1, 2048, 256]⟩
abbrev S1x256x256 : Shape := ⟨3, ![1, 256, 256]⟩
abbrev S1x256x512 : Shape := ⟨3, ![1, 256, 512]⟩
abbrev S256x1024 : Shape := ⟨2, ![256, 1024]⟩
abbrev S256x128 : Shape := ⟨2, ![256, 128]⟩
abbrev S1024x128 : Shape := ⟨2, ![1024, 128]⟩
abbrev S256x256 : Shape := ⟨2, ![256, 256]⟩
abbrev S1024x256 : Shape := ⟨2, ![1024, 256]⟩
abbrev S2048x256 : Shape := ⟨2, ![2048, 256]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩
abbrev S1024x64 : Shape := ⟨2, ![1024, 64]⟩
abbrev S256x64 : Shape := ⟨2, ![256, 64]⟩
abbrev S256x512 : Shape := ⟨2, ![256, 512]⟩

abbrev nBuf : Space → Nat
  | .hbm => 34
  | .vmem => 12
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x64, .f32⟩
  | .hbm, ⟨2, _⟩ => ⟨S8x2048x2x64, .f32⟩
  | .hbm, ⟨3, _⟩ => ⟨S8x256x2x64, .f32⟩
  | .hbm, ⟨4, _⟩ => ⟨S8x256x2x64, .f32⟩
  | .hbm, ⟨5, _⟩ => ⟨S_, .f32⟩
  | .hbm, ⟨6, _⟩ => ⟨S8x2048x8x64, .f32⟩
  | .hbm, ⟨7, _⟩ => ⟨S8x2048x8x64, .f32⟩
  | .hbm, ⟨8, _⟩ => ⟨S_, .f32⟩
  | .hbm, ⟨9, _⟩ => ⟨S8x2048x8x64, .f32⟩
  | .hbm, ⟨10, _⟩ => ⟨S8x2048x8x128, .f32⟩
  | .hbm, ⟨11, _⟩ => ⟨S8x2048x1024, .f32⟩
  | .hbm, ⟨12, _⟩ => ⟨S8x2048x1024, .bf16⟩
  | .hbm, ⟨13, _⟩ => ⟨S_, .f32⟩
  | .hbm, ⟨14, _⟩ => ⟨S8x2048x2x64, .f32⟩
  | .hbm, ⟨15, _⟩ => ⟨S8x2048x2x128, .f32⟩
  | .hbm, ⟨16, _⟩ => ⟨S8x2048x256, .f32⟩
  | .hbm, ⟨17, _⟩ => ⟨S8x2048x256, .bf16⟩
  | .hbm, ⟨18, _⟩ => ⟨S_, .f32⟩
  | .hbm, ⟨19, _⟩ => ⟨S8x2048x2x64, .f32⟩
  | .hbm, ⟨20, _⟩ => ⟨S8x2048x2x128, .f32⟩
  | .hbm, ⟨21, _⟩ => ⟨S8x2048x256, .f32⟩
  | .hbm, ⟨22, _⟩ => ⟨S8x2048x256, .bf16⟩
  | .hbm, ⟨23, _⟩ => ⟨S_, .f32⟩
  | .hbm, ⟨24, _⟩ => ⟨S8x256x2x64, .f32⟩
  | .hbm, ⟨25, _⟩ => ⟨S8x256x2x128, .f32⟩
  | .hbm, ⟨26, _⟩ => ⟨S8x256x256, .f32⟩
  | .hbm, ⟨27, _⟩ => ⟨S8x256x256, .bf16⟩
  | .hbm, ⟨28, _⟩ => ⟨S_, .f32⟩
  | .hbm, ⟨29, _⟩ => ⟨S8x256x2x64, .f32⟩
  | .hbm, ⟨30, _⟩ => ⟨S8x256x2x128, .f32⟩
  | .hbm, ⟨31, _⟩ => ⟨S8x256x256, .f32⟩
  | .hbm, ⟨32, _⟩ => ⟨S8x256x256, .bf16⟩
  | .hbm, ⟨33, _⟩ => ⟨S8x2048x512, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x512, .bf16⟩
  | .local _ .vmem, ⟨11, _⟩ => ⟨S1x256x512, .bf16⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x2048x8x64 : Shape := ⟨4, ![8, 2048, 8, 64]⟩
abbrev S8x2048x2x64 : Shape := ⟨4, ![8, 2048, 2, 64]⟩
abbrev S8x256x2x64 : Shape := ⟨4, ![8, 256, 2, 64]⟩
abbrev S8x2304x2x64 : Shape := ⟨4, ![8, 2304, 2, 64]⟩
abbrev S8x2048x2x4x64 : Shape := ⟨5, ![8, 2048, 2, 4, 64]⟩
abbrev S8x2x2304x2048x4 : Shape := ⟨5, ![8, 2, 2304, 2048, 4]⟩
abbrev S8x2x4x2048x2304 : Shape := ⟨5, ![8, 2, 4, 2048, 2304]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩
abbrev S8x2048x512 : Shape := ⟨3, ![8, 2048, 512]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x2x64, .f32⟩
  | .hbm, ⟨2, _⟩ => ⟨S8x2048x2x64, .f32⟩
  | .hbm, ⟨3, _⟩ => ⟨S8x256x2x64, .f32⟩
  | .hbm, ⟨4, _⟩ => ⟨S8x256x2x64, .f32⟩
  | .hbm, ⟨5, _⟩ => ⟨S8x2304x2x64, .f32⟩
  | .hbm, ⟨6, _⟩ => ⟨S8x2304x2x64, .f32⟩
  | .hbm, ⟨7, _⟩ => ⟨S8x2048x2x4x64, .f32⟩
  | .hbm, ⟨8, _⟩ => ⟨S8x2x2304x2048x4, .f32⟩
  | .hbm, ⟨9, _⟩ => ⟨S8x2x4x2048x2304, .f32⟩
  | .hbm, ⟨10, _⟩ => ⟨S_, .f32⟩
  | .hbm, ⟨11, _⟩ => ⟨S8x2x4x2048x2304, .f32⟩
  | .hbm, ⟨12, _⟩ => ⟨S8x2x4x2048x2304, .f32⟩
  | .hbm, ⟨13, _⟩ => ⟨S_, .f32⟩
  | .hbm, ⟨14, _⟩ => ⟨S8x2x4x2048, .f32⟩
  | .hbm, ⟨15, _⟩ => ⟨S_, .f32⟩
  | .hbm, ⟨16, _⟩ => ⟨S8x2x4x2048, .f32⟩
  | .hbm, ⟨17, _⟩ => ⟨S8x2x4x2048, .f32⟩
  | .hbm, ⟨18, _⟩ => ⟨S8x2x4x2048x1, .f32⟩
  | .hbm, ⟨19, _⟩ => ⟨S8x2x4x2048x2304, .f32⟩
  | .hbm, ⟨20, _⟩ => ⟨S8x2x4x2048x2304, .f32⟩
  | .hbm, ⟨21, _⟩ => ⟨S8x2x4x2048x2304, .f32⟩
  | .hbm, ⟨22, _⟩ => ⟨S_, .f32⟩
  | .hbm, ⟨23, _⟩ => ⟨S8x2x4x2048, .f32⟩
  | .hbm, ⟨24, _⟩ => ⟨S8x2x4x2048x1, .f32⟩
  | .hbm, ⟨25, _⟩ => ⟨S8x2x4x2048x2304, .f32⟩
  | .hbm, ⟨26, _⟩ => ⟨S8x2x4x2048x2304, .f32⟩
  | .hbm, ⟨27, _⟩ => ⟨S8x2x64x4x2048, .f32⟩
  | .hbm, ⟨28, _⟩ => ⟨S8x2048x2x4x64, .f32⟩
  | .hbm, ⟨29, _⟩ => ⟨S8x2048x512, .f32⟩
  | .hbm, ⟨30, _⟩ => ⟨S8x2048x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Experts.lean ====
abbrev S8x4096x1024 : Shape := ⟨3, ![8, 4096, 1024]⟩
abbrev S8x512x1024 : Shape := ⟨3, ![8, 512, 1024]⟩
abbrev S2x16x1024x1024 : Shape := ⟨4, ![2, 16, 1024, 1024]⟩
abbrev S4x256x1024 : Shape := ⟨3, ![4, 256, 1024]⟩
abbrev S4x32x1024 : Shape := ⟨3, ![4, 32, 1024]⟩
abbrev S1x1x1024x1024 : Shape := ⟨4, ![1, 1, 1024, 1024]⟩
abbrev S1024x1024 : Shape := ⟨2, ![1024, 1024]⟩
abbrev S128x1024 : Shape := ⟨2, ![128, 1024]⟩
abbrev S1152x1024 : Shape := ⟨2, ![1152, 1024]⟩
abbrev S576x1024 : Shape := ⟨2, ![576, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8x4096x1024, .bf16⟩
  | .hbm, ⟨1, _⟩ => ⟨S8x512x1024, .bf16⟩
  | .hbm, ⟨2, _⟩ => ⟨S2x16x1024x1024, .f32⟩
  | .hbm, ⟨3, _⟩ => ⟨S2x16x1024x1024, .f32⟩
  | .hbm, ⟨4, _⟩ => ⟨S2x16x1024x1024, .f32⟩
  | .hbm, ⟨5, _⟩ => ⟨S8x4096x1024, .bf16⟩
  | .hbm, ⟨6, _⟩ => ⟨S8x512x1024, .bf16⟩
  | .local _ .vmem, ⟨0, _⟩ => ⟨S4x256x1024, .bf16⟩
  | .local _ .vmem, ⟨1, _⟩ => ⟨S4x256x1024, .bf16⟩
  | .local _ .vmem, ⟨2, _⟩ => ⟨S4x32x1024, .bf16⟩
  | .local _ .vmem, ⟨3, _⟩ => ⟨S4x32x1024, .bf16⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S4x256x1024, .bf16⟩
  | .local _ .vmem, ⟨11, _⟩ => ⟨S4x256x1024, .bf16⟩
  | .local _ .vmem, ⟨12, _⟩ => ⟨S4x32x1024, .bf16⟩
  | .local _ .vmem, ⟨13, _⟩ => ⟨S4x32x1024, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ExpertsRefIdeal.lean ====
abbrev S8x4096x1024 : Shape := ⟨3, ![8, 4096, 1024]⟩
abbrev S8x512x1024 : Shape := ⟨3, ![8, 512, 1024]⟩
abbrev S2x16x1024x1024 : Shape := ⟨4, ![2, 16, 1024, 1024]⟩
abbrev S8x16x256x1024 : Shape := ⟨4, ![8, 16, 256, 1024]⟩
abbrev S1x16x1024x1024 : Shape := ⟨4, ![1, 16, 1024, 1024]⟩
abbrev S16x1024x1024 : Shape := ⟨3, ![16, 1024, 1024]⟩
abbrev S16x1024x8x256 : Shape := ⟨4, ![16, 1024, 8, 256]⟩
abbrev S_ : Shape := ⟨0, ![]⟩
abbrev S8x16x32x1024 : Shape := ⟨4, ![8, 16, 32, 1024]⟩
abbrev S16x1024x8x32 : Shape := ⟨4, ![16, 1024, 8, 32]⟩

abbrev nBuf : Space → Nat
  | .hbm => 57
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x512x1024, .bf16⟩
  | .hbm, ⟨2, _⟩ => ⟨S2x16x1024x1024, .f32⟩
  | .hbm, ⟨3, _⟩ => ⟨S2x16x1024x1024, .f32⟩
  | .hbm, ⟨4, _⟩ => ⟨S2x16x1024x1024, .f32⟩
  | .hbm, ⟨5, _⟩ => ⟨S8x4096x1024, .f32⟩
  | .hbm, ⟨6, _⟩ => ⟨S8x16x256x1024, .f32⟩
  | .hbm, ⟨7, _⟩ => ⟨S1x16x1024x1024, .f32⟩
  | .hbm, ⟨8, _⟩ => ⟨S16x1024x1024, .f32⟩
  | .hbm, ⟨9, _⟩ => ⟨S1x16x1024x1024, .f32⟩
  | .hbm, ⟨10, _⟩ => ⟨S16x1024x1024, .f32⟩
  | .hbm, ⟨11, _⟩ => ⟨S1x16x1024x1024, .f32⟩
  | .hbm, ⟨12, _⟩ => ⟨S16x1024x1024, .f32⟩
  | .hbm, ⟨13, _⟩ => ⟨S16x1024x8x256, .f32⟩
  | .hbm, ⟨14, _⟩ => ⟨S8x16x256x1024, .f32⟩
  | .hbm, ⟨15, _⟩ => ⟨S16x1024x8x256, .f32⟩
  | .hbm, ⟨16, _⟩ => ⟨S8x16x256x1024, .f32⟩
  | .hbm, ⟨17, _⟩ => ⟨S8x16x256x1024, .f32⟩
  | .hbm, ⟨18, _⟩ => ⟨S8x16x256x1024, .f32⟩
  | .hbm, ⟨19, _⟩ => ⟨S_, .f32⟩
  | .hbm, ⟨20, _⟩ => ⟨S8x16x256x1024, .f32⟩
  | .hbm, ⟨21, _⟩ => ⟨S8x16x256x1024, .f32⟩
  | .hbm, ⟨22, _⟩ => ⟨S_, .f32⟩
  | .hbm, ⟨23, _⟩ => ⟨S8x16x256x1024, .f32⟩
  | .hbm, ⟨24, _⟩ => ⟨S8x16x256x1024, .f32⟩
  | .hbm, ⟨25, _⟩ => ⟨S8x16x256x1024, .f32⟩
  | .hbm, ⟨26, _⟩ => ⟨S8x16x256x1024, .f32⟩
  | .hbm, ⟨27, _⟩ => ⟨S16x1024x8x256, .f32⟩
  | .hbm, ⟨28, _⟩ => ⟨S8x16x256x1024, .f32⟩
  | .hbm, ⟨29, _⟩ => ⟨S8x4096x1024, .f32⟩
  | .hbm, ⟨30, _⟩ => ⟨S8x4096x1024, .bf16⟩
  | .hbm, ⟨31, _⟩ => ⟨S8x512x1024, .f32⟩
  | .hbm, ⟨32, _⟩ => ⟨S8x16x32x1024, .f32⟩
  | .hbm, ⟨33, _⟩ => ⟨S1x16x1024x1024, .f32⟩
  | .hbm, ⟨34, _⟩ => ⟨S16x1024x1024, .f32⟩
  | .hbm, ⟨35, _⟩ => ⟨S1x16x1024x1024, .f32⟩
  | .hbm, ⟨36, _⟩ => ⟨S16x1024x1024, .f32⟩
  | .hbm, ⟨37, _⟩ => ⟨S1x16x1024x1024, .f32⟩
  | .hbm, ⟨38, _⟩ => ⟨S16x1024x1024, .f32⟩
  | .hbm, ⟨39, _⟩ => ⟨S16x1024x8x32, .f32⟩
  | .hbm, ⟨40, _⟩ => ⟨S8x16x32x1024, .f32⟩
  | .hbm, ⟨41, _⟩ => ⟨S16x1024x8x32, .f32⟩
  | .hbm, ⟨42, _⟩ => ⟨S8x16x32x1024, .f32⟩
  | .hbm, ⟨43, _⟩ => ⟨S8x16x32x1024, .f32⟩
  | .hbm, ⟨44, _⟩ => ⟨S8x16x32x1024, .f32⟩
  | .hbm, ⟨45, _⟩ => ⟨S_, .f32⟩
  | .hbm, ⟨46, _⟩ => ⟨S8x16x32x1024, .f32⟩
  | .hbm, ⟨47, _⟩ => ⟨S8x16x32x1024, .f32⟩
  | .hbm, ⟨48, _⟩ => ⟨S_, .f32⟩
  | .hbm, ⟨49, _⟩ => ⟨S8x16x32x1024, .f32⟩
  | .hbm, ⟨50, _⟩ => ⟨S8x16x32x1024, .f32⟩
  | .hbm, ⟨51, _⟩ => ⟨S8x16x32x1024, .f32⟩
  | .hbm, ⟨52, _⟩ => ⟨S8x16x32x1024, .f32⟩
  | .hbm, ⟨53, _⟩ => ⟨S16x1024x8x32, .f32⟩
  | .hbm, ⟨54, _⟩ => ⟨S8x16x32x1024, .f32⟩
  | .hbm, ⟨55, _⟩ => ⟨S8x512x1024, .f32⟩
  | .hbm, ⟨56, _⟩ => ⟨S8x512x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Merge.lean ====
abbrev S8x2048x1024 : Shape := ⟨3, ![8, 2048, 1024]⟩
abbrev S8x2048x256 : Shape := ⟨3, ![8, 2048, 256]⟩
abbrev S8x2048x512 : Shape := ⟨3, ![8, 2048, 512]⟩
abbrev S8x6144 : Shape := ⟨2, ![8, 6144]⟩
abbrev S1024 : Shape := ⟨1, ![1024]⟩
abbrev S1024x4608 : Shape := ⟨2, ![1024, 4608]⟩
abbrev S256x1024 : Shape := ⟨2, ![256, 1024]⟩
abbrev S512x1024 : Shape := ⟨2, ![512, 1024]⟩
abbrev S1024x1024 : Shape := ⟨2, ![1024, 1024]⟩
abbrev S1024x16 : Shape := ⟨2, ![1024, 16]⟩
abbrev S8x1024 : Shape := ⟨2, ![8, 1024]⟩
abbrev S8x1x1024 : Shape := ⟨3, ![8, 1, 1024]⟩
abbrev S1x1024 : Shape := ⟨2, ![1, 1024]⟩
abbrev S1024x3072 : Shape := ⟨2, ![1024, 3072]⟩
abbrev S_ : Shape := ⟨0, ![]⟩
abbrev S1024x128 : Shape := ⟨2, ![1024, 128]⟩
abbrev S8x16x2048 : Shape := ⟨3, ![8, 16, 2048]⟩
abbrev S1x1024x1024 : Shape := ⟨3, ![1, 1024, 1024]⟩
abbrev S1x1024x256 : Shape := ⟨3, ![1, 1024, 256]⟩
abbrev S1x1024x512 : Shape := ⟨3, ![1, 1024, 512]⟩
abbrev S1x1x1024 : Shape := ⟨3, ![1, 1, 1024]⟩
abbrev S1x16x1024 : Shape := ⟨3, ![1, 16, 1024]⟩
abbrev S1x512x1024 : Shape := ⟨3, ![1, 512, 1024]⟩
abbrev S512 : Shape := ⟨1, ![512]⟩
abbrev S512x1 : Shape := ⟨2, ![512, 1]⟩
abbrev S1x512x256 : Shape := ⟨3, ![1, 512, 256]⟩
abbrev S512x256 : Shape := ⟨2, ![512, 256]⟩
abbrev S1x512x512 : Shape := ⟨3, ![1, 512, 512]⟩
abbrev S512x512 : Shape := ⟨2, ![512, 512]⟩
abbrev S512x128 : Shape := ⟨2, ![512, 128]⟩
abbrev S128x512 : Shape := ⟨2, ![128, 512]⟩
abbrev S16x512 : Shape := ⟨2, ![16, 512]⟩
abbrev S1x512 : Shape := ⟨2, ![1, 512]⟩
abbrev S1x16x512 : Shape := ⟨3, ![1, 16, 512]⟩

abbrev nBuf : Space → Nat
  | .hbm => 38
  | .vmem => 32
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .bf16⟩
  | .hbm, ⟨2, _⟩ => ⟨S8x2048x512, .bf16⟩
  | .hbm, ⟨3, _⟩ => ⟨S8x2048x256, .bf16⟩
  | .hbm, ⟨4, _⟩ => ⟨S8x6144, .f32⟩
  | .hbm, ⟨5, _⟩ => ⟨S1024, .f32⟩
  | .hbm, ⟨6, _⟩ => ⟨S1024, .f32⟩
  | .hbm, ⟨7, _⟩ => ⟨S1024x4608, .f32⟩
  | .hbm, ⟨8, _⟩ => ⟨S256x1024, .f32⟩
  | .hbm, ⟨9, _⟩ => ⟨S512x1024, .f32⟩
  | .hbm, ⟨10, _⟩ => ⟨S256x1024, .f32⟩
  | .hbm, ⟨11, _⟩ => ⟨S1024x1024, .f32⟩
  | .hbm, ⟨12, _⟩ => ⟨S1024x16, .f32⟩
  | .hbm, ⟨13, _⟩ => ⟨S8x1024, .f32⟩
  | .hbm, ⟨14, _⟩ => ⟨S8x1x1024, .f32⟩
  | .hbm, ⟨15, _⟩ => ⟨S8x1024, .f32⟩
  | .hbm, ⟨16, _⟩ => ⟨S8x1x1024, .f32⟩
  | .hbm, ⟨17, _⟩ => ⟨S8x1024, .f32⟩
  | .hbm, ⟨18, _⟩ => ⟨S8x1x1024, .f32⟩
  | .hbm, ⟨19, _⟩ => ⟨S8x1024, .f32⟩
  | .hbm, ⟨20, _⟩ => ⟨S8x1x1024, .f32⟩
  | .hbm, ⟨21, _⟩ => ⟨S8x1024, .f32⟩
  | .hbm, ⟨22, _⟩ => ⟨S8x1x1024, .f32⟩
  | .hbm, ⟨23, _⟩ => ⟨S1x1024, .f32⟩
  | .hbm, ⟨24, _⟩ => ⟨S1x1024, .f32⟩
  | .hbm, ⟨25, _⟩ => ⟨S1024x3072, .f32⟩
  | .hbm, ⟨26, _⟩ => ⟨S1024x3072, .bf16⟩
  | .hbm, ⟨27, _⟩ => ⟨S256x1024, .bf16⟩
  | .hbm, ⟨28, _⟩ => ⟨S512x1024, .bf16⟩
  | .hbm, ⟨29, _⟩ => ⟨S256x1024, .bf16⟩
  | .hbm, ⟨30, _⟩ => ⟨S1024x1024, .bf16⟩
  | .hbm, ⟨31, _⟩ => ⟨S_, .i32⟩
  | .hbm, ⟨32, _⟩ => ⟨S_, .f32⟩
  | .hbm, ⟨33, _⟩ => ⟨S1024x128, .f32⟩
  | .hbm, ⟨34, _⟩ => ⟨S1024x128, .bf16⟩
  | .hbm, ⟨35, _⟩ => ⟨S8x2048x1024, .f32⟩
  | .hbm, ⟨36, _⟩ => ⟨S8x2048x1024, .bf16⟩
  | .hbm, ⟨37, _⟩ => ⟨S8x16x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1x1024, .f32⟩
  | .local _ .vmem, ⟨20, _⟩ => ⟨S1024x3072, .bf16⟩
  | .local _ .vmem, ⟨21, _⟩ => ⟨S256x1024, .bf16⟩
  | .local _ .vmem, ⟨22, _⟩ => ⟨S512x1024, .bf16⟩
  | .local _ .vmem, ⟨23, _⟩ => ⟨S256x1024, .bf16⟩
  | .local _ .vmem, ⟨24, _⟩ => ⟨S1024x1024, .bf16⟩
  | .local _ .vmem, ⟨25, _⟩ => ⟨S1024x128, .bf16⟩
  | .local _ .vmem, ⟨26, _⟩ => ⟨S1x1024x1024, .f32⟩
  | .local _ .vmem, ⟨27, _⟩ => ⟨S1x1024x1024, .f32⟩
  | .local _ .vmem, ⟨28, _⟩ => ⟨S1x1024x1024, .bf16⟩
  | .local _ .vmem, ⟨29, _⟩ => ⟨S1x1024x1024, .bf16⟩
  | .local _ .vmem, ⟨30, _⟩ => ⟨S1x16x1024, .f32⟩
  | .local _ .vmem, ⟨31, _⟩ => ⟨S1x16x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_call0_v0 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_v20_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x16x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MergeRefIdeal.lean ====
abbrev S8x2048x1024 : Shape := ⟨3, ![8, 2048, 1024]⟩
abbrev S8x2048x256 : Shape := ⟨3, ![8, 2048, 256]⟩
abbrev S8x2048x512 : Shape := ⟨3, ![8, 2048, 512]⟩
abbrev S8x6144 : Shape := ⟨2, ![8, 6144]⟩
abbrev S1024 : Shape := ⟨1, ![1024]⟩
abbrev S1024x4608 : Shape := ⟨2, ![1024, 4608]⟩
abbrev S256x1024 : Shape := ⟨2, ![256, 1024]⟩
abbrev S512x1024 : Shape := ⟨2, ![512, 1024]⟩
abbrev S1024x1024 : Shape := ⟨2, ![1024, 1024]⟩
abbrev S1024x16 : Shape := ⟨2, ![1024, 16]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x4608 : Shape := ⟨3, ![8, 2048, 4608]⟩
abbrev S8x2048x3072 : Shape := ⟨3, ![8, 2048, 3072]⟩
abbrev S8x2048x3x1024 : Shape := ⟨4, ![8, 2048, 3, 1024]⟩
abbrev S8x2048x1x1024 : Shape := ⟨4, ![8, 2048, 1, 1024]⟩
abbrev S8x2048x16 : Shape := ⟨3, ![8, 2048, 16]⟩
abbrev S8x16x2048 : Shape := ⟨3, ![8, 16, 2048]⟩

abbrev nBuf : Space → Nat
  | .hbm => 119
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .bf16⟩
  | .hbm, ⟨2, _⟩ => ⟨S8x2048x512, .bf16⟩
  | .hbm, ⟨3, _⟩ => ⟨S8x2048x256, .bf16⟩
  | .hbm, ⟨4, _⟩ => ⟨S8x6144, .f32⟩
  | .hbm, ⟨5, _⟩ => ⟨S1024, .f32⟩
  | .hbm, ⟨6, _⟩ => ⟨S1024, .f32⟩
  | .hbm, ⟨7, _⟩ => ⟨S1024x4608, .f32⟩
  | .hbm, ⟨8, _⟩ => ⟨S256x1024, .f32⟩
  | .hbm, ⟨9, _⟩ => ⟨S512x1024, .f32⟩
  | .hbm, ⟨10, _⟩ => ⟨S256x1024, .f32⟩
  | .hbm, ⟨11, _⟩ => ⟨S1024x1024, .f32⟩
  | .hbm, ⟨12, _⟩ => ⟨S1024x16, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S8x1x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x2048x1024, .f32⟩
  | .hbm, ⟨40, _⟩ => ⟨S8x2048x1024, .f32⟩
  | .hbm, ⟨41, _⟩ => ⟨S8x1x1024, .f32⟩
  | .hbm, ⟨42, _⟩ => ⟨S8x2048x1024, .f32⟩
  | .hbm, ⟨43, _⟩ => ⟨S8x2048x1024, .f32⟩
  | .hbm, ⟨44, _⟩ => ⟨S8x2048x4608, .f32⟩
  | .hbm, ⟨45, _⟩ => ⟨S8x2048x3072, .f32⟩
  | .hbm, ⟨46, _⟩ => ⟨S8x2048x256, .f32⟩
  | .hbm, ⟨47, _⟩ => ⟨S8x2048x512, .f32⟩
  | .hbm, ⟨48, _⟩ => ⟨S8x2048x256, .f32⟩
  | .hbm, ⟨49, _⟩ => ⟨S8x2048x3072, .f32⟩
  | .hbm, ⟨50, _⟩ => ⟨S8x2048x3072, .f32⟩
  | .hbm, ⟨51, _⟩ => ⟨S_, .f32⟩
  | .hbm, ⟨52, _⟩ => ⟨S8x2048x3072, .f32⟩
  | .hbm, ⟨53, _⟩ => ⟨S8x2048x3072, .f32⟩
  | .hbm, ⟨54, _⟩ => ⟨S_, .f32⟩
  | .hbm, ⟨55, _⟩ => ⟨S8x2048x3072, .f32⟩
  | .hbm, ⟨56, _⟩ => ⟨S8x2048x3072, .f32⟩
  | .hbm, ⟨57, _⟩ => ⟨S8x2048x3x1024, .f32⟩
  | .hbm, ⟨58, _⟩ => ⟨S8x2048x1x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S8x2048x1x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S8x2048x1x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S8x1x1024, .f32⟩
  | .hbm, ⟨74, _⟩ => ⟨S8x2048x1024, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | .hbm, ⟨78, _⟩ => ⟨S_, .f32⟩
  | .hbm, ⟨79, _⟩ => ⟨S8x2048, .f32⟩
  | .hbm, ⟨80, _⟩ => ⟨S8x2048x1, .f32⟩
  | .hbm, ⟨81, _⟩ => ⟨S_, .f32⟩
  | .hbm, ⟨82, _⟩ => ⟨S8x2048x1, .f32⟩
  | .hbm, ⟨83, _⟩ => ⟨S8x2048x1, .f32⟩
  | .hbm, ⟨84, _⟩ => ⟨S_, .f32⟩
  | .hbm, ⟨85, _⟩ => ⟨S8x2048x1, .f32⟩
  | .hbm, ⟨86, _⟩ => ⟨S8x2048x1, .f32⟩
  | .hbm, ⟨87, _⟩ => ⟨S8x2048x1, .f32⟩
  | .hbm, ⟨88, _⟩ => ⟨S8x2048x1024, .f32⟩
  | .hbm, ⟨89, _⟩ => ⟨S8x2048x1024, .f32⟩
  | .hbm, ⟨90, _⟩ => ⟨S1x1x1024, .f32⟩
  | .hbm, ⟨91, _⟩ => ⟨S8x2048x1024, .f32⟩
  | .hbm, ⟨92, _⟩ => ⟨S8x2048x1024, .f32⟩
  | .hbm, ⟨93, _⟩ => ⟨S8x1x1024, .f32⟩
  | .hbm, ⟨94, _⟩ => ⟨S_, .f32⟩
  | .hbm, ⟨95, _⟩ => ⟨S8x1x1024, .f32⟩
  | .hbm, ⟨96, _⟩ => ⟨S8x1x1024, .f32⟩
  | .hbm, ⟨97, _⟩ => ⟨S8x2048x1024, .f32⟩
  | .hbm, ⟨98, _⟩ => ⟨S8x2048x1024, .f32⟩
  | .hbm, ⟨99, _⟩ => ⟨S8x1x1024, .f32⟩
  | .hbm, ⟨100, _⟩ => ⟨S8x2048x1024, .f32⟩
  | .hbm, ⟨101, _⟩ => ⟨S8x2048x1024, .f32⟩
  | .hbm, ⟨102, _⟩ => ⟨S8x2048x16, .f32⟩
  | .hbm, ⟨103, _⟩ => ⟨S_, .f32⟩
  | .hbm, ⟨104, _⟩ => ⟨S8x2048, .f32⟩
  | .hbm, ⟨105, _⟩ => ⟨S_, .f32⟩
  | .hbm, ⟨106, _⟩ => ⟨S8x2048, .f32⟩
  | .hbm, ⟨107, _⟩ => ⟨S8x2048, .f32⟩
  | .hbm, ⟨108, _⟩ => ⟨S8x2048x1, .f32⟩
  | .hbm, ⟨109, _⟩ => ⟨S8x2048x16, .f32⟩
  | .hbm, ⟨110, _⟩ => ⟨S8x2048x16, .f32⟩
  | .hbm, ⟨111, _⟩ => ⟨S8x2048x16, .f32⟩
  | .hbm, ⟨112, _⟩ => ⟨S_, .f32⟩
  | .hbm, ⟨113, _⟩ => ⟨S8x2048, .f32⟩
  | .hbm, ⟨114, _⟩ => ⟨S8x2048x1, .f32⟩
  | .hbm, ⟨115, _⟩ => ⟨S8x2048x16, .f32⟩
  | .hbm, ⟨116, _⟩ => ⟨S8x2048x16, .f32⟩
  | .hbm, ⟨117, _⟩ => ⟨S8x2048x1024, .bf16⟩
  | .hbm, ⟨118, _⟩ => ⟨S8x16x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_5 : Ref sig .tc := ⟨.hbm, 78, rfl⟩
abbrev main_v59 : Ref sig .tc := ⟨.hbm, 79, rfl⟩
abbrev main_v60 : Ref sig .tc := ⟨.hbm, 80, rfl⟩
abbrev main_cst_6 : Ref sig .tc := ⟨.hbm, 81, rfl⟩
abbrev main_v61 : Ref sig .tc := ⟨.hbm, 82, rfl⟩
abbrev main_v62 : Ref sig .tc := ⟨.hbm, 83, rfl⟩
abbrev main_cst_7 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_8 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_9 : Ref sig .tc := ⟨.hbm, 103, rfl⟩
abbrev main_v80 : Ref sig .tc := ⟨.hbm, 104, rfl⟩
abbrev main_cst_10 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_11 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩

abbrev nD : Nat := 1
abbrev τ : Topo := Topo.v7x

variable {F : FTy → Type} [FloatOps F]
-- ==== Inproj.lean ====
abbrev S8x2048x1024 : Shape := ⟨3, ![8, 2048, 1024]⟩
abbrev S8x6144 : Shape := ⟨2, ![8, 6144]⟩
abbrev S1024 : Shape := ⟨1, ![1024]⟩
abbrev S1024x4608 : Shape := ⟨2, ![1024, 4608]⟩
abbrev S2048x32 : Shape := ⟨2, ![2048, 32]⟩
abbrev S256x512 : Shape := ⟨2, ![256, 512]⟩
abbrev S64 : Shape := ⟨1, ![64]⟩
abbrev S2 : Shape := ⟨1, ![2]⟩
abbrev S8x1024 : Shape := ⟨2, ![8, 1024]⟩
abbrev S8x1x1024 : Shape := ⟨3, ![8, 1, 1024]⟩
abbrev S1024x1536 : Shape := ⟨2, ![1024, 1536]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2 : Shape := ⟨2, ![1, 2]⟩
abbrev S32x2 : Shape := ⟨2, ![32, 2]⟩
abbrev S4x64x4x64 : Shape := ⟨4, ![4, 64, 4, 64]⟩
abbrev S_ : Shape := ⟨0, ![]⟩
abbrev S256x256 : Shape := ⟨2, ![256, 256]⟩
abbrev S8x2048x512 : Shape := ⟨3, ![8, 2048, 512]⟩
abbrev S8x2048x256 : Shape := ⟨3, ![8, 2048, 256]⟩
abbrev S1x1024x1024 : Shape := ⟨3, ![1, 1024, 1024]⟩
abbrev S1x1x1024 : Shape := ⟨3, ![1, 1, 1024]⟩
abbrev S1024x128 : Shape := ⟨2, ![1024, 128]⟩
abbrev S1x1024x512 : Shape := ⟨3, ![1, 1024, 512]⟩
abbrev S1x1024x256 : Shape := ⟨3, ![1, 1024, 256]⟩
abbrev S1x128x1024 : Shape := ⟨3, ![1, 128, 1024]⟩
abbrev S128x1024 : Shape := ⟨2, ![128, 1024]⟩
abbrev S128x1 : Shape := ⟨2, ![128, 1]⟩
abbrev S128x1536 : Shape := ⟨2, ![128, 1536]⟩
abbrev S128x256 : Shape := ⟨2, ![128, 256]⟩
abbrev S128x512 : Shape := ⟨2, ![128, 512]⟩
abbrev S1x128x512 : Shape := ⟨3, ![1, 128, 512]⟩
abbrev S128x128 : Shape := ⟨2, ![128, 128]⟩
abbrev S128x64 : Shape := ⟨2, ![128, 64]⟩
abbrev S1x128x256 : Shape := ⟨3, ![1, 128, 256]⟩

abbrev nBuf : Space → Nat
  | .hbm => 58
  | .vmem => 30
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x4608, .f32⟩
  | .hbm, ⟨4, _⟩ => ⟨S2048x32, .f32⟩
  | .hbm, ⟨5, _⟩ => ⟨S2048x32, .f32⟩
  | .hbm, ⟨6, _⟩ => ⟨S256x512, .f32⟩
  | .hbm, ⟨7, _⟩ => ⟨S64, .f32⟩
  | .hbm, ⟨8, _⟩ => ⟨S64, .f32⟩
  | .hbm, ⟨9, _⟩ => ⟨S2, .f32⟩
  | .hbm, ⟨10, _⟩ => ⟨S8x1024, .f32⟩
  | .hbm, ⟨11, _⟩ => ⟨S8x1x1024, .f32⟩
  | .hbm, ⟨12, _⟩ => ⟨S8x1024, .f32⟩
  | .hbm, ⟨13, _⟩ => ⟨S8x1x1024, .f32⟩
  | .hbm, ⟨14, _⟩ => ⟨S1024x1536, .f32⟩
  | .hbm, ⟨15, _⟩ => ⟨S1024x1536, .bf16⟩
  | .hbm, ⟨16, _⟩ => ⟨S1x1024, .f32⟩
  | .hbm, ⟨17, _⟩ => ⟨S1x64, .f32⟩
  | .hbm, ⟨18, _⟩ => ⟨S8x64, .f32⟩
  | .hbm, ⟨19, _⟩ => ⟨S512, .f32⟩
  | .hbm, ⟨20, _⟩ => ⟨S1x512, .f32⟩
  | .hbm, ⟨21, _⟩ => ⟨S1x64, .f32⟩
  | .hbm, ⟨22, _⟩ => ⟨S2x64, .f32⟩
  | .hbm, ⟨23, _⟩ => ⟨S128, .f32⟩
  | .hbm, ⟨24, _⟩ => ⟨S1x128, .f32⟩
  | .hbm, ⟨25, _⟩ => ⟨S2048x32x2, .f32⟩
  | .hbm, ⟨26, _⟩ => ⟨S2048x64, .f32⟩
  | .hbm, ⟨27, _⟩ => ⟨S1x2048x1x64, .f32⟩
  | .hbm, ⟨28, _⟩ => ⟨S1x2048x2x64, .f32⟩
  | .hbm, ⟨29, _⟩ => ⟨S2048x128, .f32⟩
  | .hbm, ⟨30, _⟩ => ⟨S2048x32x2, .f32⟩
  | .hbm, ⟨31, _⟩ => ⟨S2048x64, .f32⟩
  | .hbm, ⟨32, _⟩ => ⟨S1x2, .f32⟩
  | .hbm, ⟨33, _⟩ => ⟨S32x2, .f32⟩
  | .hbm, ⟨34, _⟩ => ⟨S64, .f32⟩
  | .hbm, ⟨35, _⟩ => ⟨S1x64, .f32⟩
  | .hbm, ⟨36, _⟩ => ⟨S2048x64, .f32⟩
  | .hbm, ⟨37, _⟩ => ⟨S2048x64, .f32⟩
  | .hbm, ⟨38, _⟩ => ⟨S1x2048x1x64, .f32⟩
  | .hbm, ⟨39, _⟩ => ⟨S1x2048x2x64, .f32⟩
  | .hbm, ⟨40, _⟩ => ⟨S2048x128, .f32⟩
  | .hbm, ⟨41, _⟩ => ⟨S4x64x4x64, .i32⟩
  | .hbm, ⟨42, _⟩ => ⟨S4x64x4x64, .i32⟩
  | .hbm, ⟨43, _⟩ => ⟨S4x64x4x64, .i1⟩
  | .hbm, ⟨44, _⟩ => ⟨S_, .f32⟩
  | .hbm, ⟨45, _⟩ => ⟨S4x64x4x64, .f32⟩
  | .hbm, ⟨46, _⟩ => ⟨S_, .f32⟩
  | .hbm, ⟨47, _⟩ => ⟨S4x64x4x64, .f32⟩
  | .hbm, ⟨48, _⟩ => ⟨S4x64x4x64, .f32⟩
  | .hbm, ⟨49, _⟩ => ⟨S256x256, .f32⟩
  | .hbm, ⟨50, _⟩ => ⟨S256x256, .bf16⟩
  | .hbm, ⟨51, _⟩ => ⟨S8x2048x512, .bf16⟩
  | .hbm, ⟨52, _⟩ => ⟨S8x2048x1024, .bf16⟩
  | .hbm, ⟨53, _⟩ => ⟨S8x2048x256, .bf16⟩
  | .hbm, ⟨54, _⟩ => ⟨S8x2048x256, .bf16⟩
  | .hbm, ⟨55, _⟩ => ⟨S8x2048x512, .bf16⟩
  | .hbm, ⟨56, _⟩ => ⟨S8x2048x256, .bf16⟩
  | .hbm, ⟨57, _⟩ => ⟨S8x2048x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S256x256, .bf16⟩
  | .local _ .vmem, ⟨13, _⟩ => ⟨S256x512, .f32⟩
  | .local _ .vmem, ⟨14, _⟩ => ⟨S1x512, .f32⟩
  | .local _ .vmem, ⟨15, _⟩ => ⟨S1x128, .f32⟩
  | .local _ .vmem, ⟨16, _⟩ => ⟨S1x1024x512, .bf16⟩
  | .local _ .vmem, ⟨17, _⟩ => ⟨S1x1024x512, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x256, .bf16⟩
  | .local _ .vmem, ⟨21, _⟩ => ⟨S1x1024x256, .bf16⟩
  | .local _ .vmem, ⟨22, _⟩ => ⟨S1x1024x256, .bf16⟩
  | .local _ .vmem, ⟨23, _⟩ => ⟨S1x1024x256, .bf16⟩
  | .local _ .vmem, ⟨24, _⟩ => ⟨S1x1024x512, .bf16⟩
  | .local _ .vmem, ⟨25, _⟩ => ⟨S1x1024x512, .bf16⟩
  | .local _ .vmem, ⟨26, _⟩ => ⟨S1x1024x256, .bf16⟩
  | .local _ .vmem, ⟨27, _⟩ => ⟨S1x1024x256, .bf16⟩
  | .local _ .vmem, ⟨28, _⟩ => ⟨S1x1024x256, .bf16⟩
  | .local _ .vmem, ⟨29, _⟩ => ⟨S1x1024x256, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_0 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39_0 : Ref sig .tc := ⟨.hbm, 51, rfl⟩
abbrev main_v39_1 : Ref sig .tc := ⟨.hbm, 52, rfl⟩
abbrev main_v39_2 : Ref sig .tc := ⟨.hbm, 53, rfl⟩
abbrev main_v39_3 : Ref sig .tc := ⟨.hbm, 54, rfl⟩
abbrev main_v39_4 : Ref sig .tc := ⟨.hbm, 55, rfl⟩
abbrev main_v39_5 : Ref sig .tc := ⟨.hbm, 56, rfl⟩
abbrev main_v39_6 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== InprojRefIdeal.lean ====
abbrev S8x2048x1024 : Shape := ⟨3, ![8, 2048, 1024]⟩
abbrev S8x6144 : Shape := ⟨2, ![8, 6144]⟩
abbrev S1024 : Shape := ⟨1, ![1024]⟩
abbrev S1024x4608 : Shape := ⟨2, ![1024, 4608]⟩
abbrev S2048x32 : Shape := ⟨2, ![2048, 32]⟩
abbrev S256x512 : Shape := ⟨2, ![256, 512]⟩
abbrev S64 : Shape := ⟨1, ![64]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x4608 : Shape := ⟨3, ![8, 2048, 4608]⟩
abbrev S8x2048x256 : Shape := ⟨3, ![8, 2048, 256]⟩
abbrev S8x2048x512 : Shape := ⟨3, ![8, 2048, 512]⟩
abbrev S8x2048x128 : Shape := ⟨3, ![8, 2048, 128]⟩
abbrev S8x2048x3072 : Shape := ⟨3, ![8, 2048, 3072]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x8x32x2 : Shape := ⟨5, ![8, 2048, 8, 32, 2]⟩
abbrev S8x2048x8x32x1 : Shape := ⟨5, ![8, 2048, 8, 32, 1]⟩
abbrev S8x2048x8x32 : Shape := ⟨4, ![8, 2048, 8, 32]⟩
abbrev S1x2048x1x32 : Shape := ⟨4, ![1, 2048, 1, 32]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S8x2048x2x32x2 : Shape := ⟨5, ![8, 2048, 2, 32, 2]⟩
abbrev S8x2048x2x32x1 : Shape := ⟨5, ![8, 2048, 2, 32, 1]⟩
abbrev S8x2048x2x32 : Shape := ⟨4, ![8, 2048, 2, 32]⟩
abbrev S8x2048x4x64 : Shape := ⟨4, ![8, 2048, 4, 64]⟩
abbrev S8x2048x4x32x2 : Shape := ⟨5, ![8, 2048, 4, 32, 2]⟩
abbrev S8x2048x4x32x1 : Shape := ⟨5, ![8, 2048, 4, 32, 1]⟩
abbrev S8x2048x4x32 : Shape := ⟨4, ![8, 2048, 4, 32]⟩
abbrev S8x2048x8x128 : Shape := ⟨4, ![8, 2048, 8, 128]⟩
abbrev S8x2048x2x128 : Shape := ⟨4, ![8, 2048, 2, 128]⟩
abbrev S8x2048x4x128 : Shape := ⟨4, ![8, 2048, 4, 128]⟩

abbrev nBuf : Space → Nat
  | .hbm => 209
  | .vmem => 0
  | .smem => 0
  | _ => 0

abbrev hbmTy0_0 (i : Nat) : BufTy := match i % 128 with
  | 0 => ⟨S8x2048x1024, .f32⟩
  | 1 => ⟨S8x6144, .f32⟩
  | 2 => ⟨S1024, .f32⟩
  | 3 => ⟨S1024x4608, .f32⟩
  | 4 => ⟨S2048x32, .f32⟩
  | 5 => ⟨S2048x32, .f32⟩
  | 6 => ⟨S256x512, .f32⟩
  | 7 => ⟨S64, .f32⟩
  | 8 => ⟨S64, .f32⟩
  | 9 => ⟨S8x1024, .f32⟩
  | 10 => ⟨S8x1024, .f32⟩
  | 11 => ⟨S8x1024, .f32⟩
  | 12 => ⟨S8x1024, .f32⟩
  | 13 => ⟨S8x1024, .f32⟩
  | 14 => ⟨S8x1024, .f32⟩
  | 15 => ⟨S8x2048x1024, .f32⟩
  | 16 => ⟨S_, .f32⟩
  | 17 => ⟨S8x2048, .f32⟩
  | 18 => ⟨S8x2048x1, .f32⟩
  | 19 => ⟨S_, .f32⟩
  | 20 => ⟨S8x2048x1, .f32⟩
  | 21 => ⟨S8x2048x1, .f32⟩
  | 22 => ⟨S_, .f32⟩
  | 23 => ⟨S8x2048x1, .f32⟩
  | 24 => ⟨S8x2048x1, .f32⟩
  | 25 => ⟨S8x2048x1, .f32⟩
  | 26 => ⟨S8x2048x1024, .f32⟩
  | 27 => ⟨S8x2048x1024, .f32⟩
  | 28 => ⟨S1x1x1024, .f32⟩
  | 29 => ⟨S8x2048x1024, .f32⟩
  | 30 => ⟨S8x2048x1024, .f32⟩
  | 31 => ⟨S8x1x1024, .f32⟩
  | 32 => ⟨S_, .f32⟩
  | 33 => ⟨S8x1x1024, .f32⟩
  | 34 => ⟨S8x1x1024, .f32⟩
  | 35 => ⟨S8x2048x1024, .f32⟩
  | 36 => ⟨S8x2048x1024, .f32⟩
  | 37 => ⟨S8x1x1024, .f32⟩
  | 38 => ⟨S8x2048x1024, .f32⟩
  | 39 => ⟨S8x2048x1024, .f32⟩
  | 40 => ⟨S8x2048x4608, .f32⟩
  | 41 => ⟨S8x2048x256, .f32⟩
  | 42 => ⟨S8x2048x512, .f32⟩
  | 43 => ⟨S8x2048x128, .f32⟩
  | 44 => ⟨S8x2048x128, .f32⟩
  | 45 => ⟨S8x2048x256, .f32⟩
  | 46 => ⟨S8x2048x128, .f32⟩
  | 47 => ⟨S8x2048x128, .f32⟩
  | 48 => ⟨S8x2048x3072, .f32⟩
  | 49 => ⟨S8x2048x8x64, .f32⟩
  | 50 => ⟨S8x2048x8x64, .f32⟩
  | 51 => ⟨S_, .f32⟩
  | 52 => ⟨S8x2048x8, .f32⟩
  | 53 => ⟨S8x2048x8x1, .f32⟩
  | 54 => ⟨S_, .f32⟩
  | 55 => ⟨S8x2048x8x1, .f32⟩
  | 56 => ⟨S8x2048x8x1, .f32⟩
  | 57 => ⟨S_, .f32⟩
  | 58 => ⟨S8x2048x8x1, .f32⟩
  | 59 => ⟨S8x2048x8x1, .f32⟩
  | 60 => ⟨S8x2048x8x1, .f32⟩
  | 61 => ⟨S8x2048x8x64, .f32⟩
  | 62 => ⟨S8x2048x8x64, .f32⟩
  | 63 => ⟨S1x1x1x64, .f32⟩
  | 64 => ⟨S8x2048x8x64, .f32⟩
  | 65 => ⟨S8x2048x8x64, .f32⟩
  | 66 => ⟨S8x2048x8x32x2, .f32⟩
  | 67 => ⟨S8x2048x8x32x1, .f32⟩
  | 68 => ⟨S8x2048x8x32, .f32⟩
  | 69 => ⟨S8x2048x8x32x1, .f32⟩
  | 70 => ⟨S8x2048x8x32, .f32⟩
  | 71 => ⟨S1x2048x1x32, .f32⟩
  | 72 => ⟨S1x2048x1x32, .f32⟩
  | 73 => ⟨S8x2048x8x32, .f32⟩
  | 74 => ⟨S8x2048x8x32, .f32⟩
  | 75 => ⟨S8x2048x8x32, .f32⟩
  | 76 => ⟨S8x2048x8x32, .f32⟩
  | 77 => ⟨S8x2048x8x32, .f32⟩
  | 78 => ⟨S8x2048x8x32, .f32⟩
  | 79 => ⟨S8x2048x8x32, .f32⟩
  | 80 => ⟨S8x2048x8x32, .f32⟩
  | 81 => ⟨S8x2048x8x32, .f32⟩
  | 82 => ⟨S8x2048x8x32, .f32⟩
  | 83 => ⟨S8x2048x8x32x1, .f32⟩
  | 84 => ⟨S8x2048x8x32x1, .f32⟩
  | 85 => ⟨S8x2048x8x32x2, .f32⟩
  | 86 => ⟨S8x2048x8x64, .f32⟩
  | 87 => ⟨S8x2048x2x64, .f32⟩
  | 88 => ⟨S8x2048x2x64, .f32⟩
  | 89 => ⟨S_, .f32⟩
  | 90 => ⟨S8x2048x2, .f32⟩
  | 91 => ⟨S8x2048x2x1, .f32⟩
  | 92 => ⟨S_, .f32⟩
  | 93 => ⟨S8x2048x2x1, .f32⟩
  | 94 => ⟨S8x2048x2x1, .f32⟩
  | 95 => ⟨S_, .f32⟩
  | 96 => ⟨S8x2048x2x1, .f32⟩
  | 97 => ⟨S8x2048x2x1, .f32⟩
  | 98 => ⟨S8x2048x2x1, .f32⟩
  | 99 => ⟨S8x2048x2x64, .f32⟩
  | 100 => ⟨S8x2048x2x64, .f32⟩
  | 101 => ⟨S1x1x1x64, .f32⟩
  | 102 => ⟨S8x2048x2x64, .f32⟩
  | 103 => ⟨S8x2048x2x64, .f32⟩
  | 104 => ⟨S8x2048x2x32x2, .f32⟩
  | 105 => ⟨S8x2048x2x32x1, .f32⟩
  | 106 => ⟨S8x2048x2x32, .f32⟩
  | 107 => ⟨S8x2048x2x32x1, .f32⟩
  | 108 => ⟨S8x2048x2x32, .f32⟩
  | 109 => ⟨S1x2048x1x32, .f32⟩
  | 110 => ⟨S1x2048x1x32, .f32⟩
  | 111 => ⟨S8x2048x2x32, .f32⟩
  | 112 => ⟨S8x2048x2x32, .f32⟩
  | 113 => ⟨S8x2048x2x32, .f32⟩
  | 114 => ⟨S8x2048x2x32, .f32⟩
  | 115 => ⟨S8x2048x2x32, .f32⟩
  | 116 => ⟨S8x2048x2x32, .f32⟩
  | 117 => ⟨S8x2048x2x32, .f32⟩
  | 118 => ⟨S8x2048x2x32, .f32⟩
  | 119 => ⟨S8x2048x2x32, .f32⟩
  | 120 => ⟨S8x2048x2x32, .f32⟩
  | 121 => ⟨S8x2048x2x32x1, .f32⟩
  | 122 => ⟨S8x2048x2x32x1, .f32⟩
  | 123 => ⟨S8x2048x2x32x2, .f32⟩
  | 124 => ⟨S8x2048x2x64, .f32⟩
  | 125 => ⟨S8x2048x4x64, .f32⟩
  | 126 => ⟨S8x2048x4x32x2, .f32⟩
  | 127 => ⟨S8x2048x4x32x1, .f32⟩
  | _ => ⟨S8x2048x1024, .f32⟩

abbrev hbmTy0_1 (i : Nat) : BufTy := match i % 128 with
  | 0 => ⟨S8x2048x4x32, .f32⟩
  | 1 => ⟨S8x2048x4x32x1, .f32⟩
  | 2 => ⟨S8x2048x4x32, .f32⟩
  | 3 => ⟨S1x2048x1x32, .f32⟩
  | 4 => ⟨S1x2048x1x32, .f32⟩
  | 5 => ⟨S8x2048x4x32, .f32⟩
  | 6 => ⟨S8x2048x4x32, .f32⟩
  | 7 => ⟨S8x2048x4x32, .f32⟩
  | 8 => ⟨S8x2048x4x32, .f32⟩
  | 9 => ⟨S8x2048x4x32, .f32⟩
  | 10 => ⟨S8x2048x4x32, .f32⟩
  | 11 => ⟨S8x2048x4x32, .f32⟩
  | 12 => ⟨S8x2048x4x32, .f32⟩
  | 13 => ⟨S8x2048x4x32, .f32⟩
  | 14 => ⟨S8x2048x4x32, .f32⟩
  | 15 => ⟨S8x2048x4x32x1, .f32⟩
  | 16 => ⟨S8x2048x4x32x1, .f32⟩
  | 17 => ⟨S8x2048x4x32x2, .f32⟩
  | 18 => ⟨S8x2048x4x64, .f32⟩
  | 19 => ⟨S8x2048x2x64, .f32⟩
  | 20 => ⟨S8x2048x2x32x2, .f32⟩
  | 21 => ⟨S8x2048x2x32x1, .f32⟩
  | 22 => ⟨S8x2048x2x32, .f32⟩
  | 23 => ⟨S8x2048x2x32x1, .f32⟩
  | 24 => ⟨S8x2048x2x32, .f32⟩
  | 25 => ⟨S1x2048x1x32, .f32⟩
  | 26 => ⟨S1x2048x1x32, .f32⟩
  | 27 => ⟨S8x2048x2x32, .f32⟩
  | 28 => ⟨S8x2048x2x32, .f32⟩
  | 29 => ⟨S8x2048x2x32, .f32⟩
  | 30 => ⟨S8x2048x2x32, .f32⟩
  | 31 => ⟨S8x2048x2x32, .f32⟩
  | 32 => ⟨S8x2048x2x32, .f32⟩
  | 33 => ⟨S8x2048x2x32, .f32⟩
  | 34 => ⟨S8x2048x2x32, .f32⟩
  | 35 => ⟨S8x2048x2x32, .f32⟩
  | 36 => ⟨S8x2048x2x32, .f32⟩
  | 37 => ⟨S8x2048x2x32x1, .f32⟩
  | 38 => ⟨S8x2048x2x32x1, .f32⟩
  | 39 => ⟨S8x2048x2x32x2, .f32⟩
  | 40 => ⟨S8x2048x2x64, .f32⟩
  | 41 => ⟨S8x2048x512, .f32⟩
  | 42 => ⟨S8x2048x512, .bf16⟩
  | 43 => ⟨S_, .f32⟩
  | 44 => ⟨S8x2048x8x64, .f32⟩
  | 45 => ⟨S8x2048x8x64, .f32⟩
  | 46 => ⟨S_, .f32⟩
  | 47 => ⟨S8x2048x8x64, .f32⟩
  | 48 => ⟨S8x2048x8x128, .f32⟩
  | 49 => ⟨S8x2048x1024, .f32⟩
  | 50 => ⟨S8x2048x1024, .bf16⟩
  | 51 => ⟨S_, .f32⟩
  | 52 => ⟨S8x2048x2x64, .f32⟩
  | 53 => ⟨S8x2048x2x128, .f32⟩
  | 54 => ⟨S8x2048x256, .f32⟩
  | 55 => ⟨S8x2048x256, .bf16⟩
  | 56 => ⟨S8x2048x2x64, .f32⟩
  | 57 => ⟨S_, .f32⟩
  | 58 => ⟨S8x2048x2x64, .f32⟩
  | 59 => ⟨S8x2048x2x128, .f32⟩
  | 60 => ⟨S8x2048x256, .f32⟩
  | 61 => ⟨S8x2048x256, .bf16⟩
  | 62 => ⟨S_, .f32⟩
  | 63 => ⟨S8x2048x4x64, .f32⟩
  | 64 => ⟨S8x2048x4x64, .f32⟩
  | 65 => ⟨S_, .f32⟩
  | 66 => ⟨S8x2048x4x64, .f32⟩
  | 67 => ⟨S8x2048x4x128, .f32⟩
  | 68 => ⟨S8x2048x512, .f32⟩
  | 69 => ⟨S8x2048x512, .bf16⟩
  | 70 => ⟨S_, .f32⟩
  | 71 => ⟨S8x2048x2x64, .f32⟩
  | 72 => ⟨S8x2048x2x128, .f32⟩
  | 73 => ⟨S8x2048x256, .f32⟩
  | 74 => ⟨S8x2048x256, .bf16⟩
  | 75 => ⟨S8x2048x2x64, .f32⟩
  | 76 => ⟨S_, .f32⟩
  | 77 => ⟨S8x2048x2x64, .f32⟩
  | 78 => ⟨S8x2048x2x128, .f32⟩
  | 79 => ⟨S8x2048x256, .f32⟩
  | 80 => ⟨S8x2048x256, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_cst_7 : Ref sig .tc := ⟨.hbm, 92, rfl⟩
abbrev main_v75 : Ref sig .tc := ⟨.hbm, 93, rfl⟩
abbrev main_v76 : Ref sig .tc := ⟨.hbm, 94, rfl⟩
abbrev main_cst_8 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_cst_9 : Ref sig .tc := ⟨.hbm, 171, rfl⟩
abbrev main_v152 : Ref sig .tc := ⟨.hbm, 172, rfl⟩
abbrev main_v153 : Ref sig .tc := ⟨.hbm, 173, rfl⟩
abbrev main_cst_10 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_cst_11 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_cst_12 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_cst_13 : Ref sig .tc := ⟨.hbm, 190, rfl⟩
abbrev main_v167 : Ref sig .tc := ⟨.hbm, 191, rfl⟩
abbrev main_v168 : Ref sig .tc := ⟨.hbm, 192, rfl⟩
abbrev main_cst_14 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_cst_15 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_cst_16 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩

abbrev nD : Nat := 1
abbrev τ : Topo := Topo.v7x

variable {F : FTy → Type} [FloatOps F]
-- ==== Proof.Attn.Rows.lean ====
module

public import proofs.«01_k».proof.Proof.Gen.KernelIdeal.Value
public import Idealize.ShloMosaic.Lib.Pointwise

/-!
# The rows the attention body stacks and the lanes it slices

The four query heads of a key/value head lie one under the other: row `g*256 + r` of the
stack is row `r` of head `g`. The key and value slices take 128 lanes each.
-/

@[expose] public section

noncomputable section

namespace Cert.KernelIdeal.Attn

open Idealize.ShloMosaic Cert.KernelIdeal.Gen

/-- Four blocks of 256 rows one under the other, read at row `r` of block `g`. -/
theorem stack_apply {α : Type} (x0 x1 x2 x3 : S256x128.Idx → α)
    (h : Shape.Concatenates ([⟨S256x128, x0⟩, ⟨S256x128, x1⟩, ⟨S256x128, x2⟩, ⟨S256x128, x3⟩].map
      (fun p : (s : Shape) × (s.Idx → α) => p.1)) S1024x128 0) (g : Fin 4) (r : Fin 256) (l : Fin 128) :
    concatenate S1024x128 0 [⟨S256x128, x0⟩, ⟨S256x128, x1⟩, ⟨S256x128, x2⟩, ⟨S256x128, x3⟩] h
      (ix2 ⟨g.1 * 256 + r.1, by omega⟩ l) = (![x0, x1, x2, x3] g) (ix2 r l) := by
  fin_cases g
  · exact concatenate_apply_piece 0 _ h _ 0 (by simp) S256x128 x0 rfl rfl 0 (by rfl) (ix2 r l)
      (by intro b hb; fin_cases b; · exact absurd rfl hb
          rfl) (by rfl)
  · exact concatenate_apply_piece 0 _ h _ 1 (by simp) S256x128 x1 rfl rfl 256 (by rfl) (ix2 r l)
      (by intro b hb; fin_cases b; · exact absurd rfl hb
          rfl) (by rfl)
  · exact concatenate_apply_piece 0 _ h _ 2 (by simp) S256x128 x2 rfl rfl 512 (by rfl) (ix2 r l)
      (by intro b hb; fin_cases b; · exact absurd rfl hb
          rfl) (by rfl)
  · exact concatenate_apply_piece 0 _ h _ 3 (by simp) S256x128 x3 rfl rfl 768 (by rfl) (ix2 r l)
      (by intro b hb; fin_cases b; · exact absurd rfl hb
          rfl) (by rfl)

/-- Eight blocks of 64 lanes side by side, read at lane `d` of block `e`. -/
theorem join_apply {α : Type} (x0 x1 x2 x3 x4 x5 x6 x7 : S256x64.Idx → α)
    (h : Shape.Concatenates ([⟨S256x64, x0⟩, ⟨S256x64, x1⟩, ⟨S256x64, x2⟩, ⟨S256x64, x3⟩, ⟨S256x64, x4⟩,
      ⟨S256x64, x5⟩, ⟨S256x64, x6⟩, ⟨S256x64, x7⟩].map
      (fun p : (s : Shape) × (s.Idx → α) => p.1)) S256x512 1) (e : Fin 8) (r : Fin 256) (d : Fin 64) :
    concatenate S256x512 1 [⟨S256x64, x0⟩, ⟨S256x64, x1⟩, ⟨S256x64, x2⟩, ⟨S256x64, x3⟩, ⟨S256x64, x4⟩,
      ⟨S256x64, x5⟩, ⟨S256x64, x6⟩, ⟨S256x64, x7⟩] h
      (ix2 r ⟨e.1 * 64 + d.1, by omega⟩) = (![x0, x1, x2, x3, x4, x5, x6, x7] e) (ix2 r d) := by
  fin_cases e
  · exact concatenate_apply_piece 1 _ h _ 0 (by simp) S256x64 x0 rfl rfl 0 (by rfl) (ix2 r d)
      (by intro b hb; fin_cases b; · rfl
          exact absurd rfl hb) (by rfl)
  · exact concatenate_apply_piece 1 _ h _ 1 (by simp) S256x64 x1 rfl rfl 64 (by rfl) (ix2 r d)
      (by intro b hb; fin_cases b; · rfl
          exact absurd rfl hb) (by rfl)
  · exact concatenate_apply_piece 1 _ h _ 2 (by simp) S256x64 x2 rfl rfl 128 (by rfl) (ix2 r d)
      (by intro b hb; fin_cases b; · rfl
          exact absurd rfl hb) (by rfl)
  · exact concatenate_apply_piece 1 _ h _ 3 (by simp) S256x64 x3 rfl rfl 192 (by rfl) (ix2 r d)
      (by intro b hb; fin_cases b; · rfl
          exact absurd rfl hb) (by rfl)
  · exact concatenate_apply_piece 1 _ h _ 4 (by simp) S256x64 x4 rfl rfl 256 (by rfl) (ix2 r d)
      (by intro b hb; fin_cases b; · rfl
          exact absurd rfl hb) (by rfl)
  · exact concatenate_apply_piece 1 _ h _ 5 (by simp) S256x64 x5 rfl rfl 320 (by rfl) (ix2 r d)
      (by intro b hb; fin_cases b; · rfl
          exact absurd rfl hb) (by rfl)
  · exact concatenate_apply_piece 1 _ h _ 6 (by simp) S256x64 x6 rfl rfl 384 (by rfl) (ix2 r d)
      (by intro b hb; fin_cases b; · rfl
          exact absurd rfl hb) (by rfl)
  · exact concatenate_apply_piece 1 _ h _ 7 (by simp) S256x64 x7 rfl rfl 448 (by rfl) (ix2 r d)
      (by intro b hb; fin_cases b; · rfl
          exact absurd rfl hb) (by rfl)

/-- The lower four heads, stacked. -/
theorem stack3 (x : Vec Ideal S1x256x1024 .bf16) (g : Fin 4) (r : Fin 256) (l : Fin 128) :
    k0_pay3 x (ix2 ⟨g.1 * 256 + r.1, by omega⟩ l) = x (ix3 0 r ⟨g.1 * 128 + l.1, by omega⟩) := by
  unfold k0_pay3 k0_pay2
  refine (stack_apply _ _ _ _ _ g r l).trans ?_
  fin_cases g
  · refine (show _ = x (ix3 0 r ⟨0 + l.1, by omega⟩) by simp only [Fin.zero_eta, Fin.mk_one, Fin.reduceFinMk, Matrix.cons_val]; pointwise).trans (congrArg x ?_)
    congr 1
  · refine (show _ = x (ix3 0 r ⟨128 + l.1, by omega⟩) by simp only [Fin.zero_eta, Fin.mk_one, Fin.reduceFinMk, Matrix.cons_val]; pointwise).trans (congrArg x ?_)
    congr 1
  · refine (show _ = x (ix3 0 r ⟨256 + l.1, by omega⟩) by simp only [Fin.zero_eta, Fin.mk_one, Fin.reduceFinMk, Matrix.cons_val]; pointwise).trans (congrArg x ?_)
    congr 1
  · refine (show _ = x (ix3 0 r ⟨384 + l.1, by omega⟩) by simp only [Fin.zero_eta, Fin.mk_one, Fin.reduceFinMk, Matrix.cons_val]; pointwise).trans (congrArg x ?_)
    congr 1

/-- The upper four heads, stacked. -/
theorem stack8 (x : Vec Ideal S1x256x1024 .bf16) (g : Fin 4) (r : Fin 256) (l : Fin 128) :
    k0_pay8 x (ix2 ⟨g.1 * 256 + r.1, by omega⟩ l) = x (ix3 0 r ⟨512 + g.1 * 128 + l.1, by omega⟩) := by
  unfold k0_pay8 k0_pay2
  refine (stack_apply _ _ _ _ _ g r l).trans ?_
  fin_cases g
  · refine (show _ = x (ix3 0 r ⟨512 + l.1, by omega⟩) by simp only [Fin.zero_eta, Fin.mk_one, Fin.reduceFinMk, Matrix.cons_val]; pointwise).trans (congrArg x ?_)
    congr 1
  · refine (show _ = x (ix3 0 r ⟨640 + l.1, by omega⟩) by simp only [Fin.zero_eta, Fin.mk_one, Fin.reduceFinMk, Matrix.cons_val]; pointwise).trans (congrArg x ?_)
    congr 1
  · refine (show _ = x (ix3 0 r ⟨768 + l.1, by omega⟩) by simp only [Fin.zero_eta, Fin.mk_one, Fin.reduceFinMk, Matrix.cons_val]; pointwise).trans (congrArg x ?_)
    congr 1
  · refine (show _ = x (ix3 0 r ⟨896 + l.1, by omega⟩) by simp only [Fin.zero_eta, Fin.mk_one, Fin.reduceFinMk, Matrix.cons_val]; pointwise).trans (congrArg x ?_)
    congr 1

theorem cut5 (x : Vec Ideal S1x256x256 .bf16) (k : Fin 256) (l : Fin 128) :
    k0_pay5 x (ix2 k l) = x (ix3 0 k ⟨l.1, by omega⟩) := by
  unfold k0_pay5
  pointwise

theorem cut10 (x : Vec Ideal S1x256x256 .bf16) (k : Fin 256) (l : Fin 128) :
    k0_pay10 x (ix2 k l) = x (ix3 0 k ⟨128 + l.1, by omega⟩) := by
  unfold k0_pay10
  pointwise

theorem cut7 (x : Vec Ideal S1x2048x256 .bf16) (k : Fin 2048) (l : Fin 128) :
    k0_pay7 x (ix2 k l) = x (ix3 0 k ⟨l.1, by omega⟩) := by
  unfold k0_pay7
  pointwise

theorem cut12 (x : Vec Ideal S1x2048x256 .bf16) (k : Fin 2048) (l : Fin 128) :
    k0_pay12 x (ix2 k l) = x (ix3 0 k ⟨128 + l.1, by omega⟩) := by
  unfold k0_pay12
  pointwise

theorem score4 (x : Vec Ideal S1x256x1024 .bf16) (y : Vec Ideal S1x256x256 .bf16) (r : Fin 1024) (k : Fin 256) :
    k0_pay4 x y (ix2 r k) = ∑ l : Fin 128, k0_pay3 x (ix2 r l) * y (ix3 0 k ⟨l.1, by omega⟩) := by
  unfold k0_pay4
  pointwise

theorem score6 (x : Vec Ideal S1x256x1024 .bf16) (y : Vec Ideal S1x2048x256 .bf16) (r : Fin 1024) (k : Fin 2048) :
    k0_pay6 x y (ix2 r k) = ∑ l : Fin 128, k0_pay3 x (ix2 r l) * y (ix3 0 k ⟨l.1, by omega⟩) := by
  unfold k0_pay6
  pointwise

theorem score9 (x : Vec Ideal S1x256x1024 .bf16) (y : Vec Ideal S1x256x256 .bf16) (r : Fin 1024) (k : Fin 256) :
    k0_pay9 x y (ix2 r k) = ∑ l : Fin 128, k0_pay8 x (ix2 r l) * y (ix3 0 k ⟨128 + l.1, by omega⟩) := by
  unfold k0_pay9
  pointwise

theorem score11 (q : FVec Ideal S1024x128 .bf16) (y : Vec Ideal S1x2048x256 .bf16) (r : Fin 1024) (k : Fin 2048) :
    k0_pay11 q y (ix2 r k) = ∑ l : Fin 128, q (ix2 r l) * y (ix3 0 k ⟨128 + l.1, by omega⟩) := by
  unfold k0_pay11
  pointwise

end Cert.KernelIdeal.Attn
-- ==== Proof.Common.Softmax.lean ====
module

public import Idealize.ShloMosaic.Lib.IdealHost

/-!
# Sums, maxima and softmax over the extended reals

The facts the attention calls share, stated for plain functions on finite types:
a scale moved across a sum, lanes padded by zero, an axis cut in two, and a weighted
sum divided once at its end instead of weight by weight.
-/

@[expose] public section

namespace Cert.Common

open Idealize.ShloMosaic
open scoped BigOperators

/-- A number that is neither infinity. -/
def Fin' (x : EReal) : Prop := x ≠ ⊥ ∧ x ≠ ⊤

theorem Fin'.coe (r : ℝ) : Fin' (r : EReal) := ⟨EReal.coe_ne_bot r, EReal.coe_ne_top r⟩

theorem Fin'.lift {x : EReal} (h : Fin' x) : ∃ r : ℝ, x = (r : EReal) :=
  ⟨x.toReal, (EReal.coe_toReal h.2 h.1).symm⟩

theorem Fin'.mul {x y : EReal} (hx : Fin' x) (hy : Fin' y) : Fin' (x * y) := by
  obtain ⟨a, rfl⟩ := hx.lift
  obtain ⟨b, rfl⟩ := hy.lift
  rw [← EReal.coe_mul]
  exact Fin'.coe _

theorem Fin'.add {x y : EReal} (hx : Fin' x) (hy : Fin' y) : Fin' (x + y) := by
  obtain ⟨a, rfl⟩ := hx.lift
  obtain ⟨b, rfl⟩ := hy.lift
  rw [← EReal.coe_add]
  exact Fin'.coe _

theorem Fin'.zero : Fin' (0 : EReal) := ⟨EReal.zero_ne_bot, EReal.zero_ne_top⟩

theorem Fin'.sum {ι : Type*} (s : Finset ι) {f : ι → EReal} (h : ∀ k, Fin' (f k)) : Fin' (∑ k ∈ s, f k) := by
  classical
  induction s using Finset.induction_on with
  | empty => exact Fin'.zero
  | insert a s ha ih => rw [Finset.sum_insert ha]; exact (h a).add ih

/-- What the ordered comparison `|x| < ∞` says. -/
theorem Fin'.of_abs {x : EReal} (h : max x (-x) < ⊤) : Fin' x := by
  constructor
  · rintro rfl
    simp at h
  · rintro rfl
    simp at h

/-- A factor that is a nonnegative real moves out of a sum. -/
theorem sum_mul_of_nonneg {ι : Type*} (s : Finset ι) (f : ι → EReal) {c : EReal} (h0 : 0 ≤ c) (ht : c ≠ ⊤) :
    (∑ k ∈ s, f k) * c = ∑ k ∈ s, f k * c := by
  classical
  induction s using Finset.induction_on with
  | empty => simp
  | insert a s ha ih =>
      rw [Finset.sum_insert ha, Finset.sum_insert ha, ← ih]
      exact EReal.right_distrib_of_nonneg_of_ne_top h0 ht _ _

/-- Lanes past the head size hold zero: the sum over all lanes is the sum over the head. -/
theorem sum_padded {n m N : ℕ} (hN : N = n + m) (f : Fin N → EReal) (g : Fin n → EReal)
    (hg : ∀ d : Fin n, f ⟨d.1, by omega⟩ = g d) (h0 : ∀ l : Fin N, n ≤ l.1 → f l = 0) :
    ∑ l, f l = ∑ d, g d := by
  subst hN
  rw [Fin.sum_univ_add]
  have h1 : ∑ i : Fin m, f (Fin.natAdd n i) = 0 :=
    Finset.sum_eq_zero fun i _ => h0 _ (by simp)
  rw [h1, add_zero]
  exact Finset.sum_congr rfl fun d _ => hg d

/-- The largest entry of a finite family, and minus infinity when there is none. -/
noncomputable def top {ι : Type*} [Fintype ι] (s : ι → EReal) : EReal := Finset.univ.sup s

/-- The largest entry as a fold of `max` from minus infinity. -/
theorem fold_max_eq_top {ι : Type*} [Fintype ι] (s : ι → EReal) :
    (Finset.univ : Finset ι).fold max ⊥ s = top s := rfl

theorem le_top' {ι : Type*} [Fintype ι] (s : ι → EReal) (k : ι) : s k ≤ top s :=
  Finset.le_sup (f := s) (Finset.mem_univ k)

theorem top_congr {ι : Type*} [Fintype ι] {s t : ι → EReal} (h : ∀ k, s k = t k) : top s = top t :=
  congrArg top (funext h)

/-- An axis cut in two: the sum is the sum of the two parts. -/
theorem sum_split {n m N : ℕ} (hN : N = n + m) (f : Fin N → EReal) (a : Fin n → EReal) (b : Fin m → EReal)
    (ha : ∀ k : Fin n, f ⟨k.1, by omega⟩ = a k) (hb : ∀ k : Fin m, f ⟨n + k.1, by omega⟩ = b k) :
    ∑ k, f k = ∑ k, a k + ∑ k, b k := by
  subst hN
  rw [Fin.sum_univ_add]
  exact congrArg₂ (· + ·) (Finset.sum_congr rfl fun k _ => ha k) (Finset.sum_congr rfl fun k _ => hb k)

/-- An axis cut in two: the largest entry is the larger of the two parts' largest. -/
theorem top_split {n m N : ℕ} (hN : N = n + m) (f : Fin N → EReal) (a : Fin n → EReal) (b : Fin m → EReal)
    (ha : ∀ k : Fin n, f ⟨k.1, by omega⟩ = a k) (hb : ∀ k : Fin m, f ⟨n + k.1, by omega⟩ = b k) :
    top f = max (top a) (top b) := by
  apply le_antisymm
  · refine Finset.sup_le fun k _ => ?_
    by_cases hk : k.1 < n
    · have := ha ⟨k.1, hk⟩
      rw [show f k = a ⟨k.1, hk⟩ from this]
      exact le_max_of_le_left (le_top' a _)
    · have hlt : k.1 - n < m := by omega
      have := hb ⟨k.1 - n, hlt⟩
      have hk' : (⟨n + (k.1 - n), by omega⟩ : Fin N) = k := Fin.ext (by simp; omega)
      simp only [hk'] at this
      rw [this]
      exact le_max_of_le_right (le_top' b _)
  · refine max_le (Finset.sup_le fun k _ => ?_) (Finset.sup_le fun k _ => ?_)
    · rw [← ha k]; exact le_top' f _
    · rw [← hb k]; exact le_top' f _

/-- A nonempty finite family attains its largest entry. -/
theorem top_attained {ι : Type*} [Fintype ι] [Nonempty ι] (s : ι → EReal) : ∃ k, s k = top s := by
  obtain ⟨k, _, hk⟩ := Finset.exists_mem_eq_sup (Finset.univ : Finset ι) Finset.univ_nonempty s
  exact ⟨k, hk.symm⟩

/-- With finite entries the largest is finite. -/
theorem top_fin {ι : Type*} [Fintype ι] [Nonempty ι] {s : ι → EReal} (h : ∀ k, Fin' (s k)) : Fin' (top s) := by
  obtain ⟨k, hk⟩ := top_attained s
  exact hk ▸ h k

/-- The exponential of a number that is not plus infinity, less a finite one, is a nonnegative real. -/
theorem exp_sub_real {x M : EReal} (hx : x ≠ ⊤) (hM : Fin' M) : ∃ r : ℝ, 0 ≤ r ∧ Ideal.exp (x - M) = (r : EReal) := by
  obtain ⟨b, rfl⟩ := hM.lift
  induction x using EReal.rec with
  | bot => exact ⟨0, le_refl _, by rw [EReal.bot_sub]; rfl⟩
  | top => exact absurd rfl hx
  | coe a =>
      refine ⟨Real.exp (a - b), (Real.exp_pos _).le, ?_⟩
      rw [← EReal.coe_sub]
      rfl

/-- At its own value the exponential of the difference is one. -/
theorem exp_sub_self {M : EReal} (hM : Fin' M) : Ideal.exp (M - M) = ((1 : ℝ) : EReal) := by
  obtain ⟨b, rfl⟩ := hM.lift
  rw [← EReal.coe_sub, sub_self]
  show ((Real.exp 0 : ℝ) : EReal) = _
  rw [Real.exp_zero]

theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The sum of the exponentials is a nonnegative real. -/
theorem sum_exp_real {ι : Type*} [Fintype ι] {s : ι → EReal} (h : ∀ k, s k ≠ ⊤) {M : EReal} (hM : Fin' M) :
    ∃ r : ℝ, 0 ≤ r ∧ ∑ k, Ideal.exp (s k - M) = (r : EReal) := by
  choose p hp hs using fun k => exp_sub_real (h k) hM
  refine ⟨∑ k, p k, Finset.sum_nonneg fun k _ => hp k, ?_⟩
  rw [← sum_coe]
  exact Finset.sum_congr rfl fun k _ => hs k

/-- Taken below an entry of its own, the sum of the exponentials is a positive real. -/
theorem sum_exp_pos {ι : Type*} [Fintype ι] {s : ι → EReal} (h : ∀ k, s k ≠ ⊤) {M : EReal} (hM : Fin' M)
    (hk : ∃ k, s k = M) : ∃ r : ℝ, 0 < r ∧ ∑ k, Ideal.exp (s k - M) = (r : EReal) := by
  choose p hp hs using fun k => exp_sub_real (h k) hM
  obtain ⟨k, hk⟩ := hk
  refine ⟨∑ k, p k, ?_, ?_⟩
  · refine Finset.sum_pos' (fun k _ => hp k) ⟨k, Finset.mem_univ _, ?_⟩
    have h1 := hs k
    rw [hk, exp_sub_self hM] at h1
    rw [← EReal.coe_eq_coe_iff.mp h1]
    exact one_pos
  · rw [← sum_coe]
    exact Finset.sum_congr rfl fun k _ => hs k

/-- Dividing the weighted sum once is weighting by the divided weights. The values are free. -/
theorem div_sum {ι : Type*} [Fintype ι] (p v : ι → EReal) {d : ℝ} (hd : 0 < d) :
    Ideal.div (∑ k, p k * v k) (d : EReal) = ∑ k, v k * Ideal.div (p k) (d : EReal) := by
  have hpos : (0 : EReal) ≤ ((1 / d : ℝ) : EReal) := EReal.coe_nonneg.mpr (by positivity)
  rw [Ideal.div_coe hd.ne', sum_mul_of_nonneg _ _ hpos (EReal.coe_ne_top _)]
  refine Finset.sum_congr rfl fun k _ => ?_
  rw [Ideal.div_coe hd.ne', mul_comm (p k) (v k), mul_assoc]

/-- Attention over one row of finite scores: the weights divided at the end or before. -/
theorem softmax_sum {ι : Type*} [Fintype ι] [Nonempty ι] (s v : ι → EReal) (h : ∀ k, Fin' (s k)) :
    Ideal.div (∑ k, Ideal.exp (s k - top s) * v k) (∑ k, Ideal.exp (s k - top s))
      = ∑ k, v k * Ideal.div (Ideal.exp (s k - top s)) (∑ k, Ideal.exp (s k - top s)) := by
  obtain ⟨d, hd, he⟩ := sum_exp_pos (fun k => (h k).2) (top_fin h) (top_attained s)
  rw [he]
  exact div_sum _ _ hd

end Cert.Common
-- ==== Proof.Common.Reads.lean ====
module

public import proofs.«01_k».proof.Proof.Common.Softmax
public import Idealize.ShloMosaic.Lib.Pointwise

/-!
# Row maxima read at an index

The maximum a kernel or a host program takes along the last axis, started from the pattern
of minus infinity, is the largest entry of the row.
-/

@[expose] public section

namespace Cert.Common

open Idealize.ShloMosaic

/-- The pattern the maxima start from. -/
theorem neg_inf : Ideal.ofBits .f32 0xFF800000#32 = ⊥ := by
  simp [Ideal.ofBits, Ideal.ieee]

/-- The largest entry of each row of a matrix. -/
theorem row_max {n m : ℕ} (x : FVec Ideal ⟨2, ![n, m]⟩ .f32) (h : (⟨2, ![n, m]⟩ : Shape).Reduces [1] ⟨1, ![n]⟩)
    (hφ : FKind.Formats .f32) (hacc : 0xFF800000#32 = FKind.maximumf.neutral .f32 hφ) (r : Fin n) :
    multiReduction .maximumf [1] ⟨1, ![n]⟩ x 0xFF800000#32 h hφ hacc (ix1 r) = top fun k => x (ix2 r k) := by
  refine (Ideal.multiReduction_maximumf_single _ _ _ _ _ _).trans ?_
  rw [← fold_max_eq_top]
  refine (congrArg (fun b => Finset.fold max b _ _) neg_inf).trans ?_
  refine congrArg (fun f => Finset.fold max ⊥ f Finset.univ) (funext fun k => congrArg x ?_)
  funext a
  apply Fin.ext
  rw [Shape.Reduces.lift_val]
  fin_cases a <;> rfl

/-- A vector cast to one column. -/
theorem col_apply {α : Type} {n : ℕ} (x : (⟨1, ![n]⟩ : Shape).Idx → α) (h : (⟨1, ![n]⟩ : Shape).ShapeCasts ⟨2, ![n, 1]⟩)
    (r : Fin n) : shapeCast ⟨2, ![n, 1]⟩ x h (ix2 r 0) = x (ix1 r) := by
  refine shapeCast_apply x h _ _ ?_
  rw [Shape.rowMajor_val_one, Shape.rowMajor_val_two]
  show r.1 = r.1 * 1 + 0
  omega

/-- The rows' largest entries, as one column. -/
theorem col_max {n m : ℕ} (x : FVec Ideal ⟨2, ![n, m]⟩ .f32) (h : (⟨2, ![n, m]⟩ : Shape).Reduces [1] ⟨1, ![n]⟩)
    (hφ : FKind.Formats .f32) (hacc : 0xFF800000#32 = FKind.maximumf.neutral .f32 hφ)
    (hc : (⟨1, ![n]⟩ : Shape).ShapeCasts ⟨2, ![n, 1]⟩) (r : Fin n) :
    shapeCast ⟨2, ![n, 1]⟩ (multiReduction .maximumf [1] ⟨1, ![n]⟩ x 0xFF800000#32 h hφ hacc) hc (ix2 r 0)
      = top fun k => x (ix2 r k) :=
  (col_apply _ hc r).trans (row_max x h hφ hacc r)

end Cert.Common
-- ==== Proof.Attn.Soft.lean ====
module

public import proofs.«01_k».proof.Proof.Attn.Rows
public import proofs.«01_k».proof.Proof.Common.Reads

/-!
# The attention body's softmax, one row at a time

Scores against the context keys and the latent keys share one maximum; the weighted sums
share one accumulator, whose lane 64 counts the weights.
-/

@[expose] public section

noncomputable section

namespace Cert.KernelIdeal.Attn

open Idealize.ShloMosaic Cert.KernelIdeal.Gen Cert.Common

/-- The larger of the two largest scores of a row. -/
def peak {n m : ℕ} (s : Fin n → EReal) (t : Fin m → EReal) : EReal := max (top s) (top t)

/-- One lane of the accumulator: both weighted sums, the weights taken below the row's peak. -/
def accum {n m : ℕ} (s : Fin n → EReal) (t : Fin m → EReal) (u : Fin n → EReal) (w : Fin m → EReal) : EReal :=
  ∑ k, Ideal.exp (s k - peak s t) * u k + ∑ k, Ideal.exp (t k - peak s t) * w k

/-- The upper heads' peaks. -/
theorem pay14_apply (q : FVec Ideal S1024x128 .bf16) (s : FVec Ideal S1024x256 .f32) (y : Vec Ideal S1x2048x256 .bf16)
    (r : Fin 1024) : k0_pay14 q s y (ix2 r 0) = peak (fun k => s (ix2 r k)) (fun k => k0_pay11 q y (ix2 r k)) := by
  unfold k0_pay14
  exact congrArg₂ max (col_max s _ _ _ _ r) (col_max (k0_pay11 q y) _ _ _ _ r)

/-- The upper heads' weighted sums over the context. -/
theorem pay15_apply (q : FVec Ideal S1024x128 .bf16) (s : FVec Ideal S1024x256 .f32) (v : FVec Ideal S256x128 .bf16)
    (y : Vec Ideal S1x2048x256 .bf16) (r : Fin 1024) (l : Fin 128) :
    k0_pay15 q s v y (ix2 r l)
      = ∑ k, Ideal.exp (s (ix2 r k) - k0_pay14 q s y (ix2 r 0)) * v (ix2 k l) := by
  unfold k0_pay15
  pointwise

/-- The upper heads' weights over the latents. -/
theorem pay16_apply (q : FVec Ideal S1024x128 .bf16) (s : FVec Ideal S1024x256 .f32)
    (y : Vec Ideal S1x2048x256 .bf16) (r : Fin 1024) (k : Fin 2048) :
    k0_pay16 q s y (ix2 r k) = Ideal.exp (k0_pay11 q y (ix2 r k) - k0_pay14 q s y (ix2 r 0)) := by
  unfold k0_pay16
  pointwise

/-- The lower heads' peaks, as the body binds them. -/
def peak0 (s : FVec Ideal S1024x256 .f32) (t : FVec Ideal S1024x2048 .f32) : FVec Ideal S1024x1 .f32 :=
  maximumf (shapeCast S1024x1 (multiReduction .maximumf [1] S1024 s 0xFF800000#32 reduces_S1024x256_S1024 (.inl rfl) rfl) shapeCasts_S1024_S1024x1)
    (shapeCast S1024x1 (multiReduction .maximumf [1] S1024 t 0xFF800000#32 reduces_S1024x2048_S1024 (.inl rfl) rfl) shapeCasts_S1024_S1024x1)

theorem peak0_apply (s : FVec Ideal S1024x256 .f32) (t : FVec Ideal S1024x2048 .f32) (r : Fin 1024) :
    peak0 s t (ix2 r 0) = peak (fun k => s (ix2 r k)) (fun k => t (ix2 r k)) := by
  unfold peak0
  exact congrArg₂ max (col_max s _ _ _ _ r) (col_max t _ _ _ _ r)

/-- The lower heads' accumulator, the weights taken below a given column. -/
def acc0 (s : FVec Ideal S1024x256 .f32) (u : FVec Ideal S256x128 .bf16) (t : FVec Ideal S1024x2048 .f32)
    (w : FVec Ideal S2048x128 .bf16) (M : FVec Ideal S1024x1 .f32) : FVec Ideal S1024x128 .f32 :=
  addf (addf (broadcast S1024x128 (Scalar.ofBits .f32 0x00000000#32))
    (matmul dot_S1024x256_S256x128_S1024x128_1_0_0_1_n_n none
      (exp (truncf .bf16 (subf s (broadcastTo S1024x256 M broadcasts_S1024x1_S1024x256)) bitsLt_bf16_f32)) u
      (constant S1024x128 .f32 0x00000000#32)))
    (matmul dot_S1024x2048_S2048x128_S1024x128_1_0_0_1_n_n none
      (exp (truncf .bf16 (subf t (broadcastTo S1024x2048 M broadcasts_S1024x1_S1024x2048)) bitsLt_bf16_f32)) w
      (constant S1024x128 .f32 0x00000000#32))

theorem acc0_apply (s : FVec Ideal S1024x256 .f32) (u : FVec Ideal S256x128 .bf16) (t : FVec Ideal S1024x2048 .f32)
    (w : FVec Ideal S2048x128 .bf16) (M : FVec Ideal S1024x1 .f32) (r : Fin 1024) (l : Fin 128) :
    acc0 s u t w M (ix2 r l)
      = ∑ k, Ideal.exp (s (ix2 r k) - M (ix2 r 0)) * u (ix2 k l) + ∑ k, Ideal.exp (t (ix2 r k) - M (ix2 r 0)) * w (ix2 k l) := by
  unfold acc0
  pointwise

/-- The first 64 lanes over lane 64. -/
def quot (a : FVec Ideal S1024x128 .f32) : FVec Ideal S1024x64 .f32 :=
  divf (extractStridedSlice S1024x64 ![0, 0] a slices_S1024x128_o0_0_S1024x64)
    (broadcastTo S1024x64 (extractStridedSlice S1024x1 ![0, 64] a slices_S1024x128_o0_64_S1024x1) broadcasts_S1024x1_S1024x64)

theorem quot_apply (a : FVec Ideal S1024x128 .f32) (r : Fin 1024) (d : Fin 64) :
    quot a (ix2 r d) = Ideal.div (a (ix2 r ⟨d.1, by omega⟩)) (a (ix2 r 64)) := by
  unfold quot
  pointwise

/-- The lower heads' quotients. -/
theorem pay13_eq (s : FVec Ideal S1024x256 .f32) (u : FVec Ideal S256x128 .bf16) (t : FVec Ideal S1024x2048 .f32)
    (w : FVec Ideal S2048x128 .bf16) : k0_pay13 s u t w = quot (acc0 s u t w (peak0 s t)) := rfl

theorem pay13_apply (s : FVec Ideal S1024x256 .f32) (u : FVec Ideal S256x128 .bf16) (t : FVec Ideal S1024x2048 .f32)
    (w : FVec Ideal S2048x128 .bf16) (r : Fin 1024) (d : Fin 64) :
    k0_pay13 s u t w (ix2 r d)
      = Ideal.div (accum (fun k => s (ix2 r k)) (fun k => t (ix2 r k)) (fun k => u (ix2 k ⟨d.1, by omega⟩)) (fun k => w (ix2 k ⟨d.1, by omega⟩)))
          (accum (fun k => s (ix2 r k)) (fun k => t (ix2 r k)) (fun k => u (ix2 k 64)) (fun k => w (ix2 k 64))) := by
  rw [pay13_eq, quot_apply, acc0_apply, acc0_apply, peak0_apply]
  rfl

/-- The upper heads' accumulator, its two parts summed. -/
def acc1 (w : FVec Ideal S2048x128 .bf16) (a : FVec Ideal S1024x128 .f32) (p : FVec Ideal S1024x2048 .bf16) : FVec Ideal S1024x128 .f32 :=
  addf a (matmul dot_S1024x2048_S2048x128_S1024x128_1_0_0_1_n_n none p w (constant S1024x128 .f32 0x00000000#32))

theorem acc1_apply (w : FVec Ideal S2048x128 .bf16) (a : FVec Ideal S1024x128 .f32) (p : FVec Ideal S1024x2048 .bf16)
    (r : Fin 1024) (l : Fin 128) : acc1 w a p (ix2 r l) = a (ix2 r l) + ∑ k, p (ix2 r k) * w (ix2 k l) := by
  unfold acc1
  pointwise

/-- Row `r` of stacked head `g` of either half, at lane `d`. -/
def pick (a b : FVec Ideal S1024x64 .f32) (e : Fin 8) (r : Fin 256) (d : Fin 64) : EReal :=
  if h : e.1 < 4 then a (ix2 ⟨e.1 * 256 + r.1, by omega⟩ d) else b (ix2 ⟨(e.1 - 4) * 256 + r.1, by omega⟩ d)

/-- The two halves' heads side by side. -/
def joined (a c : FVec Ideal S1024x64 .f32) : FVec Ideal S256x512 .f32 :=
  concatenate S256x512 1 [⟨S256x64, extractStridedSlice S256x64 ![0, 0] a slices_S1024x64_o0_0_S256x64⟩,
    ⟨S256x64, extractStridedSlice S256x64 ![256, 0] a slices_S1024x64_o256_0_S256x64⟩,
    ⟨S256x64, extractStridedSlice S256x64 ![512, 0] a slices_S1024x64_o512_0_S256x64⟩,
    ⟨S256x64, extractStridedSlice S256x64 ![768, 0] a slices_S1024x64_o768_0_S256x64⟩,
    ⟨S256x64, extractStridedSlice S256x64 ![0, 0] c slices_S1024x64_o0_0_S256x64⟩,
    ⟨S256x64, extractStridedSlice S256x64 ![256, 0] c slices_S1024x64_o256_0_S256x64⟩,
    ⟨S256x64, extractStridedSlice S256x64 ![512, 0] c slices_S1024x64_o512_0_S256x64⟩,
    ⟨S256x64, extractStridedSlice S256x64 ![768, 0] c slices_S1024x64_o768_0_S256x64⟩]
    concatenates_S256x64_S256x64_S256x64_S256x64_S256x64_S256x64_S256x64_S256x64_S256x512_d1

theorem joined_apply (a c : FVec Ideal S1024x64 .f32) (e : Fin 8) (r : Fin 256) (d : Fin 64) :
    joined a c (ix2 r ⟨e.1 * 64 + d.1, by omega⟩) = pick a c e r d := by
  unfold joined
  refine (join_apply _ _ _ _ _ _ _ _ _ e r d).trans ?_
  fin_cases e
  all_goals
    unfold pick
    simp only [Fin.zero_eta, Fin.mk_one, Fin.reduceFinMk, Matrix.cons_val]
    pointwise

/-- The block written: head `e`'s rows at lanes `e*64 …`. -/
theorem pay1_eq (w : FVec Ideal S2048x128 .bf16) (a : FVec Ideal S1024x64 .f32) (b : FVec Ideal S1024x128 .f32)
    (p : FVec Ideal S1024x2048 .bf16) :
    k0_pay1 w a b p = shapeCast S1x256x512 (truncf .bf16 (joined a (quot (acc1 w b p))) bitsLt_bf16_f32) shapeCasts_S256x512_S1x256x512 := rfl

theorem pay1_apply (w : FVec Ideal S2048x128 .bf16) (a : FVec Ideal S1024x64 .f32) (b : FVec Ideal S1024x128 .f32)
    (p : FVec Ideal S1024x2048 .bf16) (e : Fin 8) (r : Fin 256) (d : Fin 64) :
    k0_pay1 w a b p (ix3 0 r ⟨e.1 * 64 + d.1, by omega⟩) = pick a (quot (acc1 w b p)) e r d := by
  rw [pay1_eq, ← joined_apply]
  generalize joined a (quot (acc1 w b p)) = c
  pointwise

end Cert.KernelIdeal.Attn
-- ==== Proof.Attn.Block.lean ====
module

public import proofs.«01_k».proof.Proof.Attn.Soft

/-!
# What one grid step of the attention writes

Head `e`'s row `r`, lane `d` of the written block, from the five blocks read: the quotient of
two lanes of the accumulator.
-/

@[expose] public section

noncomputable section

namespace Cert.KernelIdeal.Attn

open Idealize.ShloMosaic Cert.KernelIdeal.Gen Cert.Common

/-- The block index of lane `l` of key/value head `e/4`. -/
def kvLane (e : Fin 8) (l : Fin 128) : Fin 256 := ⟨e.1 / 4 * 128 + l.1, by omega⟩

/-- Scores of a query row against a block of keys. -/
def score {n : ℕ} (x : Vec Ideal S1x256x1024 .bf16) (y : Vec Ideal ⟨3, ![1, n, 256]⟩ .bf16) (e : Fin 8) (r : Fin 256)
    (k : Fin n) : EReal :=
  ∑ l : Fin 128, x (ix3 0 r ⟨e.1 * 128 + l.1, by omega⟩) * y (ix3 0 k (kvLane e l))

/-- One lane of the accumulator, from the blocks. -/
def lane (x0 : Vec Ideal S1x256x1024 .bf16) (x1 x2 : Vec Ideal S1x2048x256 .bf16) (x3 x4 : Vec Ideal S1x256x256 .bf16)
    (e : Fin 8) (r : Fin 256) (l : Fin 128) : EReal :=
  accum (score x0 x3 e r) (score x0 x1 e r) (fun k => x4 (ix3 0 k (kvLane e l))) (fun k => x2 (ix3 0 k (kvLane e l)))

theorem lower4 (x : Vec Ideal S1x256x1024 .bf16) (y : Vec Ideal S1x256x256 .bf16) (e : Fin 8) (h : e.1 < 4) (r : Fin 256)
    (k : Fin 256) : k0_pay4 x y (ix2 ⟨e.1 * 256 + r.1, by omega⟩ k) = score x y e r k := by
  rw [score4]
  unfold score
  refine Finset.sum_congr rfl fun l _ => congrArg₂ (· * ·) (stack3 x ⟨e.1, h⟩ r l) (congrArg y ?_)
  congr 1
  exact Fin.ext (by show l.1 = e.1 / 4 * 128 + l.1; omega)

theorem lower6 (x : Vec Ideal S1x256x1024 .bf16) (y : Vec Ideal S1x2048x256 .bf16) (e : Fin 8) (h : e.1 < 4) (r : Fin 256)
    (k : Fin 2048) : k0_pay6 x y (ix2 ⟨e.1 * 256 + r.1, by omega⟩ k) = score x y e r k := by
  rw [score6]
  unfold score
  refine Finset.sum_congr rfl fun l _ => congrArg₂ (· * ·) (stack3 x ⟨e.1, h⟩ r l) (congrArg y ?_)
  congr 1
  exact Fin.ext (by show l.1 = e.1 / 4 * 128 + l.1; omega)

theorem upper_q (x : Vec Ideal S1x256x1024 .bf16) (e : Fin 8) (h : ¬ e.1 < 4) (r : Fin 256) (l : Fin 128) :
    k0_pay8 x (ix2 ⟨(e.1 - 4) * 256 + r.1, by omega⟩ l) = x (ix3 0 r ⟨e.1 * 128 + l.1, by omega⟩) := by
  refine (stack8 x ⟨e.1 - 4, by omega⟩ r l).trans (congrArg x ?_)
  congr 1
  exact Fin.ext (by show 512 + (e.1 - 4) * 128 + l.1 = e.1 * 128 + l.1; omega)

theorem upper9 (x : Vec Ideal S1x256x1024 .bf16) (y : Vec Ideal S1x256x256 .bf16) (e : Fin 8) (h : ¬ e.1 < 4) (r : Fin 256)
    (k : Fin 256) : k0_pay9 x y (ix2 ⟨(e.1 - 4) * 256 + r.1, by omega⟩ k) = score x y e r k := by
  rw [score9]
  unfold score
  refine Finset.sum_congr rfl fun l _ => congrArg₂ (· * ·) (upper_q x e h r l) (congrArg y ?_)
  congr 1
  exact Fin.ext (by show 128 + l.1 = e.1 / 4 * 128 + l.1; omega)

theorem upper11 (x : Vec Ideal S1x256x1024 .bf16) (y : Vec Ideal S1x2048x256 .bf16) (e : Fin 8) (h : ¬ e.1 < 4) (r : Fin 256)
    (k : Fin 2048) : k0_pay11 (k0_pay8 x) y (ix2 ⟨(e.1 - 4) * 256 + r.1, by omega⟩ k) = score x y e r k := by
  rw [score11]
  unfold score
  refine Finset.sum_congr rfl fun l _ => congrArg₂ (· * ·) (upper_q x e h r l) (congrArg y ?_)
  congr 1
  exact Fin.ext (by show 128 + l.1 = e.1 / 4 * 128 + l.1; omega)

/-- The lower heads' quotient. -/
theorem lower_apply (x0 : Vec Ideal S1x256x1024 .bf16) (x1 x2 : Vec Ideal S1x2048x256 .bf16) (x3 x4 : Vec Ideal S1x256x256 .bf16)
    (e : Fin 8) (h : e.1 < 4) (r : Fin 256) (d : Fin 64) :
    k0_pay13 (k0_pay4 x0 x3) (k0_pay5 x4) (k0_pay6 x0 x1) (k0_pay7 x2) (ix2 ⟨e.1 * 256 + r.1, by omega⟩ d)
      = Ideal.div (lane x0 x1 x2 x3 x4 e r ⟨d.1, by omega⟩) (lane x0 x1 x2 x3 x4 e r 64) := by
  have h5 : ∀ (k : Fin 256) (l : Fin 128), k0_pay5 x4 (ix2 k l) = x4 (ix3 0 k (kvLane e l)) := fun k l =>
    (cut5 x4 k l).trans (congrArg x4 (congrArg (ix3 0 k) (Fin.ext (by show l.1 = e.1 / 4 * 128 + l.1; omega))))
  have h7 : ∀ (k : Fin 2048) (l : Fin 128), k0_pay7 x2 (ix2 k l) = x2 (ix3 0 k (kvLane e l)) := fun k l =>
    (cut7 x2 k l).trans (congrArg x2 (congrArg (ix3 0 k) (Fin.ext (by show l.1 = e.1 / 4 * 128 + l.1; omega))))
  have hs : (fun k => k0_pay4 x0 x3 (ix2 ⟨e.1 * 256 + r.1, by omega⟩ k)) = score x0 x3 e r := funext fun k => lower4 x0 x3 e h r k
  have ht : (fun k => k0_pay6 x0 x1 (ix2 ⟨e.1 * 256 + r.1, by omega⟩ k)) = score x0 x1 e r := funext fun k => lower6 x0 x1 e h r k
  rw [pay13_apply]
  simp only [h5, h7, hs, ht]
  rfl

/-- The upper heads' accumulator. -/
theorem upper_acc (x0 : Vec Ideal S1x256x1024 .bf16) (x1 x2 : Vec Ideal S1x2048x256 .bf16) (x3 x4 : Vec Ideal S1x256x256 .bf16)
    (e : Fin 8) (h : ¬ e.1 < 4) (r : Fin 256) (l : Fin 128) :
    acc1 (k0_pay12 x2) (k0_pay15 (k0_pay8 x0) (k0_pay9 x0 x3) (k0_pay10 x4) x1) (k0_pay16 (k0_pay8 x0) (k0_pay9 x0 x3) x1)
        (ix2 ⟨(e.1 - 4) * 256 + r.1, by omega⟩ l)
      = lane x0 x1 x2 x3 x4 e r l := by
  have h10 : ∀ (k : Fin 256) (l : Fin 128), k0_pay10 x4 (ix2 k l) = x4 (ix3 0 k (kvLane e l)) := fun k l =>
    (cut10 x4 k l).trans (congrArg x4 (congrArg (ix3 0 k) (Fin.ext (by show 128 + l.1 = e.1 / 4 * 128 + l.1; omega))))
  have h12 : ∀ (k : Fin 2048) (l : Fin 128), k0_pay12 x2 (ix2 k l) = x2 (ix3 0 k (kvLane e l)) := fun k l =>
    (cut12 x2 k l).trans (congrArg x2 (congrArg (ix3 0 k) (Fin.ext (by show 128 + l.1 = e.1 / 4 * 128 + l.1; omega))))
  have hs := fun k => upper9 x0 x3 e h r k
  have ht := fun k => upper11 x0 x1 e h r k
  rw [acc1_apply]
  simp only [pay15_apply, pay16_apply, pay14_apply, h10, h12, hs, ht]
  rfl

/-- The block a grid step leaves. -/
theorem out_apply (x0 : Vec Ideal S1x256x1024 .bf16) (x1 x2 : Vec Ideal S1x2048x256 .bf16) (x3 x4 : Vec Ideal S1x256x256 .bf16)
    (e : Fin 8) (r : Fin 256) (d : Fin 64) :
    out0_5 x0 x1 x2 x3 x4 (ix3 0 r ⟨e.1 * 64 + d.1, by omega⟩)
      = Ideal.div (lane x0 x1 x2 x3 x4 e r ⟨d.1, by omega⟩) (lane x0 x1 x2 x3 x4 e r 64) := by
  have hz : (![0, 0, 0] : Fin 3 → Nat) = fun _ => 0 := by funext a; fin_cases a <;> rfl
  unfold_out out0_5
  rw [View.canon_unit_zero hz]
  rw [show View.ld x0 r0_0 = x0 from View.ld_unit_zero hz _ x0, show View.ld x1 r0_2 = x1 from View.ld_unit_zero hz _ x1,
    show View.ld x2 r0_2 = x2 from View.ld_unit_zero hz _ x2, show View.ld x3 r0_1 = x3 from View.ld_unit_zero hz _ x3,
    show View.ld x4 r0_1 = x4 from View.ld_unit_zero hz _ x4]
  refine (pay1_apply _ _ _ _ e r d).trans ?_
  unfold pick
  split
  · next h => exact lower_apply x0 x1 x2 x3 x4 e h r d
  · next h => rw [quot_apply, upper_acc x0 x1 x2 x3 x4 e h r, upper_acc x0 x1 x2 x3 x4 e h r]

end Cert.KernelIdeal.Attn
-- ==== Proof.Attn.Entry.lean ====
module

public import proofs.«01_k».proof.Proof.Gen.KernelIdeal.Value
public import Idealize.ShloMosaic.Lib.Pointwise
public import Idealize.ShloMosaic.Lib.StableHlo.ReadAt

/-!
# The arrays the attention call reads

Each is an argument with its heads' 64 lanes filled up to 128: the queries are scaled first,
queries and keys are filled with zeros, values with ones.
-/

@[expose] public section

noncomputable section

namespace Cert.KernelIdeal.Attn

open Idealize.ShloMosaic Idealize.ShloMosaic.TcCoe Cert.KernelIdeal.Gen

variable (m : (ℓ : Loc nD τ sig) → Buf (Elt Ideal) ℓ)

/-- The scale: an eighth. -/
abbrev scale : EReal := Ideal.ofBits .f32 0x3E000000#32

/-- The argument arrays as functions of their indices. -/
abbrev A0 (c : Dev nD) : S8x2048x8x64.Idx → EReal := m ((c : Thread nD τ).loc main_arg0)
abbrev A1 (c : Dev nD) : S8x2048x2x64.Idx → EReal := m ((c : Thread nD τ).loc main_arg1)
abbrev A2 (c : Dev nD) : S8x2048x2x64.Idx → EReal := m ((c : Thread nD τ).loc main_arg2)
abbrev A3 (c : Dev nD) : S8x256x2x64.Idx → EReal := m ((c : Thread nD τ).loc main_arg3)
abbrev A4 (c : Dev nD) : S8x256x2x64.Idx → EReal := m ((c : Thread nD τ).loc main_arg4)

theorem mod_lane (e : ℕ) (l : Fin 128) : (e * 128 + l.1) % 128 = l.1 := by omega
theorem div_lane (e : ℕ) (l : Fin 128) : (e * 128 + l.1) / 128 = e := by omega

/-- Queries: scaled, then filled with zeros. -/
theorem q_apply (c : Dev nD) (b : Fin 8) (r : Fin 2048) (e : Fin 8) (l : Fin 128) :
    (V m c main_v5 : S8x2048x1024.Idx → EReal) (ix3 b r ⟨e.1 * 128 + l.1, by omega⟩)
      = if h : l.1 < 64 then A0 m c (ix4 b r e ⟨l.1, h⟩) * scale else 0 := by
  unfold V
  after_reads_at
  by_cases h : l.1 < 64
  · rw [dif_pos h, dif_pos (by omega)]
    after_reads_at
    simp only [mod_lane, div_lane]
  · rw [dif_neg h, dif_neg (by omega)]
    after_reads_at

/-- Latent keys: filled with zeros. -/
theorem kl_apply (c : Dev nD) (b : Fin 8) (k : Fin 2048) (g : Fin 2) (l : Fin 128) :
    (V m c main_v9 : S8x2048x256.Idx → EReal) (ix3 b k ⟨g.1 * 128 + l.1, by omega⟩)
      = if h : l.1 < 64 then A1 m c (ix4 b k g ⟨l.1, h⟩) else 0 := by
  unfold V
  after_reads_at
  by_cases h : l.1 < 64
  · rw [dif_pos h, dif_pos (by omega)]
    after_reads_at
    simp only [mod_lane, div_lane]
  · rw [dif_neg h, dif_neg (by omega)]
    after_reads_at

/-- Latent values: filled with ones. -/
theorem vl_apply (c : Dev nD) (b : Fin 8) (k : Fin 2048) (g : Fin 2) (l : Fin 128) :
    (V m c main_v13 : S8x2048x256.Idx → EReal) (ix3 b k ⟨g.1 * 128 + l.1, by omega⟩)
      = if h : l.1 < 64 then A2 m c (ix4 b k g ⟨l.1, h⟩) else 1 := by
  unfold V
  after_reads_at
  by_cases h : l.1 < 64
  · rw [dif_pos h, dif_pos (by omega)]
    after_reads_at
    simp only [mod_lane, div_lane]
  · rw [dif_neg h, dif_neg (by omega)]
    after_reads_at

/-- Context keys: filled with zeros. -/
theorem kc_apply (c : Dev nD) (b : Fin 8) (k : Fin 256) (g : Fin 2) (l : Fin 128) :
    (V m c main_v17 : S8x256x256.Idx → EReal) (ix3 b k ⟨g.1 * 128 + l.1, by omega⟩)
      = if h : l.1 < 64 then A3 m c (ix4 b k g ⟨l.1, h⟩) else 0 := by
  unfold V
  after_reads_at
  by_cases h : l.1 < 64
  · rw [dif_pos h, dif_pos (by omega)]
    after_reads_at
    simp only [mod_lane, div_lane]
  · rw [dif_neg h, dif_neg (by omega)]
    after_reads_at

/-- Context values: filled with ones. -/
theorem vc_apply (c : Dev nD) (b : Fin 8) (k : Fin 256) (g : Fin 2) (l : Fin 128) :
    (V m c main_v21 : S8x256x256.Idx → EReal) (ix3 b k ⟨g.1 * 128 + l.1, by omega⟩)
      = if h : l.1 < 64 then A4 m c (ix4 b k g ⟨l.1, h⟩) else 1 := by
  unfold V
  after_reads_at
  by_cases h : l.1 < 64
  · rw [dif_pos h, dif_pos (by omega)]
    after_reads_at
    simp only [mod_lane, div_lane]
  · rw [dif_neg h, dif_neg (by omega)]
    after_reads_at

/-! ## The blocks at a grid point: batch entry `t/8`, rows from `t%8*256` -/

theorem index0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem index1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem index2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
theorem index3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)
theorem index4 : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)
theorem index5 : ∀ t : Fin cfg0.N, win0_5.index t 0 = t.val / 8 ∧ win0_5.index t 1 = t.val % 8 ∧ win0_5.index t 2 = 0 :=
  (by decide +kernel : ∀ t : Fin grid0.N, win0_5.index t 0 = t.val / 8 ∧ win0_5.index t 1 = t.val % 8 ∧ win0_5.index t 2 = 0)

/-- Window 0's block of any array. -/
theorem read0 (X : S8x2048x1024.Idx → EReal) (t : Fin cfg0.N) (ht : t.val / 8 < 8) (r : Fin 256) (l : Fin 1024) :
    (((cfg0.win 0).blk t).view.read (Elt Ideal) X : S1x256x1024.Idx → EReal) (ix3 0 r l)
      = X (ix3 ⟨t.val / 8, ht⟩ ⟨t.val % 8 * 256 + r.1, by omega⟩ l) := by
  obtain ⟨h0, h1, h2⟩ := index0 t
  show X ((win0_0.rect t).emb _) = _
  refine congrArg X ?_
  funext a
  apply Fin.ext
  refine (win0_0.rect_emb_val t _ _).trans ?_
  match a with
  | ⟨0, _⟩ =>
      show win0_0.index t 0 * 1 + 0 = t.val / 8
      omega
  | ⟨1, _⟩ =>
      show win0_0.index t 1 * 256 + r.1 = t.val % 8 * 256 + r.1
      omega
  | ⟨2, _⟩ =>
      show win0_0.index t 2 * 1024 + l.1 = l.1
      omega

theorem block0 (c : Dev nD) (t : Fin cfg0.N) (ht : t.val / 8 < 8) (r : Fin 256) (l : Fin 1024) :
    (iblk m c 0 t : S1x256x1024.Idx → EReal) (ix3 0 r l)
      = (V m c main_v5 : S8x2048x1024.Idx → EReal) (ix3 ⟨t.val / 8, ht⟩ ⟨t.val % 8 * 256 + r.1, by omega⟩ l) :=
  read0 (V m c main_v5) t ht r l

/-- Window 1's block of any array. -/
theorem read1 (X : S8x2048x256.Idx → EReal) (t : Fin cfg0.N) (ht : t.val / 8 < 8) (r : Fin 2048) (l : Fin 256) :
    (((cfg0.win 1).blk t).view.read (Elt Ideal) X : S1x2048x256.Idx → EReal) (ix3 0 r l)
      = X (ix3 ⟨t.val / 8, ht⟩ r l) := by
  obtain ⟨h0, h1, h2⟩ := index1 t
  show X ((win0_1.rect t).emb _) = _
  refine congrArg X ?_
  funext a
  apply Fin.ext
  refine (win0_1.rect_emb_val t _ _).trans ?_
  match a with
  | ⟨0, _⟩ =>
      show win0_1.index t 0 * 1 + 0 = t.val / 8
      omega
  | ⟨1, _⟩ =>
      show win0_1.index t 1 * 2048 + r.1 = r.1
      omega
  | ⟨2, _⟩ =>
      show win0_1.index t 2 * 256 + l.1 = l.1
      omega

theorem block1 (c : Dev nD) (t : Fin cfg0.N) (ht : t.val / 8 < 8) (r : Fin 2048) (l : Fin 256) :
    (iblk m c 1 t : S1x2048x256.Idx → EReal) (ix3 0 r l)
      = (V m c main_v9 : S8x2048x256.Idx → EReal) (ix3 ⟨t.val / 8, ht⟩ r l) :=
  read1 (V m c main_v9) t ht r l

/-- Window 2's block of any array. -/
theorem read2 (X : S8x2048x256.Idx → EReal) (t : Fin cfg0.N) (ht : t.val / 8 < 8) (r : Fin 2048) (l : Fin 256) :
    (((cfg0.win 2).blk t).view.read (Elt Ideal) X : S1x2048x256.Idx → EReal) (ix3 0 r l)
      = X (ix3 ⟨t.val / 8, ht⟩ r l) := by
  obtain ⟨h0, h1, h2⟩ := index2 t
  show X ((win0_2.rect t).emb _) = _
  refine congrArg X ?_
  funext a
  apply Fin.ext
  refine (win0_2.rect_emb_val t _ _).trans ?_
  match a with
  | ⟨0, _⟩ =>
      show win0_2.index t 0 * 1 + 0 = t.val / 8
      omega
  | ⟨1, _⟩ =>
      show win0_2.index t 1 * 2048 + r.1 = r.1
      omega
  | ⟨2, _⟩ =>
      show win0_2.index t 2 * 256 + l.1 = l.1
      omega

theorem block2 (c : Dev nD) (t : Fin cfg0.N) (ht : t.val / 8 < 8) (r : Fin 2048) (l : Fin 256) :
    (iblk m c 2 t : S1x2048x256.Idx → EReal) (ix3 0 r l)
      = (V m c main_v13 : S8x2048x256.Idx → EReal) (ix3 ⟨t.val / 8, ht⟩ r l) :=
  read2 (V m c main_v13) t ht r l

/-- Window 3's block of any array. -/
theorem read3 (X : S8x256x256.Idx → EReal) (t : Fin cfg0.N) (ht : t.val / 8 < 8) (r : Fin 256) (l : Fin 256) :
    (((cfg0.win 3).blk t).view.read (Elt Ideal) X : S1x256x256.Idx → EReal) (ix3 0 r l)
      = X (ix3 ⟨t.val / 8, ht⟩ r l) := by
  obtain ⟨h0, h1, h2⟩ := index3 t
  show X ((win0_3.rect t).emb _) = _
  refine congrArg X ?_
  funext a
  apply Fin.ext
  refine (win0_3.rect_emb_val t _ _).trans ?_
  match a with
  | ⟨0, _⟩ =>
      show win0_3.index t 0 * 1 + 0 = t.val / 8
      omega
  | ⟨1, _⟩ =>
      show win0_3.index t 1 * 256 + r.1 = r.1
      omega
  | ⟨2, _⟩ =>
      show win0_3.index t 2 * 256 + l.1 = l.1
      omega

theorem block3 (c : Dev nD) (t : Fin cfg0.N) (ht : t.val / 8 < 8) (r : Fin 256) (l : Fin 256) :
    (iblk m c 3 t : S1x256x256.Idx → EReal) (ix3 0 r l)
      = (V m c main_v17 : S8x256x256.Idx → EReal) (ix3 ⟨t.val / 8, ht⟩ r l) :=
  read3 (V m c main_v17) t ht r l

/-- Window 4's block of any array. -/
theorem read4 (X : S8x256x256.Idx → EReal) (t : Fin cfg0.N) (ht : t.val / 8 < 8) (r : Fin 256) (l : Fin 256) :
    (((cfg0.win 4).blk t).view.read (Elt Ideal) X : S1x256x256.Idx → EReal) (ix3 0 r l)
      = X (ix3 ⟨t.val / 8, ht⟩ r l) := by
  obtain ⟨h0, h1, h2⟩ := index4 t
  show X ((win0_4.rect t).emb _) = _
  refine congrArg X ?_
  funext a
  apply Fin.ext
  refine (win0_4.rect_emb_val t _ _).trans ?_
  match a with
  | ⟨0, _⟩ =>
      show win0_4.index t 0 * 1 + 0 = t.val / 8
      omega
  | ⟨1, _⟩ =>
      show win0_4.index t 1 * 256 + r.1 = r.1
      omega
  | ⟨2, _⟩ =>
      show win0_4.index t 2 * 256 + l.1 = l.1
      omega

theorem block4 (c : Dev nD) (t : Fin cfg0.N) (ht : t.val / 8 < 8) (r : Fin 256) (l : Fin 256) :
    (iblk m c 4 t : S1x256x256.Idx → EReal) (ix3 0 r l)
      = (V m c main_v21 : S8x256x256.Idx → EReal) (ix3 ⟨t.val / 8, ht⟩ r l) :=
  read4 (V m c main_v21) t ht r l

/-- Window 5's block of any array. -/
theorem read5 (X : S8x2048x512.Idx → EReal) (t : Fin cfg0.N) (ht : t.val / 8 < 8) (r : Fin 256) (l : Fin 512) :
    (((cfg0.win 5).blk t).view.read (Elt Ideal) X : S1x256x512.Idx → EReal) (ix3 0 r l)
      = X (ix3 ⟨t.val / 8, ht⟩ ⟨t.val % 8 * 256 + r.1, by omega⟩ l) := by
  obtain ⟨h0, h1, h2⟩ := index5 t
  show X ((win0_5.rect t).emb _) = _
  refine congrArg X ?_
  funext a
  apply Fin.ext
  refine (win0_5.rect_emb_val t _ _).trans ?_
  match a with
  | ⟨0, _⟩ =>
      show win0_5.index t 0 * 1 + 0 = t.val / 8
      omega
  | ⟨1, _⟩ =>
      show win0_5.index t 1 * 256 + r.1 = t.val % 8 * 256 + r.1
      omega
  | ⟨2, _⟩ =>
      show win0_5.index t 2 * 512 + l.1 = l.1
      omega

end Cert.KernelIdeal.Attn
-- ==== Proof.Attn.Spec.lean ====
module

public import proofs.«01_k».proof.Proof.Common.Reads

/-!
# Attention of latent queries over context and latent keys, as a formula

Arrays are functions of batch entry, row, head and lane. Key/value head `e/4` serves query
head `e`. The 256 context keys come before the 2048 latent keys.
-/

@[expose] public section

noncomputable section

namespace Cert.Attn

open Idealize.ShloMosaic Cert.Common

/-- The scale: an eighth. -/
abbrev scale : EReal := Ideal.ofBits .f32 0x3E000000#32

theorem scale_eq : scale = ((1 / 8 : ℝ) : EReal) := by
  simp [scale, Ideal.ofBits, Ideal.ieee, -EReal.coe_mul]
  norm_num

theorem scale_nonneg : 0 ≤ scale := by rw [scale_eq]; exact EReal.coe_nonneg.mpr (by norm_num)
theorem scale_fin : Fin' scale := by rw [scale_eq]; exact Fin'.coe _

abbrev Q := (⟨4, ![8, 2048, 8, 64]⟩ : Shape).Idx → EReal
abbrev L := (⟨4, ![8, 2048, 2, 64]⟩ : Shape).Idx → EReal
abbrev C := (⟨4, ![8, 256, 2, 64]⟩ : Shape).Idx → EReal

/-- The key/value head of a query head. -/
abbrev kv (e : Fin 8) : Fin 2 := ⟨e.1 / 4, by omega⟩

/-- Context rows, then latent rows. -/
def rows (x : C) (y : L) (b : Fin 8) (g : Fin 2) (d : Fin 64) (k : Fin 2304) : EReal :=
  if h : k.1 < 256 then x (ix4 b ⟨k.1, h⟩ g d) else y (ix4 b ⟨k.1 - 256, by omega⟩ g d)

theorem rows_ctx (x : C) (y : L) (b : Fin 8) (g : Fin 2) (d : Fin 64) (k : Fin 256) :
    rows x y b g d ⟨k.1, by omega⟩ = x (ix4 b k g d) := by
  unfold rows
  rw [dif_pos k.2]

theorem rows_lat (x : C) (y : L) (b : Fin 8) (g : Fin 2) (d : Fin 64) (k : Fin 2048) :
    rows x y b g d ⟨256 + k.1, by omega⟩ = y (ix4 b k g d) := by
  unfold rows
  rw [dif_neg (by simp)]
  exact congrArg y (congrArg (fun z => ix4 b z g d) (Fin.ext (by simp)))

/-- One row of scaled scores. -/
def scores (q : Q) (x : C) (y : L) (b : Fin 8) (r : Fin 2048) (e : Fin 8) (k : Fin 2304) : EReal :=
  (∑ d : Fin 64, rows x y b (kv e) d k * q (ix4 b r e d)) * scale

/-- The weighted values over the sum of the weights. -/
def attend (q : Q) (y v : L) (x u : C) (b : Fin 8) (r : Fin 2048) (e : Fin 8) (d : Fin 64) : EReal :=
  Ideal.div (∑ k, Ideal.exp (scores q x y b r e k - top (scores q x y b r e)) * rows u v b (kv e) d k)
    (∑ k, Ideal.exp (scores q x y b r e k - top (scores q x y b r e)))

/-- Finite queries and keys give finite scores. -/
theorem scores_fin (q : Q) (x : C) (y : L) (hq : ∀ i, Fin' (q i)) (hx : ∀ i, Fin' (x i)) (hy : ∀ i, Fin' (y i))
    (b : Fin 8) (r : Fin 2048) (e : Fin 8) (k : Fin 2304) : Fin' (scores q x y b r e k) := by
  refine Fin'.mul (Fin'.sum _ fun d => Fin'.mul ?_ (hq _)) scale_fin
  unfold rows
  split
  · exact hx _
  · exact hy _

/-- So the weights may be divided first. -/
theorem attend_eq (q : Q) (y v : L) (x u : C) (hq : ∀ i, Fin' (q i)) (hx : ∀ i, Fin' (x i)) (hy : ∀ i, Fin' (y i))
    (b : Fin 8) (r : Fin 2048) (e : Fin 8) (d : Fin 64) :
    attend q y v x u b r e d
      = ∑ k, rows u v b (kv e) d k * Ideal.div (Ideal.exp (scores q x y b r e k - top (scores q x y b r e)))
          (∑ k, Ideal.exp (scores q x y b r e k - top (scores q x y b r e))) :=
  softmax_sum _ _ (scores_fin q x y hq hx hy b r e)

/-- A score over 128 lanes, the query scaled and filled with zeros, the key filled with zeros. -/
theorem score_padded (q k : Fin 64 → EReal) (Qp Kp : Fin 128 → EReal)
    (hq : ∀ l : Fin 128, Qp l = if h : l.1 < 64 then q ⟨l.1, h⟩ * scale else 0)
    (hk : ∀ l : Fin 128, Kp l = if h : l.1 < 64 then k ⟨l.1, h⟩ else 0) :
    ∑ l, Qp l * Kp l = (∑ d, k d * q d) * scale := by
  rw [sum_mul_of_nonneg _ _ scale_nonneg scale_fin.2]
  refine sum_padded (n := 64) (m := 64) rfl _ _ (fun d => ?_) (fun l hl => ?_)
  · rw [hq, hk, dif_pos d.2, dif_pos d.2, mul_comm (q d) scale, mul_comm (k d) (q d), mul_assoc, mul_comm scale]
  · rw [hk, dif_neg (by omega), mul_zero]

end Cert.Attn
-- ==== Proof.Attn.Value.lean ====
module

public import proofs.«01_k».proof.Proof.Attn.Block
public import proofs.«01_k».proof.Proof.Attn.Entry
public import proofs.«01_k».proof.Proof.Attn.Spec

/-!
# The attention call computes the formula

Each grid step's block is its block of one array, `whole`; the blocks tile the result.
-/

@[expose] public section

noncomputable section

namespace Cert.KernelIdeal.Attn

open Idealize.ShloMosaic Idealize.ShloMosaic.TcCoe Idealize.SL.Sem Cert.KernelIdeal.Gen Cert.Common Cert.Attn

variable (m : (ℓ : Loc nD τ sig) → Buf (Elt Ideal) ℓ)

/-- One lane of the accumulator is one sum over all keys, below one maximum. -/
theorem accum_joined (s : Fin 256 → EReal) (t : Fin 2048 → EReal) (u : Fin 256 → EReal) (w : Fin 2048 → EReal)
    (S U : Fin 2304 → EReal) (hs : ∀ k : Fin 256, S ⟨k.1, by omega⟩ = s k) (ht : ∀ k : Fin 2048, S ⟨256 + k.1, by omega⟩ = t k)
    (hu : ∀ k : Fin 256, U ⟨k.1, by omega⟩ = u k) (hw : ∀ k : Fin 2048, U ⟨256 + k.1, by omega⟩ = w k) :
    accum s t u w = ∑ k, Ideal.exp (S k - top S) * U k := by
  have hM : top S = peak s t := top_split (n := 256) (m := 2048) rfl S s t hs ht
  unfold accum
  rw [← hM]
  refine (sum_split (n := 256) (m := 2048) rfl _ _ _ (fun k => ?_) (fun k => ?_)).symm
  · rw [hs, hu]
  · rw [ht, hw]

/-- The result array: head `e`'s lane `d` is at lane `e*64 + d`. -/
def whole (c : Dev nD) : S8x2048x512.Idx → EReal := fun i =>
  attend (A0 m c) (A1 m c) (A2 m c) (A3 m c) (A4 m c) (i 0) (i 1)
    ⟨(i 2).1 / 64, by have : (i 2).1 < 512 := (i 2).2; omega⟩ ⟨(i 2).1 % 64, Nat.mod_lt _ (by norm_num)⟩

theorem whole_apply (c : Dev nD) (b : Fin 8) (r : Fin 2048) (e : Fin 8) (d : Fin 64) :
    whole m c (ix3 b r ⟨e.1 * 64 + d.1, by omega⟩) = attend (A0 m c) (A1 m c) (A2 m c) (A3 m c) (A4 m c) b r e d := by
  have h1 : (e.1 * 64 + d.1) / 64 = e.1 := by omega
  have h2 : (e.1 * 64 + d.1) % 64 = d.1 := by omega
  exact congrArg₂ (attend (A0 m c) (A1 m c) (A2 m c) (A3 m c) (A4 m c) b r) (Fin.ext h1) (Fin.ext h2)

/-- The row of the arrays a step's row is. -/
abbrev arow (t : Fin cfg0.N) (r : Fin 256) : Fin 2048 := ⟨t.val % 8 * 256 + r.1, by omega⟩

section Step

variable (c : Dev nD) (t : Fin cfg0.N) (ht : t.val / 8 < 8) (e : Fin 8) (r : Fin 256)

theorem ctx_score (k : Fin 256) :
    scores (A0 m c) (A3 m c) (A1 m c) ⟨t.val / 8, ht⟩ (arow t r) e ⟨k.1, by omega⟩
      = score (iblk m c 0 t) (iblk m c 3 t) e r k := by
  unfold scores score
  simp only [rows_ctx]
  refine (score_padded _ _ _ _ (fun l => ?_) (fun l => ?_)).symm
  · exact (block0 m c t ht r ⟨e.1 * 128 + l.1, by omega⟩).trans (q_apply m c ⟨t.val / 8, ht⟩ (arow t r) e l)
  · exact (block3 m c t ht k (kvLane e l)).trans (kc_apply m c ⟨t.val / 8, ht⟩ k (kv e) l)

theorem lat_score (k : Fin 2048) :
    scores (A0 m c) (A3 m c) (A1 m c) ⟨t.val / 8, ht⟩ (arow t r) e ⟨256 + k.1, by omega⟩
      = score (iblk m c 0 t) (iblk m c 1 t) e r k := by
  unfold scores score
  simp only [rows_lat]
  refine (score_padded _ _ _ _ (fun l => ?_) (fun l => ?_)).symm
  · exact (block0 m c t ht r ⟨e.1 * 128 + l.1, by omega⟩).trans (q_apply m c ⟨t.val / 8, ht⟩ (arow t r) e l)
  · exact (block1 m c t ht k (kvLane e l)).trans (kl_apply m c ⟨t.val / 8, ht⟩ k (kv e) l)

theorem lane_value (d : Fin 64) :
    lane (iblk m c 0 t) (iblk m c 1 t) (iblk m c 2 t) (iblk m c 3 t) (iblk m c 4 t) e r ⟨d.1, by omega⟩
      = ∑ k, Ideal.exp (scores (A0 m c) (A3 m c) (A1 m c) ⟨t.val / 8, ht⟩ (arow t r) e k
            - top (scores (A0 m c) (A3 m c) (A1 m c) ⟨t.val / 8, ht⟩ (arow t r) e))
          * rows (A4 m c) (A2 m c) ⟨t.val / 8, ht⟩ (kv e) d k := by
  refine accum_joined _ _ _ _ _ _ (ctx_score m c t ht e r) (lat_score m c t ht e r) (fun k => ?_) (fun k => ?_)
  · refine (rows_ctx _ _ _ _ _ k).trans ?_
    refine ((block4 m c t ht k (kvLane e ⟨d.1, by omega⟩)).trans ((vc_apply m c ⟨t.val / 8, ht⟩ k (kv e) ⟨d.1, by omega⟩).trans ?_)).symm
    exact dif_pos d.2
  · refine (rows_lat _ _ _ _ _ k).trans ?_
    refine ((block2 m c t ht k (kvLane e ⟨d.1, by omega⟩)).trans ((vl_apply m c ⟨t.val / 8, ht⟩ k (kv e) ⟨d.1, by omega⟩).trans ?_)).symm
    exact dif_pos d.2

theorem lane_count :
    lane (iblk m c 0 t) (iblk m c 1 t) (iblk m c 2 t) (iblk m c 3 t) (iblk m c 4 t) e r 64
      = ∑ k, Ideal.exp (scores (A0 m c) (A3 m c) (A1 m c) ⟨t.val / 8, ht⟩ (arow t r) e k
            - top (scores (A0 m c) (A3 m c) (A1 m c) ⟨t.val / 8, ht⟩ (arow t r) e)) := by
  refine (accum_joined _ _ _ _ _ (fun _ => 1) (ctx_score m c t ht e r) (lat_score m c t ht e r) (fun k => ?_) (fun k => ?_)).trans ?_
  · exact ((block4 m c t ht k (kvLane e 64)).trans ((vc_apply m c ⟨t.val / 8, ht⟩ k (kv e) 64).trans (dif_neg (by decide)))).symm
  · exact ((block2 m c t ht k (kvLane e 64)).trans ((vl_apply m c ⟨t.val / 8, ht⟩ k (kv e) 64).trans (dif_neg (by decide)))).symm
  · simp only [mul_one]

end Step

/-- What a step writes back is its block of the whole. -/
theorem flushed_eq (c : Dev nD) (t : Fin cfg0.N) :
    (dats m 0 c).flushed 5 t = ((cfg0.win 5).blk t).view.read (Elt Ideal) (whole m c) := by
  have ht : t.val / 8 < 8 := by have : t.val < 64 := t.2.trans_eq N_0; omega
  rw [Value.flushed5]
  have hmain : ∀ (e : Fin 8) (d : Fin 64) (r : Fin 256),
      out0_5 (iblk m c 0 t) (iblk m c 1 t) (iblk m c 2 t) (iblk m c 3 t) (iblk m c 4 t) (ix3 0 r ⟨e.1 * 64 + d.1, by omega⟩)
        = (((cfg0.win 5).blk t).view.read (Elt Ideal) (whole m c) : S1x256x512.Idx → EReal) (ix3 0 r ⟨e.1 * 64 + d.1, by omega⟩) := by
    intro e d r
    refine (out_apply _ _ _ _ _ e r d).trans ?_
    refine (congrArg₂ Ideal.div (lane_value m c t ht e r d) (lane_count m c t ht e r)).trans ?_
    refine Eq.trans ?_ (read5 (whole m c) t ht r _).symm
    exact (whole_apply m c ⟨t.val / 8, ht⟩ (arow t r) e d).symm
  funext j
  have hj : ∀ j : S1x256x512.Idx, out0_5 (iblk m c 0 t) (iblk m c 1 t) (iblk m c 2 t) (iblk m c 3 t) (iblk m c 4 t) j
      = (((cfg0.win 5).blk t).view.read (Elt Ideal) (whole m c) : S1x256x512.Idx → EReal) j := by
    intro j
    have h2 : (j 2).1 < 512 := (j 2).2
    obtain ⟨e, d, hed⟩ : ∃ (e : Fin 8) (d : Fin 64), (j 2).1 = e.1 * 64 + d.1 :=
      ⟨⟨(j 2).1 / 64, by omega⟩, ⟨(j 2).1 % 64, by omega⟩, by simp only; omega⟩
    have hj : j = ix3 0 (j 1) ⟨e.1 * 64 + d.1, by omega⟩ := by
      funext a
      match a with
      | ⟨0, _⟩ => exact Fin.ext (by have : (j 0).1 < 1 := (j 0).2; show (j 0).1 = 0; omega)
      | ⟨1, _⟩ => rfl
      | ⟨2, _⟩ => exact Fin.ext hed
    exact (congrArg _ hj).trans ((hmain e d (j 1)).trans (congrArg _ hj.symm))
  exact hj j

/-- Every index of the result lies in some step's block. -/
theorem cover (i : S8x2048x512.Idx) :
    ∃ t : Fin cfg0.N, (cfg0.win 5).flush t = true ∧ i ∈ ((cfg0.win 5).blk t).view.set := by
  have h0 : (i 0).1 < 8 := (i 0).2
  have h1 : (i 1).1 < 2048 := (i 1).2
  have h2 : (i 2).1 < 512 := (i 2).2
  refine ⟨⟨(i 0).1 * 8 + (i 1).1 / 256, by rw [show cfg0.N = 64 from N_0]; omega⟩, flush0_5 _, ?_⟩
  generalize ht : (⟨(i 0).1 * 8 + (i 1).1 / 256, _⟩ : Fin cfg0.N) = t
  have hv : t.1 = (i 0).1 * 8 + (i 1).1 / 256 := by rw [← ht]
  obtain ⟨e0, e1, e2⟩ := index5 t
  show i ∈ ((View.whole main_v22).slice (win0_5.rect t)).set
  rw [View.set_slice_whole, Rect.mem_set_unit]
  intro a
  match a with
  | ⟨0, _⟩ => show win0_5.index t 0 * 1 ≤ (i 0).1 ∧ (i 0).1 < win0_5.index t 0 * 1 + 1
              omega
  | ⟨1, _⟩ => show win0_5.index t 1 * 256 ≤ (i 1).1 ∧ (i 1).1 < win0_5.index t 1 * 256 + 256
              omega
  | ⟨2, _⟩ => show win0_5.index t 2 * 512 ≤ (i 2).1 ∧ (i 2).1 < win0_5.index t 2 * 512 + 512
              omega

theorem final (c : Dev nD) : (dats m 0 c).arrAt 5 cfg0.N = whole m c :=
  (dats m 0 c).arrAt_eq_of_cover 5 (whole m c) (fun t _ => flushed_eq m c t) cover

end Cert.KernelIdeal.Attn
-- ==== Proof.Common.HostReads.lean ====
module

public import proofs.«01_k».proof.Proof.Common.Reads

/-!
# Host operations read at an index

A host maximum along the last axis, and a concatenation of two pieces along one axis.
-/

@[expose] public section

namespace Cert.Common

open Idealize.ShloMosaic

/-- The host's maximum along the last of five axes. -/
theorem host_max5 {a b c d n : ℕ} (x : (⟨5, ![a, b, c, d, n]⟩ : Shape).Idx → EReal) {u : Shape} (init : u.Idx → EReal)
    (h' : (⟨5, ![a, b, c, d, n]⟩ : Shape).ReducesTo [4] ⟨4, ![a, b, c, d]⟩)
    (h : (⟨5, ![a, b, c, d, n]⟩ : Shape).Reduces [4] ⟨4, ![a, b, c, d]⟩) (hu : 0 < u.numel)
    (hi : init (Shape.Idx.first hu) = ⊥) (i : (⟨4, ![a, b, c, d]⟩ : Shape).Idx) :
    Host.reduce (FloatOps.maximumf (F := Ideal) (φ := .f32)) x init h' hu i = top fun k => x (ix5 (i 0) (i 1) (i 2) (i 3) k) := by
  refine (Host.reduce_eq_fold_single (FloatOps.maximumf (F := Ideal) (φ := .f32)) x init h' h hu i).trans ?_
  rw [← fold_max_eq_top, hi]
  refine congrArg (fun f => Finset.fold max ⊥ f Finset.univ) (funext fun k => congrArg x ?_)
  funext z
  apply Fin.ext
  rw [Shape.Reduces.lift_val]
  fin_cases z <;> rfl

end Cert.Common
-- ==== Proof.Attn.Ref.lean ====
module

public import proofs.«01_k».proof.Proof.Attn.Spec
public import proofs.«01_k».proof.Proof.Common.HostReads
public import proofs.«01_k».proof.Proof.Gen.ReferenceIdeal.Read

/-!
# The reference attention is the formula

The stages of the reference read at an index, up to its result.
-/

@[expose] public section

noncomputable section

namespace Cert.ReferenceIdeal.Attn

open Idealize.ShloMosaic Idealize.ShloMosaic.TcCoe Cert.ReferenceIdeal Cert.ReferenceIdeal.Gen Cert.ReferenceIdeal.Read Cert.Common Cert.Attn

variable (q : Q) (y v : L) (x u : C)

/-- The joined keys. -/
theorem keys_apply (b : Fin 8) (k : Fin 2304) (g : Fin 2) (d : Fin 64) :
    val_main_v0 (F := Ideal) y x (ix4 b k g d) = rows x y b g d k := by
  unfold val_main_v0 rows
  split
  case isTrue hk =>
    refine concatenate_pair_apply_left (t := S8x2304x2x64) (s₁ := S8x256x2x64) (s₂ := S8x2048x2x64) 1 x y _ _ rfl (ix4 b ⟨k.1, hk⟩ g d) fun z => ?_
    fin_cases z <;> rfl
  case isFalse hk =>
    refine concatenate_pair_apply_right (t := S8x2304x2x64) (s₁ := S8x256x2x64) (s₂ := S8x2048x2x64) 1 x y _ _ rfl rfl
      (ix4 b ⟨k.1 - 256, by omega⟩ g d) (fun z hz => ?_) ?_
    · fin_cases z <;> first | rfl | exact absurd rfl hz
    · show k.1 - 256 + 256 = k.1
      omega

/-- The joined values. -/
theorem values_apply (b : Fin 8) (k : Fin 2304) (g : Fin 2) (d : Fin 64) :
    val_main_v1 (F := Ideal) v u (ix4 b k g d) = rows u v b g d k :=
  keys_apply v u b k g d

/-- A query head among the four a key/value head serves. -/
abbrev head (g : Fin 2) (h : Fin 4) : Fin 8 := ⟨g.1 * 4 + h.1, by omega⟩

theorem kv_head (g : Fin 2) (h : Fin 4) : kv (head g h) = g := Fin.ext (by simp only; omega)

/-- The scaled scores. -/
theorem scores_apply (b : Fin 8) (g : Fin 2) (h : Fin 4) (r : Fin 2048) (k : Fin 2304) :
    val_main_v6 (F := Ideal) q y x (ix5 b g h r k) = scores q x y b r (head g h) k := by
  rw [val_main_v6_apply, val_main_v4_apply, val_main_v3_apply, val_main_v5_apply, val_main_cst_apply]
  unfold scores
  refine congrArg (· * scale) (Finset.sum_congr rfl fun d _ => ?_)
  refine congrArg₂ (· * ·) ?_ ?_
  · rw [kv_head]
    refine Eq.trans (congrArg _ ?_) (keys_apply y x b k g d)
    funext z
    fin_cases z <;> rfl
  · rw [val_main_v2_apply]
    refine congrArg q ?_
    funext z
    apply Fin.ext
    match z with
    | ⟨0, _⟩ => show ((((b.1 * 2048 + r.1) * 2 + g.1) * 4 + h.1) * 64 + d.1) / 1048576 = b.1
                omega
    | ⟨1, _⟩ => show ((((b.1 * 2048 + r.1) * 2 + g.1) * 4 + h.1) * 64 + d.1) / 512 % 2048 = r.1
                omega
    | ⟨2, _⟩ => show ((((b.1 * 2048 + r.1) * 2 + g.1) * 4 + h.1) * 64 + d.1) / 64 % 8 = g.1 * 4 + h.1
                omega
    | ⟨3, _⟩ => show ((((b.1 * 2048 + r.1) * 2 + g.1) * 4 + h.1) * 64 + d.1) % 64 = d.1
                omega

/-- The largest score of a row. -/
theorem peak_apply (b : Fin 8) (g : Fin 2) (h : Fin 4) (r : Fin 2048) :
    val_main_v9 (F := Ideal) q y x (ix4 b g h r) = top (scores q x y b r (head g h)) := by
  rw [val_main_v9_apply, val_main_v8_apply, val_main_cst_1_apply]
  refine (congrArg₂ max neg_inf ?_).trans (bot_sup_eq _)
  refine (host_max5 _ _ _ (by decide) _ neg_inf _).trans ?_
  exact top_congr fun k => scores_apply q y x b g h r k

/-- The weights. -/
theorem weight_apply (b : Fin 8) (g : Fin 2) (h : Fin 4) (r : Fin 2048) (k : Fin 2304) :
    val_main_v13 (F := Ideal) q y x (ix5 b g h r k)
      = Ideal.exp (scores q x y b r (head g h) k - top (scores q x y b r (head g h))) := by
  rw [val_main_v13_apply, val_main_v12_apply, val_main_v11_apply, val_main_v10_apply, scores_apply]
  refine congrArg (fun z => Ideal.exp (scores q x y b r (head g h) k - z)) ?_
  refine Eq.trans (congrArg _ ?_) (peak_apply q y x b g h r)
  funext z
  fin_cases z <;> rfl

/-- The sum of the weights. -/
theorem total_apply (b : Fin 8) (g : Fin 2) (h : Fin 4) (r : Fin 2048) :
    val_main_v14 (F := Ideal) q y x (ix4 b g h r)
      = ∑ k, Ideal.exp (scores q x y b r (head g h) k - top (scores q x y b r (head g h))) := by
  rw [val_main_v14_apply]
  refine (congrArg₂ (· + ·) (show _ = (0 : EReal) from ?_) (Finset.sum_congr rfl fun k _ => ?_)).trans (zero_add _)
  · exact (val_main_cst_2_apply _).trans (Ideal.ofBits_zero .f32)
  · refine Eq.trans (congrArg _ ?_) (weight_apply q y x b g h r k)
    funext z
    fin_cases z <;> rfl

/-- The weighted values. -/
theorem mix_apply (b : Fin 8) (g : Fin 2) (d : Fin 64) (h : Fin 4) (r : Fin 2048) :
    val_main_v18 (F := Ideal) q y v x u (ix5 b g d h r)
      = ∑ k, rows u v b g d k * Ideal.div (Ideal.exp (scores q x y b r (head g h) k - top (scores q x y b r (head g h))))
          (∑ k, Ideal.exp (scores q x y b r (head g h) k - top (scores q x y b r (head g h)))) := by
  rw [val_main_v18_apply]
  refine Finset.sum_congr rfl fun k _ => congrArg₂ (· * ·) ?_ ?_
  · refine Eq.trans (congrArg _ ?_) (values_apply v u b k g d)
    funext z
    fin_cases z <;> rfl
  · rw [val_main_v17_apply, val_main_v16_apply, val_main_v15_apply]
    refine congrArg₂ Ideal.div ?_ ?_
    · refine Eq.trans (congrArg _ ?_) (weight_apply q y x b g h r k)
      funext z
      fin_cases z <;> rfl
    · refine Eq.trans (congrArg _ ?_) (total_apply q y x b g h r)
      funext z
      fin_cases z <;> rfl

/-- The result, where queries and keys are finite. -/
theorem result_at (hq : ∀ i, Fin' (q i)) (hx : ∀ i, Fin' (x i)) (hy : ∀ i, Fin' (y i))
    (b : Fin 8) (r : Fin 2048) (l : Fin 512) :
    val_main_v21 (F := Ideal) q y v x u (ix3 b r l)
      = attend q y v x u b r ⟨l.1 / 64, by omega⟩ ⟨l.1 % 64, Nat.mod_lt _ (by norm_num)⟩ := by
  have e : (⟨l.1 / 64, by omega⟩ : Fin 8) = head ⟨l.1 / 256, by omega⟩ ⟨l.1 / 64 % 4, by omega⟩ :=
    Fin.ext (by show l.1 / 64 = l.1 / 256 * 4 + l.1 / 64 % 4; omega)
  rw [attend_eq q y v x u hq hx hy, val_main_v21_apply]
  refine (val_main_v20_apply (F := Ideal) q y v x u (ix3 b r l)).trans ?_
  rw [val_main_v19_apply, e, kv_head]
  refine Eq.trans (congrArg _ ?_) (mix_apply q y v x u b ⟨l.1 / 256, by omega⟩ ⟨l.1 % 64, by omega⟩ ⟨l.1 / 64 % 4, by omega⟩ r)
  funext z
  apply Fin.ext
  match z with
  | ⟨0, _⟩ => show ((b.1 * 2048 + r.1) * 512 + l.1) / 1048576 = b.1
              omega
  | ⟨1, _⟩ => show ((b.1 * 2048 + r.1) * 512 + l.1) / 256 % 2 = l.1 / 256
              omega
  | ⟨2, _⟩ => show ((b.1 * 2048 + r.1) * 512 + l.1) % 64 = l.1 % 64
              omega
  | ⟨3, _⟩ => show ((b.1 * 2048 + r.1) * 512 + l.1) / 64 % 4 = l.1 / 64 % 4
              omega
  | ⟨4, _⟩ => show ((b.1 * 2048 + r.1) * 512 + l.1) / 512 % 2048 = r.1
              omega

theorem result_apply (hq : ∀ i, Fin' (q i)) (hx : ∀ i, Fin' (x i)) (hy : ∀ i, Fin' (y i)) (i : S8x2048x512.Idx) :
    val_main_v21 (F := Ideal) q y v x u i = attend q y v x u (i 0) (i 1)
      ⟨(i 2).1 / 64, by have : (i 2).1 < 512 := (i 2).2; omega⟩ ⟨(i 2).1 % 64, Nat.mod_lt _ (by norm_num)⟩ :=
  (congrArg _ (eq_ix3 (n0 := 8) (n1 := 2048) (n2 := 512) i)).trans (result_at q y v x u hq hx hy (i 0) (i 1) (i 2))

end Cert.ReferenceIdeal.Attn
-- ==== Proof.Common.Finite.lean ====
module

public import proofs.«01_k».proof.Proof.Common.Reads

/-!
# Finiteness, from the comparison a precondition prints

A precondition says of an array that the magnitude of each entry is below infinity.
-/

@[expose] public section

namespace Cert.Common

open Idealize.ShloMosaic

theorem inf_top : Ideal.ofBits .f32 0x7F800000#32 = ⊤ := by
  simp [Ideal.ofBits, Ideal.ieee]

theorem fin_of_pre {s : Shape} (x : FVec Ideal s .f32) (h : (⟨0, ![]⟩ : Shape).BroadcastsInDim s (![] : Fin 0 → Fin s.rank))
    (H : cmpf .olt (Host.absf x) (broadcastInDim s ![] h (constant ⟨0, ![]⟩ .f32 0x7F800000#32)) = fun _ => 1#1) (i : s.Idx) :
    Fin' (x i) := by
  have e := congrFun H i
  have e' : Ideal.cmp .olt (max (x i) (-(x i))) (Ideal.ofBits .f32 0x7F800000#32) = 1#1 := e
  rw [inf_top] at e'
  refine Fin'.of_abs ?_
  by_contra hn
  simp [Ideal.cmp, hn] at e'

end Cert.Common
-- ==== Proof.Attn.Claim.lean ====
module

public import proofs.«01_k».proof.Defs
public import proofs.«01_k».proof.Proof.Attn.Value
public import proofs.«01_k».proof.Proof.Attn.Ref
public import proofs.«01_k».proof.Proof.Common.Finite
public import proofs.«01_k».proof.Proof.Gen.Pre_finite_scores
public import proofs.«01_k».proof.Proof.Gen.ReferenceIdeal.Run
public import Idealize.ShloMosaic.Lib.Quiescent

/-!
# The claims about the attention call

The call and the reference both end with the array of the formula `attend`.
-/

@[expose] public section

noncomputable section

namespace Cert.Attn

open Idealize.ShloMosaic Idealize.SL.Sem Cert.Common

/-- The reference leaves its arguments. -/
theorem frame_ref : Cert.quiescent_ReferenceIdeal (hReferenceIdeal := Cert.ReferenceIdeal.Gen.facts) := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- Call and reference end with equal arrays. -/
theorem equal : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m ρ m' ρ' hpre hagree
  refine ⟨fun c => Cert.KernelIdeal.Attn.whole m c,
    (θ_run (Cert.KernelIdeal.defs (F := Ideal)) _ _).mono (fun r h c => ⟨(h c).1.trans (Cert.KernelIdeal.Attn.final m c), (h c).2⟩)
      (Cert.KernelIdeal.Value.run_blocks m ρ),
    (θ_run (Cert.ReferenceIdeal.defs (F := Ideal)) _ _).mono (fun r h c => ⟨(h c).1.trans ?_, (h c).2⟩)
      (Cert.ReferenceIdeal.Value.run (F := Ideal) m' ρ')⟩
  obtain ⟨h0, h1, h2, h3, h4⟩ := hagree c
  obtain ⟨p0, p1, p3⟩ := hpre c
  rw [h0, h1, h2, h3, h4]
  refine (Cert.ReferenceIdeal.Read.val_main_v21_eq _ _ _ _ _).trans (funext fun i => ?_)
  exact Cert.ReferenceIdeal.Attn.result_apply _ _ _ _ _ (fin_of_pre _ _ p0) (fin_of_pre _ _ p3) (fin_of_pre _ _ p1) i

end Cert.Attn
-- ==== Proof.Experts.Spec.lean ====
module

public import Idealize.ShloMosaic.PureOps.Ideal

/-!
# One token through one expert

The gate and up projections, the gate's SiLU, and the down projection.
-/

@[expose] public section

noncomputable section

namespace Cert.Moe

open Idealize.ShloMosaic

/-- A token times a matrix, at column `f`. -/
def proj (x : Fin 1024 → EReal) (w : Fin 1024 → Fin 1024 → EReal) (f : Fin 1024) : EReal := ∑ k, x k * w k f

/-- Entry `f` of the expert's hidden layer. -/
def swiglu (x : Fin 1024 → EReal) (g u : Fin 1024 → Fin 1024 → EReal) (f : Fin 1024) : EReal :=
  proj x g f * Ideal.logistic (proj x g f) * proj x u f

/-- Entry `d` of the expert's result. -/
def ffn (x : Fin 1024 → EReal) (g u w : Fin 1024 → Fin 1024 → EReal) (d : Fin 1024) : EReal := proj (swiglu x g u) w d

end Cert.Moe
-- ==== Proof.Experts.Body.lean ====
module

public import proofs.«01_k».proof.Proof.Gen.ExpertsIdeal.Skeleton
public import proofs.«01_k».proof.Proof.Experts.Spec
public import Idealize.ShloMosaic.Lib.Pointwise

/-!
# What one grid step of the experts call computes

Both token sets lie one under the other, 1024 rows and 128 rows; the body works on two halves
of 576 rows. Every row of the product is its token through the expert.
-/

@[expose] public section

noncomputable section

namespace Cert.ExpertsIdeal.Body

open Idealize.ShloMosaic Cert.ExpertsIdeal.Gen Cert.Moe

/-- Two blocks of rows one under the other. -/
theorem under_apply {α : Type} {n m : ℕ} (x : (⟨2, ![n, 1024]⟩ : Shape).Idx → α) (y : (⟨2, ![m, 1024]⟩ : Shape).Idx → α)
    (h : Shape.Concatenates ([⟨⟨2, ![n, 1024]⟩, x⟩, ⟨⟨2, ![m, 1024]⟩, y⟩].map
      (fun p : (s : Shape) × (s.Idx → α) => p.1)) S1152x1024 0) (hnm : n + m = 1152) (r : Fin 1152) (l : Fin 1024) :
    concatenate S1152x1024 0 [⟨⟨2, ![n, 1024]⟩, x⟩, ⟨⟨2, ![m, 1024]⟩, y⟩] h (ix2 r l)
      = if hr : r.1 < n then x (ix2 ⟨r.1, hr⟩ l) else y (ix2 ⟨r.1 - n, by omega⟩ l) := by
  split
  case isTrue hr =>
    refine concatenate_pair_apply_left (t := S1152x1024) (s₁ := ⟨2, ![n, 1024]⟩) (s₂ := ⟨2, ![m, 1024]⟩) 0 x y _ _ rfl (ix2 ⟨r.1, hr⟩ l) fun z => ?_
    fin_cases z <;> rfl
  case isFalse hr =>
    refine concatenate_pair_apply_right (t := S1152x1024) (s₁ := ⟨2, ![n, 1024]⟩) (s₂ := ⟨2, ![m, 1024]⟩) 0 x y _ _ rfl rfl
      (ix2 ⟨r.1 - n, by omega⟩ l) (fun z hz => ?_) ?_
    · fin_cases z <;> first | rfl | exact absurd rfl hz
    · show r.1 - n + n = r.1
      omega

/-- The token at row `r` of the joined sets. -/
def token (x : Vec Ideal S4x256x1024 .bf16) (y : Vec Ideal S4x32x1024 .bf16) (r : Fin 1152) (k : Fin 1024) : EReal :=
  if h : r.1 < 1024 then x (ix3 ⟨r.1 / 256, by omega⟩ ⟨r.1 % 256, by omega⟩ k)
  else y (ix3 ⟨(r.1 - 1024) / 32, by omega⟩ ⟨(r.1 - 1024) % 32, by omega⟩ k)

/-- Both token sets one under the other. -/
def joined (x : Vec Ideal S4x256x1024 .bf16) (y : Vec Ideal S4x32x1024 .bf16) : FVec Ideal S1152x1024 .bf16 :=
  concatenate S1152x1024 0 [⟨S1024x1024, shapeCast S1024x1024 x shapeCasts_S4x256x1024_S1024x1024⟩,
    ⟨S128x1024, shapeCast S128x1024 y shapeCasts_S4x32x1024_S128x1024⟩] concatenates_S1024x1024_S128x1024_S1152x1024_d0

theorem joined_apply (x : Vec Ideal S4x256x1024 .bf16) (y : Vec Ideal S4x32x1024 .bf16) (r : Fin 1152) (k : Fin 1024) :
    joined x y (ix2 r k) = token x y r k := by
  unfold joined token
  refine (under_apply (n := 1024) (m := 128) _ _ _ rfl r k).trans ?_
  split <;> pointwise

/-- A weight block as a matrix. -/
def weight (w : Vec Ideal S1x1x1024x1024 .f32) : FVec Ideal S1024x1024 .bf16 :=
  truncf .bf16 (shapeCast S1024x1024 w shapeCasts_S1x1x1024x1024_S1024x1024) bitsLt_bf16_f32

theorem weight_apply (w : Vec Ideal S1x1x1024x1024 .f32) (k f : Fin 1024) : weight w (ix2 k f) = w (ix4 0 0 k f) := by
  unfold weight
  pointwise

/-- Half the rows times a matrix. -/
def times (x : FVec Ideal S576x1024 .bf16) (w : FVec Ideal S1024x1024 .bf16) : FVec Ideal S576x1024 .f32 :=
  matmul dot_S576x1024_S1024x1024_S576x1024_1_0_0_1_n_n none x w (constant S576x1024 .f32 0x00000000#32)

theorem times_apply (x : FVec Ideal S576x1024 .bf16) (w : FVec Ideal S1024x1024 .bf16) (r : Fin 576) (f : Fin 1024) :
    times x w (ix2 r f) = proj (fun k => x (ix2 r k)) (fun k f => w (ix2 k f)) f := by
  unfold times proj
  pointwise

/-- Half the rows through the expert. -/
def half (x : FVec Ideal S576x1024 .bf16) (g u w : FVec Ideal S1024x1024 .bf16) : FVec Ideal S576x1024 .bf16 :=
  truncf .bf16 (times (truncf .bf16 (mulf (mulf (times x g) (logistic (times x g))) (times x u)) bitsLt_bf16_f32) w) bitsLt_bf16_f32

theorem half_apply (x : FVec Ideal S576x1024 .bf16) (g u w : FVec Ideal S1024x1024 .bf16) (r : Fin 576) (d : Fin 1024) :
    half x g u w (ix2 r d) = ffn (fun k => x (ix2 r k)) (fun k f => g (ix2 k f)) (fun k f => u (ix2 k f)) (fun k f => w (ix2 k f)) d := by
  unfold half ffn
  refine (times_apply _ w r d).trans ?_
  refine congrArg (fun z => proj z (fun k f => w (ix2 k f)) d) (funext fun f => ?_)
  unfold swiglu
  rw [← times_apply x g r f, ← times_apply x u r f]
  rfl

/-- The body's product, as its two halves. -/
theorem pay3_eq (x : Vec Ideal S4x256x1024 .bf16) (y : Vec Ideal S4x32x1024 .bf16) (g u w : Vec Ideal S1x1x1024x1024 .f32) :
    k0_pay3 x y g u w = concatenate S1152x1024 0
      [⟨S576x1024, half (extractStridedSlice S576x1024 ![0, 0] (joined x y) slices_S1152x1024_o0_0_S576x1024) (weight g) (weight u) (weight w)⟩,
       ⟨S576x1024, half (extractStridedSlice S576x1024 ![576, 0] (joined x y) slices_S1152x1024_o576_0_S576x1024) (weight g) (weight u) (weight w)⟩]
      concatenates_S576x1024_S576x1024_S1152x1024_d0 := rfl

/-- Every row of the product is its token through the expert. -/
theorem pay3_apply (x : Vec Ideal S4x256x1024 .bf16) (y : Vec Ideal S4x32x1024 .bf16) (g u w : Vec Ideal S1x1x1024x1024 .f32)
    (r : Fin 1152) (d : Fin 1024) :
    k0_pay3 x y g u w (ix2 r d)
      = ffn (token x y r) (fun k f => g (ix4 0 0 k f)) (fun k f => u (ix4 0 0 k f)) (fun k f => w (ix4 0 0 k f)) d := by
  have lo : ∀ (r : Fin 576) (k : Fin 1024), extractStridedSlice S576x1024 ![0, 0] (joined x y) slices_S1152x1024_o0_0_S576x1024 (ix2 r k)
      = joined x y (ix2 ⟨r.1, by omega⟩ k) := by
    intro r k
    generalize joined x y = z
    pointwise
  have hi : ∀ (r : Fin 576) (k : Fin 1024), extractStridedSlice S576x1024 ![576, 0] (joined x y) slices_S1152x1024_o576_0_S576x1024 (ix2 r k)
      = joined x y (ix2 ⟨576 + r.1, by omega⟩ k) := by
    intro r k
    generalize joined x y = z
    pointwise
  rw [pay3_eq]
  refine (under_apply (n := 576) (m := 576) _ _ _ rfl r d).trans ?_
  split
  case isTrue hr =>
    rw [half_apply]
    simp only [lo, joined_apply, weight_apply]
  case isFalse hr =>
    have e : (⟨576 + (r.1 - 576), by omega⟩ : Fin 1152) = r := Fin.ext (by show 576 + (r.1 - 576) = r.1; omega)
    rw [half_apply]
    simp only [hi, joined_apply, weight_apply, e]

/-- The rows written for the first set. -/
theorem pay1_apply (v : FVec Ideal S1024x1024 .bf16) (b : Fin 4) (r : Fin 256) (d : Fin 1024) :
    k0_pay1 v (ix3 b r d) = v (ix2 ⟨b.1 * 256 + r.1, by omega⟩ d) := by
  unfold k0_pay1
  pointwise

theorem pay4_apply (x : Vec Ideal S4x256x1024 .bf16) (y : Vec Ideal S4x32x1024 .bf16) (g u w : Vec Ideal S1x1x1024x1024 .f32)
    (r d : Fin 1024) : k0_pay4 x y g u w (ix2 r d) = k0_pay3 x y g u w (ix2 ⟨r.1, by omega⟩ d) := by
  unfold k0_pay4
  generalize k0_pay3 x y g u w = v
  pointwise

/-- The rows written for the second set. -/
theorem pay2_apply (v : FVec Ideal S1152x1024 .bf16) (b : Fin 4) (r : Fin 32) (d : Fin 1024) :
    k0_pay2 v (ix3 b r d) = v (ix2 ⟨1024 + (b.1 * 32 + r.1), by omega⟩ d) := by
  unfold k0_pay2
  pointwise

end Cert.ExpertsIdeal.Body
-- ==== Proof.Experts.Run.lean ====
module

public import proofs.«01_k».proof.Proof.Gen.ExpertsIdeal.Frame
public import Idealize.ShloMosaic.Lib.Pipeline.Value

/-!
# The run of the experts call

What a grid point writes back, and the run with both result arrays named.
-/

@[expose] public section

noncomputable section

namespace Cert.ExpertsIdeal.Run

open Cert.ExpertsIdeal Cert.ExpertsIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

end Cert.ExpertsIdeal.Run
-- ==== Proof.Experts.Value.lean ====
module

public import proofs.«01_k».proof.Proof.Experts.Body
public import proofs.«01_k».proof.Proof.Experts.Run

/-!
# The experts call computes the formula

Grid step `t` is expert `t/2`, batch entries from `t%2*4`. Its blocks are those of the two
arrays `whole5` and `whole6`, which they tile.
-/

@[expose] public section

noncomputable section

namespace Cert.ExpertsIdeal.Moe

open Idealize.ShloMosaic Idealize.ShloMosaic.TcCoe Idealize.SL.Sem Cert.ExpertsIdeal.Gen Cert.ExpertsIdeal.Body Cert.Moe

variable (m : (ℓ : Loc nD τ sig) → Buf (Elt Ideal) ℓ)

/-- The token sets and the weights as functions of their indices. -/
abbrev X0 (c : Dev nD) : S8x4096x1024.Idx → EReal := m ((c : Thread nD τ).loc main_arg0)
abbrev X1 (c : Dev nD) : S8x512x1024.Idx → EReal := m ((c : Thread nD τ).loc main_arg1)
abbrev G (c : Dev nD) : S2x16x1024x1024.Idx → EReal := m ((c : Thread nD τ).loc main_arg2)
abbrev U (c : Dev nD) : S2x16x1024x1024.Idx → EReal := m ((c : Thread nD τ).loc main_arg3)
abbrev W (c : Dev nD) : S2x16x1024x1024.Idx → EReal := m ((c : Thread nD τ).loc main_arg4)

/-- Expert `e`'s matrix in the first layer. -/
abbrev mat (w : S2x16x1024x1024.Idx → EReal) (e : Fin 16) : Fin 1024 → Fin 1024 → EReal := fun k f => w (ix4 0 e k f)

/-- The batch entry a step's entry is. -/
abbrev entry (t : Fin cfg0.N) (b : Fin 4) : Fin 8 := ⟨t.val % 2 * 4 + b.1, by omega⟩

theorem index0 : ∀ t : Fin cfg0.N, win0_0.index t 0 = t.val % 2 ∧ win0_0.index t 1 = t.val / 2 ∧ win0_0.index t 2 = 0 :=
  (by decide +kernel : ∀ t : Fin grid0.N, win0_0.index t 0 = t.val % 2 ∧ win0_0.index t 1 = t.val / 2 ∧ win0_0.index t 2 = 0)
theorem index1 : ∀ t : Fin cfg0.N, win0_1.index t 0 = t.val % 2 ∧ win0_1.index t 1 = t.val / 2 ∧ win0_1.index t 2 = 0 :=
  (by decide +kernel : ∀ t : Fin grid0.N, win0_1.index t 0 = t.val % 2 ∧ win0_1.index t 1 = t.val / 2 ∧ win0_1.index t 2 = 0)
theorem index2 : ∀ t : Fin cfg0.N, win0_2.index t 0 = 0 ∧ win0_2.index t 1 = t.val / 2 ∧ win0_2.index t 2 = 0 ∧ win0_2.index t 3 = 0 :=
  (by decide +kernel : ∀ t : Fin grid0.N, win0_2.index t 0 = 0 ∧ win0_2.index t 1 = t.val / 2 ∧ win0_2.index t 2 = 0 ∧ win0_2.index t 3 = 0)
theorem index3 : ∀ t : Fin cfg0.N, win0_3.index t 0 = 0 ∧ win0_3.index t 1 = t.val / 2 ∧ win0_3.index t 2 = 0 ∧ win0_3.index t 3 = 0 :=
  (by decide +kernel : ∀ t : Fin grid0.N, win0_3.index t 0 = 0 ∧ win0_3.index t 1 = t.val / 2 ∧ win0_3.index t 2 = 0 ∧ win0_3.index t 3 = 0)
theorem index4 : ∀ t : Fin cfg0.N, win0_4.index t 0 = 0 ∧ win0_4.index t 1 = t.val / 2 ∧ win0_4.index t 2 = 0 ∧ win0_4.index t 3 = 0 :=
  (by decide +kernel : ∀ t : Fin grid0.N, win0_4.index t 0 = 0 ∧ win0_4.index t 1 = t.val / 2 ∧ win0_4.index t 2 = 0 ∧ win0_4.index t 3 = 0)
theorem index5 : ∀ t : Fin cfg0.N, win0_5.index t 0 = t.val % 2 ∧ win0_5.index t 1 = t.val / 2 ∧ win0_5.index t 2 = 0 :=
  (by decide +kernel : ∀ t : Fin grid0.N, win0_5.index t 0 = t.val % 2 ∧ win0_5.index t 1 = t.val / 2 ∧ win0_5.index t 2 = 0)
theorem index6 : ∀ t : Fin cfg0.N, win0_6.index t 0 = t.val % 2 ∧ win0_6.index t 1 = t.val / 2 ∧ win0_6.index t 2 = 0 :=
  (by decide +kernel : ∀ t : Fin grid0.N, win0_6.index t 0 = t.val % 2 ∧ win0_6.index t 1 = t.val / 2 ∧ win0_6.index t 2 = 0)

/-- Window 0's block of any array. -/
theorem read0 (X : S8x4096x1024.Idx → EReal) (t : Fin cfg0.N) (ht : t.val / 2 < 16) (b : Fin 4) (r : Fin 256) (l : Fin 1024) :
    (((cfg0.win 0).blk t).view.read (Elt Ideal) X : S4x256x1024.Idx → EReal) (ix3 b r l)
      = X (ix3 (entry t b) ⟨t.val / 2 * 256 + r.1, by omega⟩ l) := by
  obtain ⟨h0, h1, h2⟩ := index0 t
  show X ((win0_0.rect t).emb _) = _
  refine congrArg X ?_
  funext a
  apply Fin.ext
  refine (win0_0.rect_emb_val t _ _).trans ?_
  match a with
  | ⟨0, _⟩ =>
      show win0_0.index t 0 * 4 + b.1 = t.val % 2 * 4 + b.1
      omega
  | ⟨1, _⟩ =>
      show win0_0.index t 1 * 256 + r.1 = t.val / 2 * 256 + r.1
      omega
  | ⟨2, _⟩ =>
      show win0_0.index t 2 * 1024 + l.1 = l.1
      omega

/-- Window 5's block of any array. -/
theorem read5 (X : S8x4096x1024.Idx → EReal) (t : Fin cfg0.N) (ht : t.val / 2 < 16) (b : Fin 4) (r : Fin 256) (l : Fin 1024) :
    (((cfg0.win 5).blk t).view.read (Elt Ideal) X : S4x256x1024.Idx → EReal) (ix3 b r l)
      = X (ix3 (entry t b) ⟨t.val / 2 * 256 + r.1, by omega⟩ l) := by
  obtain ⟨h0, h1, h2⟩ := index5 t
  show X ((win0_5.rect t).emb _) = _
  refine congrArg X ?_
  funext a
  apply Fin.ext
  refine (win0_5.rect_emb_val t _ _).trans ?_
  match a with
  | ⟨0, _⟩ =>
      show win0_5.index t 0 * 4 + b.1 = t.val % 2 * 4 + b.1
      omega
  | ⟨1, _⟩ =>
      show win0_5.index t 1 * 256 + r.1 = t.val / 2 * 256 + r.1
      omega
  | ⟨2, _⟩ =>
      show win0_5.index t 2 * 1024 + l.1 = l.1
      omega

/-- Window 1's block of any array. -/
theorem read1 (X : S8x512x1024.Idx → EReal) (t : Fin cfg0.N) (ht : t.val / 2 < 16) (b : Fin 4) (r : Fin 32) (l : Fin 1024) :
    (((cfg0.win 1).blk t).view.read (Elt Ideal) X : S4x32x1024.Idx → EReal) (ix3 b r l)
      = X (ix3 (entry t b) ⟨t.val / 2 * 32 + r.1, by omega⟩ l) := by
  obtain ⟨h0, h1, h2⟩ := index1 t
  show X ((win0_1.rect t).emb _) = _
  refine congrArg X ?_
  funext a
  apply Fin.ext
  refine (win0_1.rect_emb_val t _ _).trans ?_
  match a with
  | ⟨0, _⟩ =>
      show win0_1.index t 0 * 4 + b.1 = t.val % 2 * 4 + b.1
      omega
  | ⟨1, _⟩ =>
      show win0_1.index t 1 * 32 + r.1 = t.val / 2 * 32 + r.1
      omega
  | ⟨2, _⟩ =>
      show win0_1.index t 2 * 1024 + l.1 = l.1
      omega

/-- Window 6's block of any array. -/
theorem read6 (X : S8x512x1024.Idx → EReal) (t : Fin cfg0.N) (ht : t.val / 2 < 16) (b : Fin 4) (r : Fin 32) (l : Fin 1024) :
    (((cfg0.win 6).blk t).view.read (Elt Ideal) X : S4x32x1024.Idx → EReal) (ix3 b r l)
      = X (ix3 (entry t b) ⟨t.val / 2 * 32 + r.1, by omega⟩ l) := by
  obtain ⟨h0, h1, h2⟩ := index6 t
  show X ((win0_6.rect t).emb _) = _
  refine congrArg X ?_
  funext a
  apply Fin.ext
  refine (win0_6.rect_emb_val t _ _).trans ?_
  match a with
  | ⟨0, _⟩ =>
      show win0_6.index t 0 * 4 + b.1 = t.val % 2 * 4 + b.1
      omega
  | ⟨1, _⟩ =>
      show win0_6.index t 1 * 32 + r.1 = t.val / 2 * 32 + r.1
      omega
  | ⟨2, _⟩ =>
      show win0_6.index t 2 * 1024 + l.1 = l.1
      omega

/-- Window 2's block of any array. -/
theorem read2 (X : S2x16x1024x1024.Idx → EReal) (t : Fin cfg0.N) (ht : t.val / 2 < 16) (k f : Fin 1024) :
    (((cfg0.win 2).blk t).view.read (Elt Ideal) X : S1x1x1024x1024.Idx → EReal) (ix4 0 0 k f) = X (ix4 0 ⟨t.val / 2, ht⟩ k f) := by
  obtain ⟨h0, h1, h2, h3⟩ := index2 t
  show X ((win0_2.rect t).emb _) = _
  refine congrArg X ?_
  funext a
  apply Fin.ext
  refine (win0_2.rect_emb_val t _ _).trans ?_
  match a with
  | ⟨0, _⟩ =>
      show win0_2.index t 0 * 1 + 0 = 0
      omega
  | ⟨1, _⟩ =>
      show win0_2.index t 1 * 1 + 0 = t.val / 2
      omega
  | ⟨2, _⟩ =>
      show win0_2.index t 2 * 1024 + k.1 = k.1
      omega
  | ⟨3, _⟩ =>
      show win0_2.index t 3 * 1024 + f.1 = f.1
      omega

/-- Window 3's block of any array. -/
theorem read3 (X : S2x16x1024x1024.Idx → EReal) (t : Fin cfg0.N) (ht : t.val / 2 < 16) (k f : Fin 1024) :
    (((cfg0.win 3).blk t).view.read (Elt Ideal) X : S1x1x1024x1024.Idx → EReal) (ix4 0 0 k f) = X (ix4 0 ⟨t.val / 2, ht⟩ k f) := by
  obtain ⟨h0, h1, h2, h3⟩ := index3 t
  show X ((win0_3.rect t).emb _) = _
  refine congrArg X ?_
  funext a
  apply Fin.ext
  refine (win0_3.rect_emb_val t _ _).trans ?_
  match a with
  | ⟨0, _⟩ =>
      show win0_3.index t 0 * 1 + 0 = 0
      omega
  | ⟨1, _⟩ =>
      show win0_3.index t 1 * 1 + 0 = t.val / 2
      omega
  | ⟨2, _⟩ =>
      show win0_3.index t 2 * 1024 + k.1 = k.1
      omega
  | ⟨3, _⟩ =>
      show win0_3.index t 3 * 1024 + f.1 = f.1
      omega

/-- Window 4's block of any array. -/
theorem read4 (X : S2x16x1024x1024.Idx → EReal) (t : Fin cfg0.N) (ht : t.val / 2 < 16) (k f : Fin 1024) :
    (((cfg0.win 4).blk t).view.read (Elt Ideal) X : S1x1x1024x1024.Idx → EReal) (ix4 0 0 k f) = X (ix4 0 ⟨t.val / 2, ht⟩ k f) := by
  obtain ⟨h0, h1, h2, h3⟩ := index4 t
  show X ((win0_4.rect t).emb _) = _
  refine congrArg X ?_
  funext a
  apply Fin.ext
  refine (win0_4.rect_emb_val t _ _).trans ?_
  match a with
  | ⟨0, _⟩ =>
      show win0_4.index t 0 * 1 + 0 = 0
      omega
  | ⟨1, _⟩ =>
      show win0_4.index t 1 * 1 + 0 = t.val / 2
      omega
  | ⟨2, _⟩ =>
      show win0_4.index t 2 * 1024 + k.1 = k.1
      omega
  | ⟨3, _⟩ =>
      show win0_4.index t 3 * 1024 + f.1 = f.1
      omega

/-- What the body leaves in its first output, from its blocks. -/
theorem out5_apply (x : Vec Ideal S4x256x1024 .bf16) (y : Vec Ideal S4x32x1024 .bf16) (g u w : Vec Ideal S1x1x1024x1024 .f32)
    (b : Fin 4) (r : Fin 256) (d : Fin 1024) :
    out0_5 x y g u w (ix3 b r d)
      = ffn (fun k => x (ix3 b r k)) (fun k f => g (ix4 0 0 k f)) (fun k f => u (ix4 0 0 k f)) (fun k f => w (ix4 0 0 k f)) d := by
  have hz : (![0, 0, 0] : Fin 3 → Nat) = fun _ => 0 := by funext a; fin_cases a <;> rfl
  have hz' : (![0, 0, 0, 0] : Fin 4 → Nat) = fun _ => 0 := by funext a; fin_cases a <;> rfl
  unfold out0_5
  rw [View.canon_unit_zero hz]
  rw [show View.ld x r0_0 = x from View.ld_unit_zero hz _ x, show View.ld y r0_1 = y from View.ld_unit_zero hz _ y,
    show View.ld g r0_2 = g from View.ld_unit_zero hz' _ g, show View.ld u r0_2 = u from View.ld_unit_zero hz' _ u,
    show View.ld w r0_2 = w from View.ld_unit_zero hz' _ w]
  rw [pay1_apply, pay4_apply, pay3_apply]
  refine congrArg (fun z => ffn z _ _ _ d) (funext fun k => ?_)
  unfold token
  rw [dif_pos (by show b.1 * 256 + r.1 < 1024; omega)]
  refine congrArg x (congrArg₂ (fun a c => ix3 a c k) (Fin.ext ?_) (Fin.ext ?_))
  · show (b.1 * 256 + r.1) / 256 = b.1
    omega
  · show (b.1 * 256 + r.1) % 256 = r.1
    omega

/-- What the body leaves in its second output, from its blocks. -/
theorem out6_apply (x : Vec Ideal S4x256x1024 .bf16) (y : Vec Ideal S4x32x1024 .bf16) (g u w : Vec Ideal S1x1x1024x1024 .f32)
    (b : Fin 4) (r : Fin 32) (d : Fin 1024) :
    out0_6 x y g u w (ix3 b r d)
      = ffn (fun k => y (ix3 b r k)) (fun k f => g (ix4 0 0 k f)) (fun k f => u (ix4 0 0 k f)) (fun k f => w (ix4 0 0 k f)) d := by
  have hz : (![0, 0, 0] : Fin 3 → Nat) = fun _ => 0 := by funext a; fin_cases a <;> rfl
  have hz' : (![0, 0, 0, 0] : Fin 4 → Nat) = fun _ => 0 := by funext a; fin_cases a <;> rfl
  unfold out0_6
  rw [View.canon_unit_zero hz]
  rw [show View.ld x r0_0 = x from View.ld_unit_zero hz _ x, show View.ld y r0_1 = y from View.ld_unit_zero hz _ y,
    show View.ld g r0_2 = g from View.ld_unit_zero hz' _ g, show View.ld u r0_2 = u from View.ld_unit_zero hz' _ u,
    show View.ld w r0_2 = w from View.ld_unit_zero hz' _ w]
  rw [pay2_apply, pay3_apply]
  refine congrArg (fun z => ffn z _ _ _ d) (funext fun k => ?_)
  unfold token
  rw [dif_neg (by show ¬ 1024 + (b.1 * 32 + r.1) < 1024; omega)]
  refine congrArg y (congrArg₂ (fun a c => ix3 a c k) (Fin.ext ?_) (Fin.ext ?_))
  · show (1024 + (b.1 * 32 + r.1) - 1024) / 32 = b.1
    omega
  · show (1024 + (b.1 * 32 + r.1) - 1024) % 32 = r.1
    omega

/-- Result 0: token `n` of batch entry `b` through expert `n/256`. -/
def whole5 (c : Dev nD) : S8x4096x1024.Idx → EReal := fun i =>
  have h : (i 1).1 / 256 < 16 := by have : (i 1).1 < 4096 := (i 1).2; omega
  ffn (fun k => X0 m c (ix3 (i 0) (i 1) k)) (mat (G m c) ⟨(i 1).1 / 256, h⟩) (mat (U m c) ⟨(i 1).1 / 256, h⟩)
    (mat (W m c) ⟨(i 1).1 / 256, h⟩) (i 2)

/-- What a step writes back is its block of the whole. -/
theorem flushed5_eq (c : Dev nD) (t : Fin cfg0.N) :
    (dats m 0 c).flushed 5 t = ((cfg0.win 5).blk t).view.read (Elt Ideal) (whole5 m c) := by
  have ht : t.val / 2 < 16 := by have : t.val < 32 := t.2.trans_eq N_0; omega
  rw [Run.flushed5]
  have hmain : ∀ (b : Fin 4) (r : Fin 256) (d : Fin 1024),
      out0_5 (iblk m c 0 t) (iblk m c 1 t) (iblk m c 2 t) (iblk m c 3 t) (iblk m c 4 t) (ix3 b r d)
        = (((cfg0.win 5).blk t).view.read (Elt Ideal) (whole5 m c) : S4x256x1024.Idx → EReal) (ix3 b r d) := by
    intro b r d
    refine (out5_apply _ _ _ _ _ b r d).trans (Eq.trans ?_ (read5 (whole5 m c) t ht b r d).symm)
    have he : (⟨(t.val / 2 * 256 + r.1) / 256, by omega⟩ : Fin 16) = ⟨t.val / 2, ht⟩ := Fin.ext (by show (t.val / 2 * 256 + r.1) / 256 = t.val / 2; omega)
    have hx : (fun k => (iblk m c 0 t : S4x256x1024.Idx → EReal) (ix3 b r k))
        = fun k => X0 m c (ix3 (entry t b) ⟨t.val / 2 * 256 + r.1, by omega⟩ k) := funext fun k => read0 (X0 m c) t ht b r k
    have hg : (fun k f => (iblk m c 2 t : S1x1x1024x1024.Idx → EReal) (ix4 0 0 k f)) = mat (G m c) ⟨t.val / 2, ht⟩ :=
      funext fun k => funext fun f => read2 (G m c) t ht k f
    have hu : (fun k f => (iblk m c 3 t : S1x1x1024x1024.Idx → EReal) (ix4 0 0 k f)) = mat (U m c) ⟨t.val / 2, ht⟩ :=
      funext fun k => funext fun f => read3 (U m c) t ht k f
    have hw : (fun k f => (iblk m c 4 t : S1x1x1024x1024.Idx → EReal) (ix4 0 0 k f)) = mat (W m c) ⟨t.val / 2, ht⟩ :=
      funext fun k => funext fun f => read4 (W m c) t ht k f
    rw [hx, hg, hu, hw, ← he]
    rfl
  funext j
  have hj : ∀ j : S4x256x1024.Idx, out0_5 (iblk m c 0 t) (iblk m c 1 t) (iblk m c 2 t) (iblk m c 3 t) (iblk m c 4 t) j
      = (((cfg0.win 5).blk t).view.read (Elt Ideal) (whole5 m c) : S4x256x1024.Idx → EReal) j := by
    intro j
    have hj : j = ix3 (j 0) (j 1) (j 2) := eq_ix3 (n0 := 4) (n1 := 256) (n2 := 1024) j
    exact (congrArg _ hj).trans ((hmain (j 0) (j 1) (j 2)).trans (congrArg _ hj.symm))
  exact hj j

/-- Every index of the result lies in some step's block. -/
theorem cover5 (i : S8x4096x1024.Idx) :
    ∃ t : Fin cfg0.N, (cfg0.win 5).flush t = true ∧ i ∈ ((cfg0.win 5).blk t).view.set := by
  have h0 : (i 0).1 < 8 := (i 0).2
  have h1 : (i 1).1 < 4096 := (i 1).2
  have h2 : (i 2).1 < 1024 := (i 2).2
  refine ⟨⟨(i 1).1 / 256 * 2 + (i 0).1 / 4, by rw [show cfg0.N = 32 from N_0]; omega⟩, flush0_5 _, ?_⟩
  generalize ht : (⟨(i 1).1 / 256 * 2 + (i 0).1 / 4, _⟩ : Fin cfg0.N) = t
  have hv : t.1 = (i 1).1 / 256 * 2 + (i 0).1 / 4 := by rw [← ht]
  obtain ⟨e0, e1, e2⟩ := index5 t
  show i ∈ ((View.whole main_v0_0).slice (win0_5.rect t)).set
  rw [View.set_slice_whole, Rect.mem_set_unit]
  intro a
  match a with
  | ⟨0, _⟩ => show win0_5.index t 0 * 4 ≤ (i 0).1 ∧ (i 0).1 < win0_5.index t 0 * 4 + 4
              omega
  | ⟨1, _⟩ => show win0_5.index t 1 * 256 ≤ (i 1).1 ∧ (i 1).1 < win0_5.index t 1 * 256 + 256
              omega
  | ⟨2, _⟩ => show win0_5.index t 2 * 1024 ≤ (i 2).1 ∧ (i 2).1 < win0_5.index t 2 * 1024 + 1024
              omega

theorem final5 (c : Dev nD) : (dats m 0 c).arrAt 5 cfg0.N = whole5 m c :=
  (dats m 0 c).arrAt_eq_of_cover 5 (whole5 m c) (fun t _ => flushed5_eq m c t) cover5

/-- Result 1: token `n` of batch entry `b` through expert `n/32`. -/
def whole6 (c : Dev nD) : S8x512x1024.Idx → EReal := fun i =>
  have h : (i 1).1 / 32 < 16 := by have : (i 1).1 < 512 := (i 1).2; omega
  ffn (fun k => X1 m c (ix3 (i 0) (i 1) k)) (mat (G m c) ⟨(i 1).1 / 32, h⟩) (mat (U m c) ⟨(i 1).1 / 32, h⟩)
    (mat (W m c) ⟨(i 1).1 / 32, h⟩) (i 2)

/-- What a step writes back is its block of the whole. -/
theorem flushed6_eq (c : Dev nD) (t : Fin cfg0.N) :
    (dats m 0 c).flushed 6 t = ((cfg0.win 6).blk t).view.read (Elt Ideal) (whole6 m c) := by
  have ht : t.val / 2 < 16 := by have : t.val < 32 := t.2.trans_eq N_0; omega
  rw [Run.flushed6]
  have hmain : ∀ (b : Fin 4) (r : Fin 32) (d : Fin 1024),
      out0_6 (iblk m c 0 t) (iblk m c 1 t) (iblk m c 2 t) (iblk m c 3 t) (iblk m c 4 t) (ix3 b r d)
        = (((cfg0.win 6).blk t).view.read (Elt Ideal) (whole6 m c) : S4x32x1024.Idx → EReal) (ix3 b r d) := by
    intro b r d
    refine (out6_apply _ _ _ _ _ b r d).trans (Eq.trans ?_ (read6 (whole6 m c) t ht b r d).symm)
    have he : (⟨(t.val / 2 * 32 + r.1) / 32, by omega⟩ : Fin 16) = ⟨t.val / 2, ht⟩ := Fin.ext (by show (t.val / 2 * 32 + r.1) / 32 = t.val / 2; omega)
    have hx : (fun k => (iblk m c 1 t : S4x32x1024.Idx → EReal) (ix3 b r k))
        = fun k => X1 m c (ix3 (entry t b) ⟨t.val / 2 * 32 + r.1, by omega⟩ k) := funext fun k => read1 (X1 m c) t ht b r k
    have hg : (fun k f => (iblk m c 2 t : S1x1x1024x1024.Idx → EReal) (ix4 0 0 k f)) = mat (G m c) ⟨t.val / 2, ht⟩ :=
      funext fun k => funext fun f => read2 (G m c) t ht k f
    have hu : (fun k f => (iblk m c 3 t : S1x1x1024x1024.Idx → EReal) (ix4 0 0 k f)) = mat (U m c) ⟨t.val / 2, ht⟩ :=
      funext fun k => funext fun f => read3 (U m c) t ht k f
    have hw : (fun k f => (iblk m c 4 t : S1x1x1024x1024.Idx → EReal) (ix4 0 0 k f)) = mat (W m c) ⟨t.val / 2, ht⟩ :=
      funext fun k => funext fun f => read4 (W m c) t ht k f
    rw [hx, hg, hu, hw, ← he]
    rfl
  funext j
  have hj : ∀ j : S4x32x1024.Idx, out0_6 (iblk m c 0 t) (iblk m c 1 t) (iblk m c 2 t) (iblk m c 3 t) (iblk m c 4 t) j
      = (((cfg0.win 6).blk t).view.read (Elt Ideal) (whole6 m c) : S4x32x1024.Idx → EReal) j := by
    intro j
    have hj : j = ix3 (j 0) (j 1) (j 2) := eq_ix3 (n0 := 4) (n1 := 32) (n2 := 1024) j
    exact (congrArg _ hj).trans ((hmain (j 0) (j 1) (j 2)).trans (congrArg _ hj.symm))
  exact hj j

/-- Every index of the result lies in some step's block. -/
theorem cover6 (i : S8x512x1024.Idx) :
    ∃ t : Fin cfg0.N, (cfg0.win 6).flush t = true ∧ i ∈ ((cfg0.win 6).blk t).view.set := by
  have h0 : (i 0).1 < 8 := (i 0).2
  have h1 : (i 1).1 < 512 := (i 1).2
  have h2 : (i 2).1 < 1024 := (i 2).2
  refine ⟨⟨(i 1).1 / 32 * 2 + (i 0).1 / 4, by rw [show cfg0.N = 32 from N_0]; omega⟩, flush0_6 _, ?_⟩
  generalize ht : (⟨(i 1).1 / 32 * 2 + (i 0).1 / 4, _⟩ : Fin cfg0.N) = t
  have hv : t.1 = (i 1).1 / 32 * 2 + (i 0).1 / 4 := by rw [← ht]
  obtain ⟨e0, e1, e2⟩ := index6 t
  show i ∈ ((View.whole main_v0_1).slice (win0_6.rect t)).set
  rw [View.set_slice_whole, Rect.mem_set_unit]
  intro a
  match a with
  | ⟨0, _⟩ => show win0_6.index t 0 * 4 ≤ (i 0).1 ∧ (i 0).1 < win0_6.index t 0 * 4 + 4
              omega
  | ⟨1, _⟩ => show win0_6.index t 1 * 32 ≤ (i 1).1 ∧ (i 1).1 < win0_6.index t 1 * 32 + 32
              omega
  | ⟨2, _⟩ => show win0_6.index t 2 * 1024 ≤ (i 2).1 ∧ (i 2).1 < win0_6.index t 2 * 1024 + 1024
              omega

theorem final6 (c : Dev nD) : (dats m 0 c).arrAt 6 cfg0.N = whole6 m c :=
  (dats m 0 c).arrAt_eq_of_cover 6 (whole6 m c) (fun t _ => flushed6_eq m c t) cover6

end Cert.ExpertsIdeal.Moe
-- ==== Proof.Experts.Ref.lean ====
module

public import proofs.«01_k».proof.Proof.Experts.Spec
public import proofs.«01_k».proof.Proof.Gen.ExpertsRefIdeal.Read
public import Idealize.ShloMosaic.Lib.Pointwise
public import Idealize.ShloMosaic.Lib.IdealHost

/-!
# The reference experts are the formula

The stages of the reference read at an index, for each of the two token sets.
-/

@[expose] public section

noncomputable section

namespace Cert.ExpertsRefIdeal.Moe

open Idealize.ShloMosaic Cert.ExpertsRefIdeal Cert.ExpertsRefIdeal.Gen Cert.ExpertsRefIdeal.Read Cert.Moe

variable (x : S8x4096x1024.Idx → EReal) (y : S8x512x1024.Idx → EReal) (g u w : S2x16x1024x1024.Idx → EReal)

/-- Expert `e`'s matrix in the first layer. -/
abbrev mat (w : S2x16x1024x1024.Idx → EReal) (e : Fin 16) : Fin 1024 → Fin 1024 → EReal := fun k f => w (ix4 0 e k f)

theorem weight3 (e : Fin 16) (k f : Fin 1024) : val_main_v3 (F := Ideal) g (ix3 e k f) = mat g e k f := by
  rw [val_main_v3_apply, val_main_v2_apply]
  refine congrArg g ?_
  funext z
  apply Fin.ext
  match z with
  | ⟨0, _⟩ => rfl
  | ⟨1, _⟩ => show ((e.1 * 1024 + k.1) * 1024 + f.1) / 1048576 % 16 = e.1
              omega
  | ⟨2, _⟩ => show ((e.1 * 1024 + k.1) * 1024 + f.1) / 1024 % 1024 = k.1
              omega
  | ⟨3, _⟩ => show ((e.1 * 1024 + k.1) * 1024 + f.1) % 1024 = f.1
              omega

theorem weight5 (e : Fin 16) (k f : Fin 1024) : val_main_v5 (F := Ideal) u (ix3 e k f) = mat u e k f := by
  rw [val_main_v5_apply, val_main_v4_apply]
  refine congrArg u ?_
  funext z
  apply Fin.ext
  match z with
  | ⟨0, _⟩ => rfl
  | ⟨1, _⟩ => show ((e.1 * 1024 + k.1) * 1024 + f.1) / 1048576 % 16 = e.1
              omega
  | ⟨2, _⟩ => show ((e.1 * 1024 + k.1) * 1024 + f.1) / 1024 % 1024 = k.1
              omega
  | ⟨3, _⟩ => show ((e.1 * 1024 + k.1) * 1024 + f.1) % 1024 = f.1
              omega

theorem weight7 (e : Fin 16) (k f : Fin 1024) : val_main_v7 (F := Ideal) w (ix3 e k f) = mat w e k f := by
  rw [val_main_v7_apply, val_main_v6_apply]
  refine congrArg w ?_
  funext z
  apply Fin.ext
  match z with
  | ⟨0, _⟩ => rfl
  | ⟨1, _⟩ => show ((e.1 * 1024 + k.1) * 1024 + f.1) / 1048576 % 16 = e.1
              omega
  | ⟨2, _⟩ => show ((e.1 * 1024 + k.1) * 1024 + f.1) / 1024 % 1024 = k.1
              omega
  | ⟨3, _⟩ => show ((e.1 * 1024 + k.1) * 1024 + f.1) % 1024 = f.1
              omega

/-- Token `r` of expert `e`. -/
abbrev tok0 (b : Fin 8) (e : Fin 16) (r : Fin 256) : Fin 1024 → EReal := fun k => x (ix3 b ⟨e.1 * 256 + r.1, by omega⟩ k)

theorem rows0 (b : Fin 8) (e : Fin 16) (r : Fin 256) (k : Fin 1024) :
    val_main_v1 (F := Ideal) x (ix4 b e r k) = tok0 x b e r k := by
  rw [val_main_v1_apply, val_main_v0_apply]
  refine congrArg x ?_
  funext z
  apply Fin.ext
  match z with
  | ⟨0, _⟩ => show (((b.1 * 16 + e.1) * 256 + r.1) * 1024 + k.1) / 4194304 = b.1
              omega
  | ⟨1, _⟩ => show (((b.1 * 16 + e.1) * 256 + r.1) * 1024 + k.1) / 1024 % 4096 = e.1 * 256 + r.1
              omega
  | ⟨2, _⟩ => show (((b.1 * 16 + e.1) * 256 + r.1) * 1024 + k.1) % 1024 = k.1
              omega

/-- The gate projection. -/
theorem gate0 (b : Fin 8) (e : Fin 16) (r : Fin 256) (f : Fin 1024) :
    val_main_v9 (F := Ideal) x g (ix4 b e r f) = proj (tok0 x b e r) (mat g e) f := by
  rw [val_main_v9_apply, val_main_v8_apply]
  refine Finset.sum_congr rfl fun k _ => ?_
  refine (mul_comm _ _).trans (congrArg₂ (· * ·) ?_ ?_)
  · refine Eq.trans (congrArg _ ?_) (rows0 x b e r k)
    funext z
    fin_cases z <;> rfl
  · refine Eq.trans (congrArg _ ?_) (weight3 g e k f)
    funext z
    fin_cases z <;> rfl

/-- The up projection. -/
theorem up0 (b : Fin 8) (e : Fin 16) (r : Fin 256) (f : Fin 1024) :
    val_main_v11 (F := Ideal) x u (ix4 b e r f) = proj (tok0 x b e r) (mat u e) f := by
  rw [val_main_v11_apply, val_main_v10_apply]
  refine Finset.sum_congr rfl fun k _ => ?_
  refine (mul_comm _ _).trans (congrArg₂ (· * ·) ?_ ?_)
  · refine Eq.trans (congrArg _ ?_) (rows0 x b e r k)
    funext z
    fin_cases z <;> rfl
  · refine Eq.trans (congrArg _ ?_) (weight5 u e k f)
    funext z
    fin_cases z <;> rfl

/-- The hidden layer. -/
theorem layer0 (b : Fin 8) (e : Fin 16) (r : Fin 256) (f : Fin 1024) :
    val_main_v13 (F := Ideal) x g u (ix4 b e r f) = swiglu (tok0 x b e r) (mat g e) (mat u e) f := by
  rw [val_main_v13_apply, val_main_v12_apply, val_main_call0_v5_apply, val_main_call0_v4_apply, val_main_call0_cst_0_apply, val_main_call0_v3_apply, val_main_call0_v2_apply, val_main_call0_cst_apply,
    val_main_call0_v1_apply, val_main_call0_v0_apply, gate0, up0]
  show _ * Ideal.div (Ideal.ofBits .f32 0x3F800000#32) (Ideal.ofBits .f32 0x3F800000#32 + Ideal.exp (-_)) * _ = _
  rw [Ideal.ofBits_one_f32]
  rfl

/-- The down projection. -/
theorem down0 (b : Fin 8) (e : Fin 16) (r : Fin 256) (d : Fin 1024) :
    val_main_v15 (F := Ideal) x g u w (ix4 b e r d) = ffn (tok0 x b e r) (mat g e) (mat u e) (mat w e) d := by
  rw [val_main_v15_apply, val_main_v14_apply]
  unfold ffn proj
  refine Finset.sum_congr rfl fun k _ => ?_
  refine (mul_comm _ _).trans (congrArg₂ (· * ·) ?_ ?_)
  · refine Eq.trans (congrArg _ ?_) (layer0 x g u b e r k)
    funext z
    fin_cases z <;> rfl
  · refine Eq.trans (congrArg _ ?_) (weight7 w e k d)
    funext z
    fin_cases z <;> rfl

/-- The result. -/
theorem result0 (b : Fin 8) (l : Fin 4096) (d : Fin 1024) :
    val_main_v17 (F := Ideal) x g u w (ix3 b l d)
      = ffn (fun k => x (ix3 b l k)) (mat g ⟨l.1 / 256, by omega⟩) (mat u ⟨l.1 / 256, by omega⟩) (mat w ⟨l.1 / 256, by omega⟩) d := by
  rw [val_main_v17_apply]
  refine (val_main_v16_apply (F := Ideal) x g u w (ix3 b l d)).trans ?_
  have e : (⟨l.1 / 256 * 256 + l.1 % 256, by omega⟩ : Fin 4096) = l := Fin.ext (by show l.1 / 256 * 256 + l.1 % 256 = l.1; omega)
  refine (Eq.trans (congrArg _ ?_) (down0 x g u w b ⟨l.1 / 256, by omega⟩ ⟨l.1 % 256, Nat.mod_lt _ (by norm_num)⟩ d)).trans ?_
  · funext z
    apply Fin.ext
    match z with
    | ⟨0, _⟩ => show ((b.1 * 4096 + l.1) * 1024 + d.1) / 4194304 = b.1
                omega
    | ⟨1, _⟩ => show ((b.1 * 4096 + l.1) * 1024 + d.1) / 262144 % 16 = l.1 / 256
                omega
    | ⟨2, _⟩ => show ((b.1 * 4096 + l.1) * 1024 + d.1) / 1024 % 256 = l.1 % 256
                omega
    | ⟨3, _⟩ => show ((b.1 * 4096 + l.1) * 1024 + d.1) % 1024 = d.1
                omega
  · refine congrArg (fun z => ffn z _ _ _ d) (funext fun k => ?_)
    exact congrArg (fun z => x (ix3 b z k)) e

theorem weight21 (e : Fin 16) (k f : Fin 1024) : val_main_v21 (F := Ideal) g (ix3 e k f) = mat g e k f := by
  rw [val_main_v21_apply, val_main_v20_apply]
  refine congrArg g ?_
  funext z
  apply Fin.ext
  match z with
  | ⟨0, _⟩ => rfl
  | ⟨1, _⟩ => show ((e.1 * 1024 + k.1) * 1024 + f.1) / 1048576 % 16 = e.1
              omega
  | ⟨2, _⟩ => show ((e.1 * 1024 + k.1) * 1024 + f.1) / 1024 % 1024 = k.1
              omega
  | ⟨3, _⟩ => show ((e.1 * 1024 + k.1) * 1024 + f.1) % 1024 = f.1
              omega

theorem weight23 (e : Fin 16) (k f : Fin 1024) : val_main_v23 (F := Ideal) u (ix3 e k f) = mat u e k f := by
  rw [val_main_v23_apply, val_main_v22_apply]
  refine congrArg u ?_
  funext z
  apply Fin.ext
  match z with
  | ⟨0, _⟩ => rfl
  | ⟨1, _⟩ => show ((e.1 * 1024 + k.1) * 1024 + f.1) / 1048576 % 16 = e.1
              omega
  | ⟨2, _⟩ => show ((e.1 * 1024 + k.1) * 1024 + f.1) / 1024 % 1024 = k.1
              omega
  | ⟨3, _⟩ => show ((e.1 * 1024 + k.1) * 1024 + f.1) % 1024 = f.1
              omega

theorem weight25 (e : Fin 16) (k f : Fin 1024) : val_main_v25 (F := Ideal) w (ix3 e k f) = mat w e k f := by
  rw [val_main_v25_apply, val_main_v24_apply]
  refine congrArg w ?_
  funext z
  apply Fin.ext
  match z with
  | ⟨0, _⟩ => rfl
  | ⟨1, _⟩ => show ((e.1 * 1024 + k.1) * 1024 + f.1) / 1048576 % 16 = e.1
              omega
  | ⟨2, _⟩ => show ((e.1 * 1024 + k.1) * 1024 + f.1) / 1024 % 1024 = k.1
              omega
  | ⟨3, _⟩ => show ((e.1 * 1024 + k.1) * 1024 + f.1) % 1024 = f.1
              omega

/-- Token `r` of expert `e`. -/
abbrev tok1 (b : Fin 8) (e : Fin 16) (r : Fin 32) : Fin 1024 → EReal := fun k => y (ix3 b ⟨e.1 * 32 + r.1, by omega⟩ k)

theorem rows1 (b : Fin 8) (e : Fin 16) (r : Fin 32) (k : Fin 1024) :
    val_main_v19 (F := Ideal) y (ix4 b e r k) = tok1 y b e r k := by
  rw [val_main_v19_apply, val_main_v18_apply]
  refine congrArg y ?_
  funext z
  apply Fin.ext
  match z with
  | ⟨0, _⟩ => show (((b.1 * 16 + e.1) * 32 + r.1) * 1024 + k.1) / 524288 = b.1
              omega
  | ⟨1, _⟩ => show (((b.1 * 16 + e.1) * 32 + r.1) * 1024 + k.1) / 1024 % 512 = e.1 * 32 + r.1
              omega
  | ⟨2, _⟩ => show (((b.1 * 16 + e.1) * 32 + r.1) * 1024 + k.1) % 1024 = k.1
              omega

/-- The gate projection. -/
theorem gate1 (b : Fin 8) (e : Fin 16) (r : Fin 32) (f : Fin 1024) :
    val_main_v27 (F := Ideal) y g (ix4 b e r f) = proj (tok1 y b e r) (mat g e) f := by
  rw [val_main_v27_apply, val_main_v26_apply]
  refine Finset.sum_congr rfl fun k _ => ?_
  refine (mul_comm _ _).trans (congrArg₂ (· * ·) ?_ ?_)
  · refine Eq.trans (congrArg _ ?_) (rows1 y b e r k)
    funext z
    fin_cases z <;> rfl
  · refine Eq.trans (congrArg _ ?_) (weight21 g e k f)
    funext z
    fin_cases z <;> rfl

/-- The up projection. -/
theorem up1 (b : Fin 8) (e : Fin 16) (r : Fin 32) (f : Fin 1024) :
    val_main_v29 (F := Ideal) y u (ix4 b e r f) = proj (tok1 y b e r) (mat u e) f := by
  rw [val_main_v29_apply, val_main_v28_apply]
  refine Finset.sum_congr rfl fun k _ => ?_
  refine (mul_comm _ _).trans (congrArg₂ (· * ·) ?_ ?_)
  · refine Eq.trans (congrArg _ ?_) (rows1 y b e r k)
    funext z
    fin_cases z <;> rfl
  · refine Eq.trans (congrArg _ ?_) (weight23 u e k f)
    funext z
    fin_cases z <;> rfl

/-- The hidden layer. -/
theorem layer1 (b : Fin 8) (e : Fin 16) (r : Fin 32) (f : Fin 1024) :
    val_main_v31 (F := Ideal) y g u (ix4 b e r f) = swiglu (tok1 y b e r) (mat g e) (mat u e) f := by
  rw [val_main_v31_apply, val_main_v30_apply, val_main_call1_v5_apply, val_main_call1_v4_apply, val_main_call1_cst_0_apply, val_main_call1_v3_apply, val_main_call1_v2_apply, val_main_call1_cst_apply,
    val_main_call1_v1_apply, val_main_call1_v0_apply, gate1, up1]
  show _ * Ideal.div (Ideal.ofBits .f32 0x3F800000#32) (Ideal.ofBits .f32 0x3F800000#32 + Ideal.exp (-_)) * _ = _
  rw [Ideal.ofBits_one_f32]
  rfl

/-- The down projection. -/
theorem down1 (b : Fin 8) (e : Fin 16) (r : Fin 32) (d : Fin 1024) :
    val_main_v33 (F := Ideal) y g u w (ix4 b e r d) = ffn (tok1 y b e r) (mat g e) (mat u e) (mat w e) d := by
  rw [val_main_v33_apply, val_main_v32_apply]
  unfold ffn proj
  refine Finset.sum_congr rfl fun k _ => ?_
  refine (mul_comm _ _).trans (congrArg₂ (· * ·) ?_ ?_)
  · refine Eq.trans (congrArg _ ?_) (layer1 y g u b e r k)
    funext z
    fin_cases z <;> rfl
  · refine Eq.trans (congrArg _ ?_) (weight25 w e k d)
    funext z
    fin_cases z <;> rfl

/-- The result. -/
theorem result1 (b : Fin 8) (l : Fin 512) (d : Fin 1024) :
    val_main_v35 (F := Ideal) y g u w (ix3 b l d)
      = ffn (fun k => y (ix3 b l k)) (mat g ⟨l.1 / 32, by omega⟩) (mat u ⟨l.1 / 32, by omega⟩) (mat w ⟨l.1 / 32, by omega⟩) d := by
  rw [val_main_v35_apply]
  refine (val_main_v34_apply (F := Ideal) y g u w (ix3 b l d)).trans ?_
  have e : (⟨l.1 / 32 * 32 + l.1 % 32, by omega⟩ : Fin 512) = l := Fin.ext (by show l.1 / 32 * 32 + l.1 % 32 = l.1; omega)
  refine (Eq.trans (congrArg _ ?_) (down1 y g u w b ⟨l.1 / 32, by omega⟩ ⟨l.1 % 32, Nat.mod_lt _ (by norm_num)⟩ d)).trans ?_
  · funext z
    apply Fin.ext
    match z with
    | ⟨0, _⟩ => show ((b.1 * 512 + l.1) * 1024 + d.1) / 524288 = b.1
                omega
    | ⟨1, _⟩ => show ((b.1 * 512 + l.1) * 1024 + d.1) / 32768 % 16 = l.1 / 32
                omega
    | ⟨2, _⟩ => show ((b.1 * 512 + l.1) * 1024 + d.1) / 1024 % 32 = l.1 % 32
                omega
    | ⟨3, _⟩ => show ((b.1 * 512 + l.1) * 1024 + d.1) % 1024 = d.1
                omega
  · refine congrArg (fun z => ffn z _ _ _ d) (funext fun k => ?_)
    exact congrArg (fun z => y (ix3 b z k)) e

end Cert.ExpertsRefIdeal.Moe
-- ==== Proof.Experts.Claim.lean ====
module

public import proofs.«01_k».proof.Defs
public import proofs.«01_k».proof.Proof.Experts.Value
public import proofs.«01_k».proof.Proof.Experts.Ref
public import proofs.«01_k».proof.Proof.Gen.ExpertsRefIdeal.Run
public import Idealize.ShloMosaic.Lib.Quiescent

/-!
# The claims about the experts call

The call and the reference both end with the two arrays of the formula `ffn`.
-/

@[expose] public section

noncomputable section

namespace Cert.Moe

open Idealize.ShloMosaic Idealize.SL.Sem

/-- The reference leaves its arguments. -/
theorem frame_ref : Cert.quiescent_ExpertsRefIdeal (hExpertsRefIdeal := Cert.ExpertsRefIdeal.Gen.facts) := fun m ρ _ =>
  (θ_run (Cert.ExpertsRefIdeal.defs (F := Ideal)) _ _).mono
    (fun r h => ⟨fun c => (h c).2.2, Idealize.ShloMosaic.sem_eq_zero_of_no_sems (by decide) r.2⟩)
    (Cert.ExpertsRefIdeal.Value.run (F := Ideal) m ρ)

/-- Call and reference end with equal arrays. -/
theorem equal : Cert.algebraic_ExpertsIdeal_ExpertsRefIdeal (hExpertsIdeal := Cert.ExpertsIdeal.Gen.facts)
    (hExpertsRefIdeal := Cert.ExpertsRefIdeal.Gen.facts) := by
  intro m ρ m' ρ' _ hagree
  refine ⟨fun c => Cert.ExpertsIdeal.Moe.whole5 m c, fun c => Cert.ExpertsIdeal.Moe.whole6 m c,
    (θ_run (Cert.ExpertsIdeal.defs (F := Ideal)) _ _).mono (fun r h c =>
      ⟨(h c).1.trans (Cert.ExpertsIdeal.Moe.final5 m c), (h c).2.1.trans (Cert.ExpertsIdeal.Moe.final6 m c), (h c).2.2⟩)
      (Cert.ExpertsIdeal.Run.run_blocks m ρ),
    (θ_run (Cert.ExpertsRefIdeal.defs (F := Ideal)) _ _).mono (fun r h c =>
      ⟨(h c).1.trans ?_, (h c).2.1.trans ?_, (h c).2.2⟩)
      (Cert.ExpertsRefIdeal.Value.run (F := Ideal) m' ρ')⟩
  · obtain ⟨h0, h1, h2, h3, h4⟩ := hagree c
    rw [h0, h2, h3, h4]
    refine (Cert.ExpertsRefIdeal.Read.val_main_v17_eq _ _ _ _).trans (funext fun i => ?_)
    exact (congrArg _ (eq_ix3 (n0 := 8) (n1 := 4096) (n2 := 1024) i)).trans
      (Cert.ExpertsRefIdeal.Moe.result0 _ _ _ _ (i 0) (i 1) (i 2))
  · obtain ⟨h0, h1, h2, h3, h4⟩ := hagree c
    rw [h1, h2, h3, h4]
    refine (Cert.ExpertsRefIdeal.Read.val_main_v35_eq _ _ _ _).trans (funext fun i => ?_)
    exact (congrArg _ (eq_ix3 (n0 := 8) (n1 := 512) (n2 := 1024) i)).trans
      (Cert.ExpertsRefIdeal.Moe.result1 _ _ _ _ (i 0) (i 1) (i 2))

end Cert.Moe
-- ==== Proof.Merge.Spec.lean ====
module

public import proofs.«01_k».proof.Proof.Common.Softmax

/-!
# The branches of one token merged

The token is normalised and shifted by its batch entry's modulation, three gates weight the three
branches, and the gated sum is projected back onto the token. The second normalisation and the
router's softmax over the sixteen experts follow.
-/

@[expose] public section

noncomputable section

namespace Cert.Mix

open Idealize.ShloMosaic Cert.Common

/-- What the call reads for one token: its four rows and the five modulation rows of its batch entry. -/
@[ext] structure Token where
  x : Fin 1024 → EReal
  f : Fin 256 → EReal
  og : Fin 512 → EReal
  ow : Fin 256 → EReal
  sh1 : Fin 1024 → EReal
  sc1 : Fin 1024 → EReal
  g1 : Fin 1024 → EReal
  sh2 : Fin 1024 → EReal
  sc2 : Fin 1024 → EReal

/-- The weights all tokens share. -/
@[ext] structure Weights where
  n1 : Fin 1024 → EReal
  n2 : Fin 1024 → EReal
  gate : Fin 3 → Fin 1024 → Fin 1024 → EReal
  bf : Fin 256 → Fin 1024 → EReal
  bg : Fin 512 → Fin 1024 → EReal
  bw : Fin 256 → Fin 1024 → EReal
  out : Fin 1024 → Fin 1024 → EReal
  router : Fin 1024 → Fin 16 → EReal

/-- A row times a matrix, at column `d`. -/
def proj {n m : ℕ} (x : Fin n → EReal) (w : Fin n → Fin m → EReal) (d : Fin m) : EReal := ∑ k, x k * w k d

/-- A row divided by its root mean square, scaled by `g`, then scaled by `1 + sc` and shifted by `sh`. -/
def normed (x g sh sc : Fin 1024 → EReal) (d : Fin 1024) : EReal :=
  x d * Ideal.rsqrt (Ideal.div (∑ k, x k * x k) (Ideal.ofBits .f32 0x44800000#32) + Ideal.ofBits .f32 0x358637BD#32) * g d
    * (Ideal.ofBits .f32 0x3F800000#32 + sc d) + sh d

/-- The three branches under their gates. -/
def mixed (t : Token) (w : Weights) (d : Fin 1024) : EReal :=
  Ideal.logistic (proj (normed t.x w.n1 t.sh1 t.sc1) (w.gate 0) d) * proj t.f w.bf d
    + Ideal.logistic (proj (normed t.x w.n1 t.sh1 t.sc1) (w.gate 1) d) * proj t.og w.bg d
    + Ideal.logistic (proj (normed t.x w.n1 t.sh1 t.sc1) (w.gate 2) d) * proj t.ow w.bw d

/-- The token after the merge. -/
def merged (t : Token) (w : Weights) (d : Fin 1024) : EReal := t.x d + t.g1 d * proj (mixed t w) w.out d

/-- The merged token normalised again. -/
def second (t : Token) (w : Weights) (d : Fin 1024) : EReal := normed (merged t w) w.n2 t.sh2 t.sc2 d

/-- The weights of a row of scores. -/
def soft (s : Fin 16 → EReal) (e : Fin 16) : EReal := Ideal.div (Ideal.exp (s e - top s)) (∑ k, Ideal.exp (s k - top s))

/-- The token's affinity to each expert. -/
def affinity (t : Token) (w : Weights) (e : Fin 16) : EReal := soft (proj (second t w) w.router) e

end Cert.Mix
-- ==== Proof.Merge.Body.lean ====
module

public import proofs.«01_k».proof.Proof.Gen.MergeIdeal.Skeleton
public import proofs.«01_k».proof.Proof.Merge.Spec
public import proofs.«01_k».proof.Proof.Common.Reads

/-!
# What the body computes on one chunk of 512 tokens

Each piece is the formula of `Spec` at the chunk's rows.
-/

@[expose] public section

noncomputable section

namespace Cert.MergeIdeal.Body

open Idealize.ShloMosaic Cert.MergeIdeal.Gen Cert.Mix Cert.Common

/-- The largest entry of each column of a matrix. -/
theorem col_top {n m : ℕ} (x : FVec Ideal ⟨2, ![n, m]⟩ .f32) (h : (⟨2, ![n, m]⟩ : Shape).Reduces [0] ⟨1, ![m]⟩)
    (hφ : FKind.Formats .f32) (hacc : 0xFF800000#32 = FKind.maximumf.neutral .f32 hφ) (r : Fin m) :
    multiReduction .maximumf [0] ⟨1, ![m]⟩ x 0xFF800000#32 h hφ hacc (ix1 r) = top fun k => x (ix2 k r) := by
  refine (Ideal.multiReduction_maximumf_single _ _ _ _ _ _).trans ?_
  rw [← fold_max_eq_top]
  refine (congrArg (fun b => Finset.fold max b _ _) neg_inf).trans ?_
  refine congrArg (fun f => Finset.fold max ⊥ f Finset.univ) (funext fun k => congrArg x ?_)
  funext a
  apply Fin.ext
  rw [Shape.Reduces.lift_val]
  fin_cases a <;> rfl

/-- A row normalised and modulated. -/
def norm (x : FVec Ideal S512x1024 .f32) (g sh sc : FVec Ideal S1x1024 .f32) : FVec Ideal S512x1024 .bf16 :=
  truncf .bf16 (addf (mulf (mulf (mulf x (broadcastTo S512x1024 (rsqrt (addf (divf
    (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 g broadcasts_S1x1024_S512x1024))
    (broadcastTo S512x1024 (addf (broadcast S1x1024 (Scalar.ofBits .f32 0x3F800000#32)) sc) broadcasts_S1x1024_S512x1024))
    (broadcastTo S512x1024 sh broadcasts_S1x1024_S512x1024)) bitsLt_bf16_f32

theorem norm_apply (x : FVec Ideal S512x1024 .f32) (g sh sc : FVec Ideal S1x1024 .f32) (r : Fin 512) (d : Fin 1024) :
    norm x g sh sc (ix2 r d)
      = normed (fun k => x (ix2 r k)) (fun k => g (ix2 0 k)) (fun k => sh (ix2 0 k)) (fun k => sc (ix2 0 k)) d := by
  unfold norm normed
  pointwise

/-- The chunk times a square matrix. -/
def times (x : FVec Ideal S512x1024 .bf16) (w : FVec Ideal S1024x1024 .bf16) : FVec Ideal S512x1024 .f32 :=
  matmul dot_S512x1024_S1024x1024_S512x1024_1_0_0_1_n_n none x w (constant S512x1024 .f32 0x00000000#32)

theorem times_apply (x : FVec Ideal S512x1024 .bf16) (w : FVec Ideal S1024x1024 .bf16) (r : Fin 512) (d : Fin 1024) :
    times x w (ix2 r d) = proj (fun k => x (ix2 r k)) (fun k f => w (ix2 k f)) d := by
  unfold times proj
  pointwise

/-- A branch of width 256 projected. -/
theorem pay5_apply (x : Vec Ideal S1x512x256 .bf16) (w : Vec Ideal S256x1024 .bf16) (r : Fin 512) (d : Fin 1024) :
    k0_pay5 x w (ix2 r d) = proj (fun k => x (ix3 0 r k)) (fun k f => w (ix2 k f)) d := by
  unfold k0_pay5 proj
  pointwise

/-- A branch of width 512 projected. -/
theorem pay20_apply (x : Vec Ideal S1x512x512 .bf16) (w : Vec Ideal S512x1024 .bf16) (r : Fin 512) (d : Fin 1024) :
    k0_pay20 x w (ix2 r d) = proj (fun k => x (ix3 0 r k)) (fun k f => w (ix2 k f)) d := by
  unfold k0_pay20 proj
  pointwise

/-- The three branches under their gates. -/
def mix (b0 b1 b2 a0 a1 a2 : FVec Ideal S512x1024 .f32) : FVec Ideal S512x1024 .bf16 :=
  truncf .bf16 (addf (addf (mulf (logistic a0) b0) (mulf (logistic a1) b1)) (mulf (logistic a2) b2)) bitsLt_bf16_f32

theorem mix_apply (b0 b1 b2 a0 a1 a2 : FVec Ideal S512x1024 .f32) (i : S512x1024.Idx) :
    mix b0 b1 b2 a0 a1 a2 i = Ideal.logistic (a0 i) * b0 i + Ideal.logistic (a1 i) * b1 i + Ideal.logistic (a2 i) * b2 i := rfl

/-- The projected sum added to the token under its gate. -/
def resid (x : FVec Ideal S512x1024 .f32) (g : FVec Ideal S1x1024 .f32) (m : FVec Ideal S512x1024 .bf16) (w : FVec Ideal S1024x1024 .bf16) :
    FVec Ideal S512x1024 .f32 :=
  addf x (mulf (broadcastTo S512x1024 g broadcasts_S1x1024_S512x1024) (times m w))

theorem resid_apply (x : FVec Ideal S512x1024 .f32) (g : FVec Ideal S1x1024 .f32) (m : FVec Ideal S512x1024 .bf16)
    (w : FVec Ideal S1024x1024 .bf16) (r : Fin 512) (d : Fin 1024) :
    resid x g m w (ix2 r d) = x (ix2 r d) + g (ix2 0 d) * proj (fun k => m (ix2 r k)) (fun k f => w (ix2 k f)) d := by
  rw [← times_apply]
  unfold resid
  generalize times m w = y
  pointwise

/-- The router's scores, an expert to a row. -/
def scores (h : FVec Ideal S512x1024 .bf16) (w : FVec Ideal S1024x128 .bf16) : FVec Ideal S16x512 .f32 :=
  extractStridedSlice S16x512 ![0, 0] (transpose S128x512 [1, 0]
    (matmul dot_S512x1024_S1024x128_S512x128_1_0_0_1_n_n none h w (constant S512x128 .f32 0x00000000#32)) transposes_S512x128_p1_0_S128x512)
    slices_S128x512_o0_0_S16x512

theorem scores_apply (h : FVec Ideal S512x1024 .bf16) (w : FVec Ideal S1024x128 .bf16) (e : Fin 16) (r : Fin 512) :
    scores h w (ix2 e r) = proj (fun k => h (ix2 r k)) (fun k e => w (ix2 k ⟨e.1, by omega⟩)) e := by
  unfold scores proj
  pointwise

/-- The softmax over the experts. -/
def weigh (s : FVec Ideal S16x512 .f32) : FVec Ideal S1x16x512 .f32 :=
  let t := shapeCast S1x512 (multiReduction .maximumf [0] S512 s 0xFF800000#32 reduces_S16x512_S512 (.inl rfl) rfl) shapeCasts_S512_S1x512
  let e := exp (subf s (broadcastTo S16x512 t broadcasts_S1x512_S16x512))
  shapeCast S1x16x512 (divf e (broadcastTo S16x512 (shapeCast S1x512
    (multiReduction .add [0] S512 e 0x00000000#32 reduces_S16x512_S512 (.inl rfl) rfl) shapeCasts_S512_S1x512) broadcasts_S1x512_S16x512))
    shapeCasts_S16x512_S1x16x512

theorem weigh_apply (s : FVec Ideal S16x512 .f32) (e : Fin 16) (r : Fin 512) :
    weigh s (ix3 0 e r) = soft (fun k => s (ix2 k r)) e := by
  have ht := col_top (n := 16) (m := 512) s reduces_S16x512_S512 (.inl rfl) rfl r
  unfold weigh soft
  rw [← ht]
  generalize multiReduction .maximumf [0] S512 s 0xFF800000#32 reduces_S16x512_S512 (.inl rfl) rfl = t
  pointwise

end Cert.MergeIdeal.Body
-- ==== Proof.Merge.Chunk.lean ====
module

public import proofs.«01_k».proof.Proof.Merge.Body
public import proofs.«01_k».proof.Proof.Gen.MergeIdeal.Frame
public import Idealize.ShloMosaic.Lib.Pipeline.Value

/-!
# What one grid step leaves in its three outputs

A step's blocks hold 1024 tokens. The body works on two chunks of 512; what it stores for either
is the formula of `Spec` at the chunk's tokens, so the two stores together are the formula at
every token of the block.
-/

@[expose] public section

noncomputable section

namespace Cert.MergeIdeal.Body

open Idealize.ShloMosaic Cert.MergeIdeal.Gen Cert.Mix Cert.Common

/-- A chunk as a matrix of rows. -/
def rows (x : Vec Ideal S1x512x1024 .f32) : FVec Ideal S512x1024 .f32 := shapeCast S512x1024 x shapeCasts_S1x512x1024_S512x1024

theorem rows_apply (x : Vec Ideal S1x512x1024 .f32) (r : Fin 512) (k : Fin 1024) : rows x (ix2 r k) = x (ix3 0 r k) := by
  unfold rows
  pointwise

/-- A modulation row. -/
def row (x : Vec Ideal S1x1x1024 .f32) : FVec Ideal S1x1024 .f32 := shapeCast S1x1024 x shapeCasts_S1x1x1024_S1x1024

theorem row_apply (x : Vec Ideal S1x1x1024 .f32) (k : Fin 1024) : row x (ix2 0 k) = x (ix3 0 0 k) := by
  unfold row
  pointwise

/-- A chunk's gated branches. -/
def chunkMix (x : Vec Ideal S1x512x1024 .f32) (f : Vec Ideal S1x512x256 .bf16) (og : Vec Ideal S1x512x512 .bf16)
    (ow : Vec Ideal S1x512x256 .bf16) (sh1 sc1 : Vec Ideal S1x1x1024 .f32) (n1 : Vec Ideal S1x1024 .f32)
    (a0 a1 a2 : Vec Ideal S1024x1024 .bf16) (bf : Vec Ideal S256x1024 .bf16) (bg : Vec Ideal S512x1024 .bf16)
    (bw : Vec Ideal S256x1024 .bf16) : FVec Ideal S512x1024 .bf16 :=
  mix (k0_pay5 f bf) (k0_pay20 og bg) (k0_pay5 ow bw) (times (norm (rows x) n1 (row sh1) (row sc1)) a0)
    (times (norm (rows x) n1 (row sh1) (row sc1)) a1) (times (norm (rows x) n1 (row sh1) (row sc1)) a2)

/-- A chunk's tokens after the merge. -/
def chunk (x : Vec Ideal S1x512x1024 .f32) (f : Vec Ideal S1x512x256 .bf16) (og : Vec Ideal S1x512x512 .bf16)
    (ow : Vec Ideal S1x512x256 .bf16) (sh1 sc1 g1 : Vec Ideal S1x1x1024 .f32) (n1 : Vec Ideal S1x1024 .f32)
    (a0 a1 a2 : Vec Ideal S1024x1024 .bf16) (bf : Vec Ideal S256x1024 .bf16) (bg : Vec Ideal S512x1024 .bf16)
    (bw : Vec Ideal S256x1024 .bf16) (wo : Vec Ideal S1024x1024 .bf16) : FVec Ideal S512x1024 .f32 :=
  resid (rows x) (row g1) (chunkMix x f og ow sh1 sc1 n1 a0 a1 a2 bf bg bw) wo

/-- A chunk's tokens normalised again. -/
def chunkNorm (y : FVec Ideal S512x1024 .f32) (n2 : Vec Ideal S1x1024 .f32) (sh2 sc2 : Vec Ideal S1x1x1024 .f32) :
    FVec Ideal S512x1024 .bf16 := norm y n2 (row sh2) (row sc2)

/-! ## The body's values are these -/

theorem pay4_eq (x : Vec Ideal S1x512x1024 .f32) (n : Vec Ideal S1x1024 .f32) (sh sc : Vec Ideal S1x1x1024 .f32) :
    k0_pay4 x n sh sc = norm (rows x) n (row sh) (row sc) := by
  unfold k0_pay4
  dsimp only
  rw [shapeCast_self n]
  rfl

theorem pay18_eq (x : Vec Ideal S1x512x1024 .f32) (n : Vec Ideal S1x1024 .f32) (sh sc : Vec Ideal S1x1x1024 .f32) :
    k0_pay18 (k0_pay12 x) (k0_pay13 n) (k0_pay14 sh) (k0_pay15 sc) (k0_pay16 x) k0_pay17 = norm (rows x) n (row sh) (row sc) := by
  have h : k0_pay13 n = n := shapeCast_self n _
  rw [h]
  rfl

theorem pay7_eq (x : Vec Ideal S1x512x512 .bf16) (w : Vec Ideal S512x1024 .bf16) : k0_pay7 (k0_pay6 x) w = k0_pay20 x w := rfl
theorem pay8_eq (x : Vec Ideal S1x512x256 .bf16) (w : Vec Ideal S256x1024 .bf16) : k0_pay8 x w = k0_pay5 x w := rfl
theorem pay19_eq (x : Vec Ideal S1x512x256 .bf16) (w : Vec Ideal S256x1024 .bf16) : k0_pay19 x w = k0_pay5 x w := rfl
theorem pay21_eq (x : Vec Ideal S1x512x256 .bf16) (w : Vec Ideal S256x1024 .bf16) : k0_pay21 x w = k0_pay5 x w := rfl

theorem pay9_eq (h : FVec Ideal S512x1024 .bf16) (w : Vec Ideal S1024x1024 .bf16) : k0_pay9 h w = times h w := by
  unfold k0_pay9
  dsimp only
  rw [shapeCast_self w]
  rfl
theorem pay10_eq (h : FVec Ideal S512x1024 .bf16) (w : Vec Ideal S1024x1024 .bf16) : k0_pay10 h w = times h w := pay9_eq h w
theorem pay11_eq (h : FVec Ideal S512x1024 .bf16) (w : Vec Ideal S1024x1024 .bf16) : k0_pay11 h w = times h w := pay9_eq h w
theorem pay24_eq (h : FVec Ideal S512x1024 .bf16) (w : Vec Ideal S1024x1024 .bf16) : k0_pay24 h (k0_pay23 w) = times h w := pay9_eq h w
theorem pay25_eq (h : FVec Ideal S512x1024 .bf16) (w : Vec Ideal S1024x1024 .bf16) : k0_pay25 h w = times h w := pay9_eq h w
theorem pay22_eq (x : Vec Ideal S1x512x1024 .f32) (n : Vec Ideal S1x1024 .f32) (sh sc : Vec Ideal S1x1x1024 .f32) (w : Vec Ideal S1024x1024 .bf16) :
    k0_pay22 (k0_pay12 x) (k0_pay13 n) (k0_pay14 sh) (k0_pay15 sc) (k0_pay16 x) k0_pay17 w = times (norm (rows x) n (row sh) (row sc)) w := by
  rw [← pay18_eq]
  exact pay9_eq _ w

theorem pay26_eq (b0 b1 b2 a0 a1 a2 : FVec Ideal S512x1024 .f32) (x : Vec Ideal S1x512x1024 .f32) (g : Vec Ideal S1x1x1024 .f32)
    (w : Vec Ideal S1024x1024 .bf16) : k0_pay26 b0 b1 b2 a0 a1 a2 x g w = resid (rows x) (row g) (mix b0 b1 b2 a0 a1 a2) w := by
  unfold k0_pay26
  dsimp only
  rw [shapeCast_self w]
  rfl

theorem pay37_eq (b0 b1 b2 a0 a1 a2 : FVec Ideal S512x1024 .f32) (x : Vec Ideal S1x512x1024 .f32) (g : Vec Ideal S1x1x1024 .f32)
    (w : Vec Ideal S1024x1024 .bf16) :
    k0_pay37 (k0_pay35 b0 b1 a0 a1) (k0_pay36 b2 a2) x g w = resid (rows x) (row g) (mix b0 b1 b2 a0 a1 a2) w := by
  unfold k0_pay37
  dsimp only
  rw [shapeCast_self w]
  rfl

theorem pay27_eq (b0 b1 b2 a0 a1 a2 : FVec Ideal S512x1024 .f32) (x : Vec Ideal S1x512x1024 .f32) (g : Vec Ideal S1x1x1024 .f32)
    (w : Vec Ideal S1024x1024 .bf16) : k0_pay27 b0 b1 b2 a0 a1 a2 x g w
      = shapeCast S1x512x1024 (resid (rows x) (row g) (mix b0 b1 b2 a0 a1 a2) w) shapeCasts_S512x1024_S1x512x1024 := by
  rw [← pay26_eq]
  rfl

theorem pay38_eq (b0 b1 b2 a0 a1 a2 : FVec Ideal S512x1024 .f32) (x : Vec Ideal S1x512x1024 .f32) (g : Vec Ideal S1x1x1024 .f32)
    (w : Vec Ideal S1024x1024 .bf16) : k0_pay38 (k0_pay35 b0 b1 a0 a1) (k0_pay36 b2 a2) x g w
      = shapeCast S1x512x1024 (resid (rows x) (row g) (mix b0 b1 b2 a0 a1 a2) w) shapeCasts_S512x1024_S1x512x1024 := by
  rw [← pay37_eq]
  rfl

/-- The sum of a row's squares. -/
def squares (y : FVec Ideal S512x1024 .f32) : FVec Ideal S512 .f32 :=
  multiReduction .add [1] S512 (mulf y y) 0x00000000#32 reduces_S512x1024_S512 (.inl rfl) rfl

/-- The second normalisation of the first chunk. -/
theorem pay32_eq (y : FVec Ideal S512x1024 .f32) (n : Vec Ideal S1x1024 .f32) (sh sc : Vec Ideal S1x1x1024 .f32) :
    k0_pay32 y (k0_pay28 n) (k0_pay29 sh) (k0_pay30 sc)
        (squares y)
      = norm y n (row sh) (row sc) := by
  have h : k0_pay28 n = n := shapeCast_self n _
  rw [h]
  rfl

theorem pay31_eq (b0 b1 b2 a0 a1 a2 : FVec Ideal S512x1024 .f32) (x : Vec Ideal S1x512x1024 .f32) (g : Vec Ideal S1x1x1024 .f32)
    (w : Vec Ideal S1024x1024 .bf16) : k0_pay31 b0 b1 b2 a0 a1 a2 x g w
      = squares (resid (rows x) (row g) (mix b0 b1 b2 a0 a1 a2) w) := by
  rw [← pay26_eq]
  rfl

theorem pay33_eq (y : FVec Ideal S512x1024 .f32) (n : Vec Ideal S1x1024 .f32) (sh sc : Vec Ideal S1x1x1024 .f32) :
    k0_pay33 y (k0_pay28 n) (k0_pay29 sh) (k0_pay30 sc)
        (squares y)
      = shapeCast S1x512x1024 (norm y n (row sh) (row sc)) shapeCasts_S512x1024_S1x512x1024 := by
  rw [← pay32_eq]
  rfl

theorem pay34_eq (y : FVec Ideal S512x1024 .f32) (n : Vec Ideal S1x1024 .f32) (sh sc : Vec Ideal S1x1x1024 .f32) (w : Vec Ideal S1024x128 .bf16) :
    k0_pay34 y (k0_pay28 n) (k0_pay29 sh) (k0_pay30 sc)
        (squares y) w
      = weigh (scores (norm y n (row sh) (row sc)) w) := by
  rw [← pay32_eq]
  unfold k0_pay34
  dsimp only
  rw [shapeCast_self w]
  rfl

/-- The second normalisation of the second chunk. -/
theorem pay1_eq (p q : FVec Ideal S512x1024 .f32) (x : Vec Ideal S1x512x1024 .f32) (g : Vec Ideal S1x1x1024 .f32)
    (w : Vec Ideal S1024x1024 .bf16) (n : Vec Ideal S1x1024 .f32) (sh sc : Vec Ideal S1x1x1024 .f32) :
    k0_pay1 (k0_pay39 sh) (k0_pay40 p q x g w n) (k0_pay41 sc) = norm (k0_pay37 p q x g w) n (row sh) (row sc) := by
  unfold k0_pay40
  dsimp only
  rw [shapeCast_self n]
  rfl

theorem pay2_eq (p q : FVec Ideal S512x1024 .f32) (x : Vec Ideal S1x512x1024 .f32) (g : Vec Ideal S1x1x1024 .f32)
    (w : Vec Ideal S1024x1024 .bf16) (n : Vec Ideal S1x1024 .f32) (sh sc : Vec Ideal S1x1x1024 .f32) :
    k0_pay2 (k0_pay39 sh) (k0_pay40 p q x g w n) (k0_pay41 sc)
      = shapeCast S1x512x1024 (norm (k0_pay37 p q x g w) n (row sh) (row sc)) shapeCasts_S512x1024_S1x512x1024 := by
  rw [← pay1_eq]
  rfl

theorem pay3_eq (p q : FVec Ideal S512x1024 .f32) (x : Vec Ideal S1x512x1024 .f32) (g : Vec Ideal S1x1x1024 .f32)
    (w : Vec Ideal S1024x1024 .bf16) (n : Vec Ideal S1x1024 .f32) (sh sc : Vec Ideal S1x1x1024 .f32) (wr : Vec Ideal S1024x128 .bf16) :
    k0_pay3 (k0_pay39 sh) (k0_pay40 p q x g w n) (k0_pay41 sc) wr
      = weigh (scores (norm (k0_pay37 p q x g w) n (row sh) (row sc)) wr) := by
  rw [← pay1_eq]
  unfold k0_pay3
  dsimp only
  rw [shapeCast_self wr]
  rfl

/-- A token of a step's blocks. -/
def tok (x0 : Vec Ideal S1x1024x1024 .f32) (x1 : Vec Ideal S1x1024x256 .bf16) (x2 : Vec Ideal S1x1024x512 .bf16)
    (x3 : Vec Ideal S1x1024x256 .bf16) (x4 x5 x6 x7 x8 : Vec Ideal S1x1x1024 .f32) (r : Fin 1024) : Token where
  x k := x0 (ix3 0 r k)
  f k := x1 (ix3 0 r k)
  og k := x2 (ix3 0 r k)
  ow k := x3 (ix3 0 r k)
  sh1 k := x4 (ix3 0 0 k)
  sc1 k := x5 (ix3 0 0 k)
  g1 k := x6 (ix3 0 0 k)
  sh2 k := x7 (ix3 0 0 k)
  sc2 k := x8 (ix3 0 0 k)

/-- The weights of a step's blocks. -/
def wts (x9 x10 : Vec Ideal S1x1024 .f32) (x11 : Vec Ideal S1024x3072 .bf16) (x12 : Vec Ideal S256x1024 .bf16)
    (x13 : Vec Ideal S512x1024 .bf16) (x14 : Vec Ideal S256x1024 .bf16) (x15 : Vec Ideal S1024x1024 .bf16)
    (x16 : Vec Ideal S1024x128 .bf16) : Weights where
  n1 k := x9 (ix2 0 k)
  n2 k := x10 (ix2 0 k)
  gate i k f := x11 (ix2 k ⟨i.1 * 1024 + f.1, by omega⟩)
  bf k f := x12 (ix2 k f)
  bg k f := x13 (ix2 k f)
  bw k f := x14 (ix2 k f)
  out k f := x15 (ix2 k f)
  router k e := x16 (ix2 k ⟨e.1, by omega⟩)

section Outputs

variable (x0 : Vec Ideal S1x1024x1024 .f32) (x1 : Vec Ideal S1x1024x256 .bf16) (x2 : Vec Ideal S1x1024x512 .bf16)
  (x3 : Vec Ideal S1x1024x256 .bf16) (x4 x5 x6 x7 x8 : Vec Ideal S1x1x1024 .f32) (x9 x10 : Vec Ideal S1x1024 .f32)
  (x11 : Vec Ideal S1024x3072 .bf16) (x12 : Vec Ideal S256x1024 .bf16) (x13 : Vec Ideal S512x1024 .bf16)
  (x14 : Vec Ideal S256x1024 .bf16) (x15 : Vec Ideal S1024x1024 .bf16) (x16 : Vec Ideal S1024x128 .bf16)

/-- A chunk cut out of the blocks: what the body computes from the loaded rows. -/
def cut (x : Vec Ideal S1x512x1024 .f32) (f : Vec Ideal S1x512x256 .bf16) (og : Vec Ideal S1x512x512 .bf16)
    (ow : Vec Ideal S1x512x256 .bf16) : FVec Ideal S512x1024 .f32 :=
  chunk x f og ow (View.ld x4 r0_2) (View.ld x5 r0_2) (View.ld x6 r0_2) (View.ld x9 r0_1)
    (View.ld x11 r0_7) (View.ld x11 r0_8) (View.ld x11 r0_9) (View.ld x12 r0_4) (View.ld x13 r0_6) (View.ld x14 r0_4) (View.ld x15 r0_13)

/-- The first output's two stores. -/
theorem out17_eq : out0_17 x0 x1 x2 x3 x4 x5 x6 x7 x8 x9 x10 x11 x12 x13 x14 x15 x16
    = View.canon [⟨r0_10, shapeCast S1x512x1024 (cut x4 x5 x6 x9 x11 x12 x13 x14 x15 (View.ld x0 r0_10) (View.ld x1 r0_11) (View.ld x2 r0_12) (View.ld x3 r0_11)) shapeCasts_S512x1024_S1x512x1024⟩,
      ⟨r0_0, shapeCast S1x512x1024 (cut x4 x5 x6 x9 x11 x12 x13 x14 x15 (View.ld x0 r0_0) (View.ld x1 r0_3) (View.ld x2 r0_5) (View.ld x3 r0_3)) shapeCasts_S512x1024_S1x512x1024⟩] := by
  unfold_out out0_17
  simp only [pay4_eq, pay18_eq, pay7_eq, pay8_eq, pay19_eq, pay21_eq, pay9_eq, pay10_eq, pay11_eq, pay24_eq, pay25_eq, pay22_eq, pay27_eq, pay38_eq,
    pay31_eq, pay33_eq, pay34_eq, pay2_eq, pay3_eq, pay26_eq, pay37_eq]
  rfl

/-- The second output's two stores. -/
theorem out18_eq : out0_18 x0 x1 x2 x3 x4 x5 x6 x7 x8 x9 x10 x11 x12 x13 x14 x15 x16
    = View.canon [⟨r0_10, shapeCast S1x512x1024 (chunkNorm (cut x4 x5 x6 x9 x11 x12 x13 x14 x15 (View.ld x0 r0_10) (View.ld x1 r0_11) (View.ld x2 r0_12) (View.ld x3 r0_11)) (View.ld x10 r0_1) (View.ld x7 r0_2) (View.ld x8 r0_2)) shapeCasts_S512x1024_S1x512x1024⟩,
      ⟨r0_0, shapeCast S1x512x1024 (chunkNorm (cut x4 x5 x6 x9 x11 x12 x13 x14 x15 (View.ld x0 r0_0) (View.ld x1 r0_3) (View.ld x2 r0_5) (View.ld x3 r0_3)) (View.ld x10 r0_1) (View.ld x7 r0_2) (View.ld x8 r0_2)) shapeCasts_S512x1024_S1x512x1024⟩] := by
  unfold_out out0_18
  simp only [pay4_eq, pay18_eq, pay7_eq, pay8_eq, pay19_eq, pay21_eq, pay9_eq, pay10_eq, pay11_eq, pay24_eq, pay25_eq, pay22_eq, pay27_eq, pay38_eq,
    pay31_eq, pay33_eq, pay34_eq, pay2_eq, pay3_eq, pay26_eq, pay37_eq]
  rfl

/-- The third output's two stores. -/
theorem out19_eq : out0_19 x0 x1 x2 x3 x4 x5 x6 x7 x8 x9 x10 x11 x12 x13 x14 x15 x16
    = View.canon [⟨r0_16, weigh (scores (chunkNorm (cut x4 x5 x6 x9 x11 x12 x13 x14 x15 (View.ld x0 r0_10) (View.ld x1 r0_11) (View.ld x2 r0_12) (View.ld x3 r0_11)) (View.ld x10 r0_1) (View.ld x7 r0_2) (View.ld x8 r0_2)) (View.ld x16 r0_14))⟩,
      ⟨r0_15, weigh (scores (chunkNorm (cut x4 x5 x6 x9 x11 x12 x13 x14 x15 (View.ld x0 r0_0) (View.ld x1 r0_3) (View.ld x2 r0_5) (View.ld x3 r0_3)) (View.ld x10 r0_1) (View.ld x7 r0_2) (View.ld x8 r0_2)) (View.ld x16 r0_14))⟩] := by
  unfold_out out0_19
  simp only [pay4_eq, pay18_eq, pay7_eq, pay8_eq, pay19_eq, pay21_eq, pay9_eq, pay10_eq, pay11_eq, pay24_eq, pay25_eq, pay22_eq, pay27_eq, pay38_eq,
    pay31_eq, pay33_eq, pay34_eq, pay2_eq, pay3_eq, pay26_eq, pay37_eq]
  rfl

end Outputs

end Cert.MergeIdeal.Body
-- ==== Proof.Merge.Out.lean ====
module

public import proofs.«01_k».proof.Proof.Merge.Chunk

/-!
# The stores of one grid step are the formula

A chunk's values are the formula of `Spec` at the chunk's tokens. The two stores together cover
the 1024 tokens of the step, so each output is the formula at every token of the block.
-/

@[expose] public section

noncomputable section

namespace Cert.MergeIdeal.Body

open Idealize.ShloMosaic Cert.MergeIdeal.Gen Cert.Mix Cert.Common

section Chunk

variable (T : Token) (W : Weights) (r : Fin 512)
  (x : Vec Ideal S1x512x1024 .f32) (f : Vec Ideal S1x512x256 .bf16) (og : Vec Ideal S1x512x512 .bf16)
  (ow : Vec Ideal S1x512x256 .bf16) (sh1 sc1 g1 : Vec Ideal S1x1x1024 .f32) (n1 : Vec Ideal S1x1024 .f32)
  (a0 a1 a2 : Vec Ideal S1024x1024 .bf16) (bf : Vec Ideal S256x1024 .bf16) (bg : Vec Ideal S512x1024 .bf16)
  (bw : Vec Ideal S256x1024 .bf16) (wo : Vec Ideal S1024x1024 .bf16)
  (hx : (fun k => x (ix3 0 r k)) = T.x) (hf : (fun k => f (ix3 0 r k)) = T.f) (hog : (fun k => og (ix3 0 r k)) = T.og)
  (how : (fun k => ow (ix3 0 r k)) = T.ow) (hsh1 : (fun k => sh1 (ix3 0 0 k)) = T.sh1) (hsc1 : (fun k => sc1 (ix3 0 0 k)) = T.sc1)
  (hg1 : (fun k => g1 (ix3 0 0 k)) = T.g1) (hn1 : (fun k => n1 (ix2 0 k)) = W.n1)
  (ha0 : (fun k f => a0 (ix2 k f)) = W.gate 0) (ha1 : (fun k f => a1 (ix2 k f)) = W.gate 1) (ha2 : (fun k f => a2 (ix2 k f)) = W.gate 2)
  (hbf : (fun k f => bf (ix2 k f)) = W.bf) (hbg : (fun k f => bg (ix2 k f)) = W.bg) (hbw : (fun k f => bw (ix2 k f)) = W.bw)
  (hwo : (fun k f => wo (ix2 k f)) = W.out)

include hx hsh1 hsc1 hn1 in
/-- The first normalisation of a chunk. -/
theorem first_apply : (fun k => norm (rows x) n1 (row sh1) (row sc1) (ix2 r k)) = normed T.x W.n1 T.sh1 T.sc1 := by
  funext d
  rw [norm_apply, ← hx, ← hn1, ← hsh1, ← hsc1]
  simp only [rows_apply, row_apply]

include hx hf hog how hsh1 hsc1 hn1 ha0 ha1 ha2 hbf hbg hbw in
/-- The gated branches of a chunk. -/
theorem chunkMix_apply : (fun k => chunkMix x f og ow sh1 sc1 n1 a0 a1 a2 bf bg bw (ix2 r k)) = mixed T W := by
  funext d
  unfold chunkMix mixed
  rw [mix_apply, times_apply, times_apply, times_apply, pay5_apply, pay5_apply, pay20_apply,
    first_apply T W r x sh1 sc1 n1 hx hsh1 hsc1 hn1, hf, hog, how, ha0, ha1, ha2, hbf, hbg, hbw]

include hx hf hog how hsh1 hsc1 hg1 hn1 ha0 ha1 ha2 hbf hbg hbw hwo in
/-- A chunk's tokens after the merge. -/
theorem chunk_apply : (fun k => chunk x f og ow sh1 sc1 g1 n1 a0 a1 a2 bf bg bw wo (ix2 r k)) = merged T W := by
  funext d
  unfold chunk merged
  rw [resid_apply, rows_apply, row_apply,
    chunkMix_apply T W r x f og ow sh1 sc1 n1 a0 a1 a2 bf bg bw hx hf hog how hsh1 hsc1 hn1 ha0 ha1 ha2 hbf hbg hbw, hwo,
    ← hx, ← hg1]

/-- A chunk's tokens normalised again. -/
theorem chunkNorm_apply (y : FVec Ideal S512x1024 .f32) (n2 : Vec Ideal S1x1024 .f32) (sh2 sc2 : Vec Ideal S1x1x1024 .f32)
    (hy : (fun k => y (ix2 r k)) = merged T W) (hn2 : (fun k => n2 (ix2 0 k)) = W.n2)
    (hsh2 : (fun k => sh2 (ix3 0 0 k)) = T.sh2) (hsc2 : (fun k => sc2 (ix3 0 0 k)) = T.sc2) :
    (fun k => chunkNorm y n2 sh2 sc2 (ix2 r k)) = second T W := by
  funext d
  unfold chunkNorm second
  rw [norm_apply, hy, hn2, ← hsh2, ← hsc2]
  simp only [row_apply]

/-- A chunk's affinities. -/
theorem weights_apply (h : FVec Ideal S512x1024 .bf16) (wr : Vec Ideal S1024x128 .bf16)
    (hh : (fun k => h (ix2 r k)) = second T W) (hwr : (fun k (e : Fin 16) => wr (ix2 k ⟨e.1, by omega⟩)) = W.router) (e : Fin 16) :
    weigh (scores h wr) (ix3 0 e r) = affinity T W e := by
  rw [weigh_apply]
  unfold affinity
  refine congrArg (fun s => soft s e) (funext fun k => ?_)
  rw [scores_apply, hh, hwr]

end Chunk

/-! ## The loads of the two chunks -/

/-- The row of the block that row `r` of a chunk is. -/
abbrev lo (r : Fin 512) : Fin 1024 := ⟨r.1, by omega⟩
abbrev hi (r : Fin 512) : Fin 1024 := ⟨512 + r.1, by omega⟩

theorem ld_0 (x : Vec Ideal S1x1024x1024 .f32) (r : Fin 512) (k : Fin 1024) : View.ld x r0_0 (ix3 0 r k) = x (ix3 0 (lo r) k) := by
  unfold r0_0
  rw [View.ld_unit]
  pointwise
theorem ld_10 (x : Vec Ideal S1x1024x1024 .f32) (r : Fin 512) (k : Fin 1024) : View.ld x r0_10 (ix3 0 r k) = x (ix3 0 (hi r) k) := by
  unfold r0_10
  rw [View.ld_unit]
  pointwise
theorem ld_3 (x : Vec Ideal S1x1024x256 .bf16) (r : Fin 512) (k : Fin 256) : View.ld x r0_3 (ix3 0 r k) = x (ix3 0 (lo r) k) := by
  unfold r0_3
  rw [View.ld_unit]
  pointwise
theorem ld_11 (x : Vec Ideal S1x1024x256 .bf16) (r : Fin 512) (k : Fin 256) : View.ld x r0_11 (ix3 0 r k) = x (ix3 0 (hi r) k) := by
  unfold r0_11
  rw [View.ld_unit]
  pointwise
theorem ld_5 (x : Vec Ideal S1x1024x512 .bf16) (r : Fin 512) (k : Fin 512) : View.ld x r0_5 (ix3 0 r k) = x (ix3 0 (lo r) k) := by
  unfold r0_5
  rw [View.ld_unit]
  pointwise
theorem ld_12 (x : Vec Ideal S1x1024x512 .bf16) (r : Fin 512) (k : Fin 512) : View.ld x r0_12 (ix3 0 r k) = x (ix3 0 (hi r) k) := by
  unfold r0_12
  rw [View.ld_unit]
  pointwise
theorem ld_7 (x : Vec Ideal S1024x3072 .bf16) (k f : Fin 1024) : View.ld x r0_7 (ix2 k f) = x (ix2 k ⟨f.1, by omega⟩) := by
  unfold r0_7
  rw [View.ld_unit]
  pointwise
theorem ld_8 (x : Vec Ideal S1024x3072 .bf16) (k f : Fin 1024) : View.ld x r0_8 (ix2 k f) = x (ix2 k ⟨1024 + f.1, by omega⟩) := by
  unfold r0_8
  rw [View.ld_unit]
  pointwise
theorem ld_9 (x : Vec Ideal S1024x3072 .bf16) (k f : Fin 1024) : View.ld x r0_9 (ix2 k f) = x (ix2 k ⟨2048 + f.1, by omega⟩) := by
  unfold r0_9
  rw [View.ld_unit]
  pointwise

theorem zero2 : (![0, 0] : Fin 2 → Nat) = fun _ => 0 := by funext a; fin_cases a <;> rfl
theorem zero3 : (![0, 0, 0] : Fin 3 → Nat) = fun _ => 0 := by funext a; fin_cases a <;> rfl

theorem ld_1 (x : Vec Ideal S1x1024 .f32) : View.ld x r0_1 = x := View.ld_unit_zero zero2 _ x
theorem ld_2 (x : Vec Ideal S1x1x1024 .f32) : View.ld x r0_2 = x := View.ld_unit_zero zero3 _ x
theorem ld_4 (x : Vec Ideal S256x1024 .bf16) : View.ld x r0_4 = x := View.ld_unit_zero zero2 _ x
theorem ld_6 (x : Vec Ideal S512x1024 .bf16) : View.ld x r0_6 = x := View.ld_unit_zero zero2 _ x
theorem ld_13 (x : Vec Ideal S1024x1024 .bf16) : View.ld x r0_13 = x := View.ld_unit_zero zero2 _ x
theorem ld_14 (x : Vec Ideal S1024x128 .bf16) : View.ld x r0_14 = x := View.ld_unit_zero zero2 _ x

section Step

variable (x0 : Vec Ideal S1x1024x1024 .f32) (x1 : Vec Ideal S1x1024x256 .bf16) (x2 : Vec Ideal S1x1024x512 .bf16)
  (x3 : Vec Ideal S1x1024x256 .bf16) (x4 x5 x6 x7 x8 : Vec Ideal S1x1x1024 .f32) (x9 x10 : Vec Ideal S1x1024 .f32)
  (x11 : Vec Ideal S1024x3072 .bf16) (x12 : Vec Ideal S256x1024 .bf16) (x13 : Vec Ideal S512x1024 .bf16)
  (x14 : Vec Ideal S256x1024 .bf16) (x15 : Vec Ideal S1024x1024 .bf16) (x16 : Vec Ideal S1024x128 .bf16)

/-- The first chunk's rows. -/
theorem cut_lo (r : Fin 512) :
    (fun k => cut x4 x5 x6 x9 x11 x12 x13 x14 x15 (View.ld x0 r0_0) (View.ld x1 r0_3) (View.ld x2 r0_5) (View.ld x3 r0_3) (ix2 r k))
      = merged (tok x0 x1 x2 x3 x4 x5 x6 x7 x8 (lo r)) (wts x9 x10 x11 x12 x13 x14 x15 x16) := by
  unfold cut
  rw [ld_2, ld_2, ld_2, ld_1, ld_4, ld_6, ld_4, ld_13]
  refine chunk_apply _ _ r _ _ _ _ _ _ _ _ _ _ _ _ _ _ _ ?_ ?_ ?_ ?_ rfl rfl rfl rfl ?_ ?_ ?_ rfl rfl rfl rfl
  · funext k; exact ld_0 x0 r k
  · funext k; exact ld_3 x1 r k
  · funext k; exact ld_5 x2 r k
  · funext k; exact ld_3 x3 r k
  · funext k f; exact (ld_7 x11 k f).trans (congrArg x11 (congrArg (ix2 k) (Fin.ext (by show f.1 = 0 * 1024 + f.1; omega))))
  · funext k f; exact (ld_8 x11 k f).trans (congrArg x11 (congrArg (ix2 k) (Fin.ext (by show 1024 + f.1 = 1 * 1024 + f.1; omega))))
  · funext k f; exact (ld_9 x11 k f).trans (congrArg x11 (congrArg (ix2 k) (Fin.ext (by show 2048 + f.1 = 2 * 1024 + f.1; omega))))

/-- The second chunk's rows. -/
theorem cut_hi (r : Fin 512) :
    (fun k => cut x4 x5 x6 x9 x11 x12 x13 x14 x15 (View.ld x0 r0_10) (View.ld x1 r0_11) (View.ld x2 r0_12) (View.ld x3 r0_11) (ix2 r k))
      = merged (tok x0 x1 x2 x3 x4 x5 x6 x7 x8 (hi r)) (wts x9 x10 x11 x12 x13 x14 x15 x16) := by
  unfold cut
  rw [ld_2, ld_2, ld_2, ld_1, ld_4, ld_6, ld_4, ld_13]
  refine chunk_apply _ _ r _ _ _ _ _ _ _ _ _ _ _ _ _ _ _ ?_ ?_ ?_ ?_ rfl rfl rfl rfl ?_ ?_ ?_ rfl rfl rfl rfl
  · funext k; exact ld_10 x0 r k
  · funext k; exact ld_11 x1 r k
  · funext k; exact ld_12 x2 r k
  · funext k; exact ld_11 x3 r k
  · funext k f; exact (ld_7 x11 k f).trans (congrArg x11 (congrArg (ix2 k) (Fin.ext (by show f.1 = 0 * 1024 + f.1; omega))))
  · funext k f; exact (ld_8 x11 k f).trans (congrArg x11 (congrArg (ix2 k) (Fin.ext (by show 1024 + f.1 = 1 * 1024 + f.1; omega))))
  · funext k f; exact (ld_9 x11 k f).trans (congrArg x11 (congrArg (ix2 k) (Fin.ext (by show 2048 + f.1 = 2 * 1024 + f.1; omega))))

/-- A chunk laid out as a block of one batch entry. -/
theorem lift_apply (y : S512x1024.Idx → EReal) (r : Fin 512) (d : Fin 1024) :
    shapeCast S1x512x1024 y shapeCasts_S512x1024_S1x512x1024 (ix3 0 r d) = y (ix2 r d) := by
  pointwise

theorem emb_0 (r : Fin 512) (d : Fin 1024) : r0_0.emb (ix3 0 r d) = ix3 0 (lo r) d := by
  funext a
  apply Fin.ext
  match a with
  | ⟨0, _⟩ => rfl
  | ⟨1, _⟩ => show 0 + 1 * r.1 = r.1
              omega
  | ⟨2, _⟩ => show 0 + 1 * d.1 = d.1
              omega
theorem emb_10 (r : Fin 512) (d : Fin 1024) : r0_10.emb (ix3 0 r d) = ix3 0 (hi r) d := by
  funext a
  apply Fin.ext
  match a with
  | ⟨0, _⟩ => rfl
  | ⟨1, _⟩ => show 512 + 1 * r.1 = 512 + r.1
              omega
  | ⟨2, _⟩ => show 0 + 1 * d.1 = d.1
              omega
theorem emb_15 (e : Fin 16) (r : Fin 512) : r0_15.emb (ix3 0 e r) = ix3 0 e (lo r) := by
  funext a
  apply Fin.ext
  match a with
  | ⟨0, _⟩ => rfl
  | ⟨1, _⟩ => show 0 + 1 * e.1 = e.1
              omega
  | ⟨2, _⟩ => show 0 + 1 * r.1 = r.1
              omega
theorem emb_16 (e : Fin 16) (r : Fin 512) : r0_16.emb (ix3 0 e r) = ix3 0 e (hi r) := by
  funext a
  apply Fin.ext
  match a with
  | ⟨0, _⟩ => rfl
  | ⟨1, _⟩ => show 0 + 1 * e.1 = e.1
              omega
  | ⟨2, _⟩ => show 512 + 1 * r.1 = 512 + r.1
              omega

/-- An equation at every index of a block of one batch entry. -/
theorem of_ix3 {n k : ℕ} {f g : (⟨3, ![1, n, k]⟩ : Shape).Idx → EReal} (h : ∀ a b, f (ix3 0 a b) = g (ix3 0 a b)) (i) : f i = g i := by
  have e : i = ix3 0 (i 1) (i 2) := (eq_ix3 i).trans (congrArg (fun z => ix3 z (i 1) (i 2)) (Subsingleton.elim _ _))
  rw [e]
  exact h _ _

/-- The second normalisation of the first chunk's rows. -/
theorem norm_lo (r : Fin 512) :
    (fun k => chunkNorm (cut x4 x5 x6 x9 x11 x12 x13 x14 x15 (View.ld x0 r0_0) (View.ld x1 r0_3) (View.ld x2 r0_5) (View.ld x3 r0_3))
        (View.ld x10 r0_1) (View.ld x7 r0_2) (View.ld x8 r0_2) (ix2 r k))
      = second (tok x0 x1 x2 x3 x4 x5 x6 x7 x8 (lo r)) (wts x9 x10 x11 x12 x13 x14 x15 x16) := by
  rw [ld_1 x10, ld_2 x7, ld_2 x8]
  exact chunkNorm_apply _ _ r _ _ _ _ (cut_lo x0 x1 x2 x3 x4 x5 x6 x7 x8 x9 x10 x11 x12 x13 x14 x15 x16 r) rfl rfl rfl

/-- The second normalisation of the second chunk's rows. -/
theorem norm_hi (r : Fin 512) :
    (fun k => chunkNorm (cut x4 x5 x6 x9 x11 x12 x13 x14 x15 (View.ld x0 r0_10) (View.ld x1 r0_11) (View.ld x2 r0_12) (View.ld x3 r0_11))
        (View.ld x10 r0_1) (View.ld x7 r0_2) (View.ld x8 r0_2) (ix2 r k))
      = second (tok x0 x1 x2 x3 x4 x5 x6 x7 x8 (hi r)) (wts x9 x10 x11 x12 x13 x14 x15 x16) := by
  rw [ld_1 x10, ld_2 x7, ld_2 x8]
  exact chunkNorm_apply _ _ r _ _ _ _ (cut_hi x0 x1 x2 x3 x4 x5 x6 x7 x8 x9 x10 x11 x12 x13 x14 x15 x16 r) rfl rfl rfl

/-- The first output at a token of the block. -/
theorem out17_apply (r d : Fin 1024) :
    out0_17 x0 x1 x2 x3 x4 x5 x6 x7 x8 x9 x10 x11 x12 x13 x14 x15 x16 (ix3 0 r d)
      = merged (tok x0 x1 x2 x3 x4 x5 x6 x7 x8 r) (wts x9 x10 x11 x12 x13 x14 x15 x16) d := by
  rw [out17_eq]
  refine View.canon_apply_of_pieces (Val := Elt Ideal) (S := S1x1024x1024)
    (fun i => merged (tok x0 x1 x2 x3 x4 x5 x6 x7 x8 (i 1)) (wts x9 x10 x11 x12 x13 x14 x15 x16) (i 2)) _ ?_ (ix3 0 r d) (cover0_17 _ _ _)
  intro p hp
  rcases List.mem_cons.1 hp with rfl | hp
  · refine of_ix3 (fun a b => ?_)
    refine (lift_apply _ a b).trans ((congrFun (cut_hi x0 x1 x2 x3 x4 x5 x6 x7 x8 x9 x10 x11 x12 x13 x14 x15 x16 a) b).trans ?_)
    show _ = merged (tok x0 x1 x2 x3 x4 x5 x6 x7 x8 (r0_10.emb (ix3 0 a b) 1)) (wts x9 x10 x11 x12 x13 x14 x15 x16) (r0_10.emb (ix3 0 a b) 2)
    rw [emb_10]
    rfl
  · rcases List.mem_singleton.1 hp with rfl
    refine of_ix3 (fun a b => ?_)
    refine (lift_apply _ a b).trans ((congrFun (cut_lo x0 x1 x2 x3 x4 x5 x6 x7 x8 x9 x10 x11 x12 x13 x14 x15 x16 a) b).trans ?_)
    show _ = merged (tok x0 x1 x2 x3 x4 x5 x6 x7 x8 (r0_0.emb (ix3 0 a b) 1)) (wts x9 x10 x11 x12 x13 x14 x15 x16) (r0_0.emb (ix3 0 a b) 2)
    rw [emb_0]
    rfl

/-- The second output at a token of the block. -/
theorem out18_apply (r d : Fin 1024) :
    out0_18 x0 x1 x2 x3 x4 x5 x6 x7 x8 x9 x10 x11 x12 x13 x14 x15 x16 (ix3 0 r d)
      = second (tok x0 x1 x2 x3 x4 x5 x6 x7 x8 r) (wts x9 x10 x11 x12 x13 x14 x15 x16) d := by
  rw [out18_eq]
  refine View.canon_apply_of_pieces (Val := Elt Ideal) (S := S1x1024x1024)
    (fun i => second (tok x0 x1 x2 x3 x4 x5 x6 x7 x8 (i 1)) (wts x9 x10 x11 x12 x13 x14 x15 x16) (i 2)) _ ?_ (ix3 0 r d) (cover0_18 _ _ _)
  intro p hp
  rcases List.mem_cons.1 hp with rfl | hp
  · refine of_ix3 (fun a b => ?_)
    refine (lift_apply _ a b).trans ((congrFun (norm_hi x0 x1 x2 x3 x4 x5 x6 x7 x8 x9 x10 x11 x12 x13 x14 x15 x16 a) b).trans ?_)
    show _ = second (tok x0 x1 x2 x3 x4 x5 x6 x7 x8 (r0_10.emb (ix3 0 a b) 1)) (wts x9 x10 x11 x12 x13 x14 x15 x16) (r0_10.emb (ix3 0 a b) 2)
    rw [emb_10]
    rfl
  · rcases List.mem_singleton.1 hp with rfl
    refine of_ix3 (fun a b => ?_)
    refine (lift_apply _ a b).trans ((congrFun (norm_lo x0 x1 x2 x3 x4 x5 x6 x7 x8 x9 x10 x11 x12 x13 x14 x15 x16 a) b).trans ?_)
    show _ = second (tok x0 x1 x2 x3 x4 x5 x6 x7 x8 (r0_0.emb (ix3 0 a b) 1)) (wts x9 x10 x11 x12 x13 x14 x15 x16) (r0_0.emb (ix3 0 a b) 2)
    rw [emb_0]
    rfl

/-- The third output at an expert and a token of the block. -/
theorem out19_apply (e : Fin 16) (r : Fin 1024) :
    out0_19 x0 x1 x2 x3 x4 x5 x6 x7 x8 x9 x10 x11 x12 x13 x14 x15 x16 (ix3 0 e r)
      = affinity (tok x0 x1 x2 x3 x4 x5 x6 x7 x8 r) (wts x9 x10 x11 x12 x13 x14 x15 x16) e := by
  rw [out19_eq]
  refine View.canon_apply_of_pieces (Val := Elt Ideal) (S := S1x16x1024)
    (fun i => affinity (tok x0 x1 x2 x3 x4 x5 x6 x7 x8 (i 2)) (wts x9 x10 x11 x12 x13 x14 x15 x16) (i 1)) _ ?_ (ix3 0 e r) (cover0_19 _ _ _)
  rw [ld_14 x16]
  intro p hp
  rcases List.mem_cons.1 hp with rfl | hp
  · refine of_ix3 (fun a b => ?_)
    refine (weights_apply _ _ b _ _ (norm_hi x0 x1 x2 x3 x4 x5 x6 x7 x8 x9 x10 x11 x12 x13 x14 x15 x16 b) rfl a).trans ?_
    show _ = affinity (tok x0 x1 x2 x3 x4 x5 x6 x7 x8 (r0_16.emb (ix3 0 a b) 2)) (wts x9 x10 x11 x12 x13 x14 x15 x16) (r0_16.emb (ix3 0 a b) 1)
    rw [emb_16]
    rfl
  · rcases List.mem_singleton.1 hp with rfl
    refine of_ix3 (fun a b => ?_)
    refine (weights_apply _ _ b _ _ (norm_lo x0 x1 x2 x3 x4 x5 x6 x7 x8 x9 x10 x11 x12 x13 x14 x15 x16 b) rfl a).trans ?_
    show _ = affinity (tok x0 x1 x2 x3 x4 x5 x6 x7 x8 (r0_15.emb (ix3 0 a b) 2)) (wts x9 x10 x11 x12 x13 x14 x15 x16) (r0_15.emb (ix3 0 a b) 1)
    rw [emb_15]
    rfl

end Step

end Cert.MergeIdeal.Body
-- ==== Proof.Merge.Args.lean ====
module

public import proofs.«01_k».proof.Proof.Merge.Spec
public import proofs.«01_k».proof.Proof.Common.Reads

/-!
# The tokens and weights in the argument arrays

The modulation array holds six rows of 1024 per batch entry; the merge reads the first five. The
gates are the last 3072 columns of the input projection.
-/

@[expose] public section

noncomputable section

namespace Cert.Mix

open Idealize.ShloMosaic

/-- Token `l` of batch entry `b`. -/
def tokenAt (x : (⟨3, ![8, 2048, 1024]⟩ : Shape).Idx → EReal) (f : (⟨3, ![8, 2048, 256]⟩ : Shape).Idx → EReal)
    (og : (⟨3, ![8, 2048, 512]⟩ : Shape).Idx → EReal) (ow : (⟨3, ![8, 2048, 256]⟩ : Shape).Idx → EReal)
    (mod : (⟨2, ![8, 6144]⟩ : Shape).Idx → EReal) (b : Fin 8) (l : Fin 2048) : Token where
  x k := x (ix3 b l k)
  f k := f (ix3 b l k)
  og k := og (ix3 b l k)
  ow k := ow (ix3 b l k)
  sh1 k := mod (ix2 b ⟨k.1, by omega⟩)
  sc1 k := mod (ix2 b ⟨1024 + k.1, by omega⟩)
  g1 k := mod (ix2 b ⟨2048 + k.1, by omega⟩)
  sh2 k := mod (ix2 b ⟨3072 + k.1, by omega⟩)
  sc2 k := mod (ix2 b ⟨4096 + k.1, by omega⟩)

/-- The weights. -/
def weightsOf (n1 n2 : (⟨1, ![1024]⟩ : Shape).Idx → EReal) (win : (⟨2, ![1024, 4608]⟩ : Shape).Idx → EReal)
    (bf : (⟨2, ![256, 1024]⟩ : Shape).Idx → EReal) (bg : (⟨2, ![512, 1024]⟩ : Shape).Idx → EReal)
    (bw : (⟨2, ![256, 1024]⟩ : Shape).Idx → EReal) (out : (⟨2, ![1024, 1024]⟩ : Shape).Idx → EReal)
    (router : (⟨2, ![1024, 16]⟩ : Shape).Idx → EReal) : Weights where
  n1 k := n1 (ix1 k)
  n2 k := n2 (ix1 k)
  gate i k f := win (ix2 k ⟨1536 + (i.1 * 1024 + f.1), by omega⟩)
  bf k f := bf (ix2 k f)
  bg k f := bg (ix2 k f)
  bw k f := bw (ix2 k f)
  out k f := out (ix2 k f)
  router k e := router (ix2 k e)

end Cert.Mix
-- ==== Proof.Merge.Entry.lean ====
module

public import proofs.«01_k».proof.Proof.Merge.Out
public import proofs.«01_k».proof.Proof.Merge.Args
public import proofs.«01_k».proof.Proof.Gen.MergeIdeal.Value
public import Idealize.ShloMosaic.Lib.Pointwise
public import Idealize.ShloMosaic.Lib.StableHlo.ReadAt

/-!
# The arrays the merge call reads

The first four are arguments. The modulation rows are slices of one argument, the gates are the
last columns of another, and the router is filled up to 128 columns of which only 16 are used.
-/

@[expose] public section

noncomputable section

namespace Cert.MergeIdeal.Mix

open Idealize.ShloMosaic Idealize.ShloMosaic.TcCoe Cert.MergeIdeal.Gen Cert.MergeIdeal.Body Cert.Mix

variable (m : (ℓ : Loc nD τ sig) → Buf (Elt Ideal) ℓ)

/-- The argument arrays as functions of their indices. -/
abbrev A0 (c : Dev nD) : S8x2048x1024.Idx → EReal := m ((c : Thread nD τ).loc main_arg0)
abbrev A1 (c : Dev nD) : S8x2048x256.Idx → EReal := m ((c : Thread nD τ).loc main_arg1)
abbrev A2 (c : Dev nD) : S8x2048x512.Idx → EReal := m ((c : Thread nD τ).loc main_arg2)
abbrev A3 (c : Dev nD) : S8x2048x256.Idx → EReal := m ((c : Thread nD τ).loc main_arg3)
abbrev A4 (c : Dev nD) : S8x6144.Idx → EReal := m ((c : Thread nD τ).loc main_arg4)
abbrev A5 (c : Dev nD) : S1024.Idx → EReal := m ((c : Thread nD τ).loc main_arg5)
abbrev A6 (c : Dev nD) : S1024.Idx → EReal := m ((c : Thread nD τ).loc main_arg6)
abbrev A7 (c : Dev nD) : S1024x4608.Idx → EReal := m ((c : Thread nD τ).loc main_arg7)
abbrev A8 (c : Dev nD) : S256x1024.Idx → EReal := m ((c : Thread nD τ).loc main_arg8)
abbrev A9 (c : Dev nD) : S512x1024.Idx → EReal := m ((c : Thread nD τ).loc main_arg9)
abbrev A10 (c : Dev nD) : S256x1024.Idx → EReal := m ((c : Thread nD τ).loc main_arg10)
abbrev A11 (c : Dev nD) : S1024x1024.Idx → EReal := m ((c : Thread nD τ).loc main_arg11)
abbrev A12 (c : Dev nD) : S1024x16.Idx → EReal := m ((c : Thread nD τ).loc main_arg12)

/-! ## What the host prepares -/

/-- Modulation row 0: the first shift. -/
theorem row0 (c : Dev nD) (b : Fin 8) (k : Fin 1024) :
    (V m c main_v1 : S8x1x1024.Idx → EReal) (ix3 b 0 k) = A4 m c (ix2 b ⟨k.1, by omega⟩) := by
  unfold V
  after_reads_at

/-- Modulation row 1: the first scale. -/
theorem row1 (c : Dev nD) (b : Fin 8) (k : Fin 1024) :
    (V m c main_v3 : S8x1x1024.Idx → EReal) (ix3 b 0 k) = A4 m c (ix2 b ⟨1024 + k.1, by omega⟩) := by
  unfold V
  after_reads_at

/-- Modulation row 2: the gate. -/
theorem row2 (c : Dev nD) (b : Fin 8) (k : Fin 1024) :
    (V m c main_v5 : S8x1x1024.Idx → EReal) (ix3 b 0 k) = A4 m c (ix2 b ⟨2048 + k.1, by omega⟩) := by
  unfold V
  after_reads_at

/-- Modulation row 3: the second shift. -/
theorem row3 (c : Dev nD) (b : Fin 8) (k : Fin 1024) :
    (V m c main_v7 : S8x1x1024.Idx → EReal) (ix3 b 0 k) = A4 m c (ix2 b ⟨3072 + k.1, by omega⟩) := by
  unfold V
  after_reads_at

/-- Modulation row 4: the second scale. -/
theorem row4 (c : Dev nD) (b : Fin 8) (k : Fin 1024) :
    (V m c main_v9 : S8x1x1024.Idx → EReal) (ix3 b 0 k) = A4 m c (ix2 b ⟨4096 + k.1, by omega⟩) := by
  unfold V
  after_reads_at

theorem gain5 (c : Dev nD) (k : Fin 1024) : (V m c main_v10 : S1x1024.Idx → EReal) (ix2 0 k) = A5 m c (ix1 k) := by
  unfold V
  after_reads_at

theorem gain6 (c : Dev nD) (k : Fin 1024) : (V m c main_v11 : S1x1024.Idx → EReal) (ix2 0 k) = A6 m c (ix1 k) := by
  unfold V
  after_reads_at

/-- The gates' columns. -/
theorem gates (c : Dev nD) (k : Fin 1024) (f : Fin 3072) :
    (V m c main_v13 : S1024x3072.Idx → EReal) (ix2 k f) = A7 m c (ix2 k ⟨1536 + f.1, by omega⟩) := by
  unfold V
  after_reads_at

theorem weight8 (c : Dev nD) (k : Fin 256) (f : Fin 1024) : (V m c main_v14 : S256x1024.Idx → EReal) (ix2 k f) = A8 m c (ix2 k f) := by
  unfold V
  after_reads_at

theorem weight9 (c : Dev nD) (k : Fin 512) (f : Fin 1024) : (V m c main_v15 : S512x1024.Idx → EReal) (ix2 k f) = A9 m c (ix2 k f) := by
  unfold V
  after_reads_at

theorem weight10 (c : Dev nD) (k : Fin 256) (f : Fin 1024) : (V m c main_v16 : S256x1024.Idx → EReal) (ix2 k f) = A10 m c (ix2 k f) := by
  unfold V
  after_reads_at

theorem weight11 (c : Dev nD) (k : Fin 1024) (f : Fin 1024) : (V m c main_v17 : S1024x1024.Idx → EReal) (ix2 k f) = A11 m c (ix2 k f) := by
  unfold V
  after_reads_at

/-- The router's used columns. -/
theorem router (c : Dev nD) (k : Fin 1024) (e : Fin 16) :
    (V m c main_v19 : S1024x128.Idx → EReal) (ix2 k ⟨e.1, by omega⟩) = A12 m c (ix2 k e) := by
  unfold V
  after_reads_at

end Cert.MergeIdeal.Mix
-- ==== Proof.Merge.Value.lean ====
module

public import proofs.«01_k».proof.Proof.Merge.Entry

/-!
# The merge call computes the formula

Grid step `t` is batch entry `t/2`, tokens from `t%2*1024`. Its blocks are those of the three
arrays `whole17`, `whole18` and `whole19`, which they tile.
-/

@[expose] public section

noncomputable section

namespace Cert.MergeIdeal.Mix

open Idealize.ShloMosaic Idealize.ShloMosaic.TcCoe Idealize.SL.Sem Cert.MergeIdeal.Gen Cert.MergeIdeal.Body Cert.Mix

variable (m : (ℓ : Loc nD τ sig) → Buf (Elt Ideal) ℓ)

theorem index0 : ∀ t : Fin cfg0.N, win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0)
theorem index1 : ∀ t : Fin cfg0.N, win0_1.index t 0 = t.val / 2 ∧ win0_1.index t 1 = t.val % 2 ∧ win0_1.index t 2 = 0 :=
  (by decide +kernel : ∀ t : Fin grid0.N, win0_1.index t 0 = t.val / 2 ∧ win0_1.index t 1 = t.val % 2 ∧ win0_1.index t 2 = 0)
theorem index2 : ∀ t : Fin cfg0.N, win0_2.index t 0 = t.val / 2 ∧ win0_2.index t 1 = t.val % 2 ∧ win0_2.index t 2 = 0 :=
  (by decide +kernel : ∀ t : Fin grid0.N, win0_2.index t 0 = t.val / 2 ∧ win0_2.index t 1 = t.val % 2 ∧ win0_2.index t 2 = 0)
theorem index3 : ∀ t : Fin cfg0.N, win0_3.index t 0 = t.val / 2 ∧ win0_3.index t 1 = t.val % 2 ∧ win0_3.index t 2 = 0 :=
  (by decide +kernel : ∀ t : Fin grid0.N, win0_3.index t 0 = t.val / 2 ∧ win0_3.index t 1 = t.val % 2 ∧ win0_3.index t 2 = 0)
theorem index4 : ∀ t : Fin cfg0.N, win0_4.index t 0 = t.val / 2 ∧ win0_4.index t 1 = 0 ∧ win0_4.index t 2 = 0 :=
  (by decide +kernel : ∀ t : Fin grid0.N, win0_4.index t 0 = t.val / 2 ∧ win0_4.index t 1 = 0 ∧ win0_4.index t 2 = 0)
theorem index5 : ∀ t : Fin cfg0.N, win0_5.index t 0 = t.val / 2 ∧ win0_5.index t 1 = 0 ∧ win0_5.index t 2 = 0 :=
  (by decide +kernel : ∀ t : Fin grid0.N, win0_5.index t 0 = t.val / 2 ∧ win0_5.index t 1 = 0 ∧ win0_5.index t 2 = 0)
theorem index6 : ∀ t : Fin cfg0.N, win0_6.index t 0 = t.val / 2 ∧ win0_6.index t 1 = 0 ∧ win0_6.index t 2 = 0 :=
  (by decide +kernel : ∀ t : Fin grid0.N, win0_6.index t 0 = t.val / 2 ∧ win0_6.index t 1 = 0 ∧ win0_6.index t 2 = 0)
theorem index7 : ∀ t : Fin cfg0.N, win0_7.index t 0 = t.val / 2 ∧ win0_7.index t 1 = 0 ∧ win0_7.index t 2 = 0 :=
  (by decide +kernel : ∀ t : Fin grid0.N, win0_7.index t 0 = t.val / 2 ∧ win0_7.index t 1 = 0 ∧ win0_7.index t 2 = 0)
theorem index8 : ∀ t : Fin cfg0.N, win0_8.index t 0 = t.val / 2 ∧ win0_8.index t 1 = 0 ∧ win0_8.index t 2 = 0 :=
  (by decide +kernel : ∀ t : Fin grid0.N, win0_8.index t 0 = t.val / 2 ∧ win0_8.index t 1 = 0 ∧ win0_8.index t 2 = 0)
theorem index9 : ∀ t : Fin cfg0.N, win0_9.index t 0 = 0 ∧ win0_9.index t 1 = 0 :=
  (by decide +kernel : ∀ t : Fin grid0.N, win0_9.index t 0 = 0 ∧ win0_9.index t 1 = 0)
theorem index10 : ∀ t : Fin cfg0.N, win0_10.index t 0 = 0 ∧ win0_10.index t 1 = 0 :=
  (by decide +kernel : ∀ t : Fin grid0.N, win0_10.index t 0 = 0 ∧ win0_10.index t 1 = 0)
theorem index11 : ∀ t : Fin cfg0.N, win0_11.index t 0 = 0 ∧ win0_11.index t 1 = 0 :=
  (by decide +kernel : ∀ t : Fin grid0.N, win0_11.index t 0 = 0 ∧ win0_11.index t 1 = 0)
theorem index12 : ∀ t : Fin cfg0.N, win0_12.index t 0 = 0 ∧ win0_12.index t 1 = 0 :=
  (by decide +kernel : ∀ t : Fin grid0.N, win0_12.index t 0 = 0 ∧ win0_12.index t 1 = 0)
theorem index13 : ∀ t : Fin cfg0.N, win0_13.index t 0 = 0 ∧ win0_13.index t 1 = 0 :=
  (by decide +kernel : ∀ t : Fin grid0.N, win0_13.index t 0 = 0 ∧ win0_13.index t 1 = 0)
theorem index14 : ∀ t : Fin cfg0.N, win0_14.index t 0 = 0 ∧ win0_14.index t 1 = 0 :=
  (by decide +kernel : ∀ t : Fin grid0.N, win0_14.index t 0 = 0 ∧ win0_14.index t 1 = 0)
theorem index15 : ∀ t : Fin cfg0.N, win0_15.index t 0 = 0 ∧ win0_15.index t 1 = 0 :=
  (by decide +kernel : ∀ t : Fin grid0.N, win0_15.index t 0 = 0 ∧ win0_15.index t 1 = 0)
theorem index16 : ∀ t : Fin cfg0.N, win0_16.index t 0 = 0 ∧ win0_16.index t 1 = 0 :=
  (by decide +kernel : ∀ t : Fin grid0.N, win0_16.index t 0 = 0 ∧ win0_16.index t 1 = 0)
theorem index17 : ∀ t : Fin cfg0.N, win0_17.index t 0 = t.val / 2 ∧ win0_17.index t 1 = t.val % 2 ∧ win0_17.index t 2 = 0 :=
  (by decide +kernel : ∀ t : Fin grid0.N, win0_17.index t 0 = t.val / 2 ∧ win0_17.index t 1 = t.val % 2 ∧ win0_17.index t 2 = 0)
theorem index18 : ∀ t : Fin cfg0.N, win0_18.index t 0 = t.val / 2 ∧ win0_18.index t 1 = t.val % 2 ∧ win0_18.index t 2 = 0 :=
  (by decide +kernel : ∀ t : Fin grid0.N, win0_18.index t 0 = t.val / 2 ∧ win0_18.index t 1 = t.val % 2 ∧ win0_18.index t 2 = 0)
theorem index19 : ∀ t : Fin cfg0.N, win0_19.index t 0 = t.val / 2 ∧ win0_19.index t 1 = 0 ∧ win0_19.index t 2 = t.val % 2 :=
  (by decide +kernel : ∀ t : Fin grid0.N, win0_19.index t 0 = t.val / 2 ∧ win0_19.index t 1 = 0 ∧ win0_19.index t 2 = t.val % 2)

/-- Window 0's block of any array. -/
theorem read0 (X : S8x2048x1024.Idx → EReal) (t : Fin cfg0.N) (ht : t.val / 2 < 8) (r : Fin 1024) (l : Fin 1024) :
    (((cfg0.win 0).blk t).view.read (Elt Ideal) X : S1x1024x1024.Idx → EReal) (ix3 0 r l)
      = X (ix3 ⟨t.val / 2, ht⟩ ⟨t.val % 2 * 1024 + r.1, by omega⟩ l) := by
  obtain ⟨h0, h1, h2⟩ := index0 t
  show X ((win0_0.rect t).emb _) = _
  refine congrArg X ?_
  funext a
  apply Fin.ext
  refine (win0_0.rect_emb_val t _ _).trans ?_
  match a with
  | ⟨0, _⟩ =>
      show win0_0.index t 0 * 1 + 0 = t.val / 2
      omega
  | ⟨1, _⟩ =>
      show win0_0.index t 1 * 1024 + r.1 = t.val % 2 * 1024 + r.1
      omega
  | ⟨2, _⟩ =>
      show win0_0.index t 2 * 1024 + l.1 = l.1
      omega

/-- Window 1's block of any array. -/
theorem read1 (X : S8x2048x256.Idx → EReal) (t : Fin cfg0.N) (ht : t.val / 2 < 8) (r : Fin 1024) (l : Fin 256) :
    (((cfg0.win 1).blk t).view.read (Elt Ideal) X : S1x1024x256.Idx → EReal) (ix3 0 r l)
      = X (ix3 ⟨t.val / 2, ht⟩ ⟨t.val % 2 * 1024 + r.1, by omega⟩ l) := by
  obtain ⟨h0, h1, h2⟩ := index1 t
  show X ((win0_1.rect t).emb _) = _
  refine congrArg X ?_
  funext a
  apply Fin.ext
  refine (win0_1.rect_emb_val t _ _).trans ?_
  match a with
  | ⟨0, _⟩ =>
      show win0_1.index t 0 * 1 + 0 = t.val / 2
      omega
  | ⟨1, _⟩ =>
      show win0_1.index t 1 * 1024 + r.1 = t.val % 2 * 1024 + r.1
      omega
  | ⟨2, _⟩ =>
      show win0_1.index t 2 * 256 + l.1 = l.1
      omega

/-- Window 2's block of any array. -/
theorem read2 (X : S8x2048x512.Idx → EReal) (t : Fin cfg0.N) (ht : t.val / 2 < 8) (r : Fin 1024) (l : Fin 512) :
    (((cfg0.win 2).blk t).view.read (Elt Ideal) X : S1x1024x512.Idx → EReal) (ix3 0 r l)
      = X (ix3 ⟨t.val / 2, ht⟩ ⟨t.val % 2 * 1024 + r.1, by omega⟩ l) := by
  obtain ⟨h0, h1, h2⟩ := index2 t
  show X ((win0_2.rect t).emb _) = _
  refine congrArg X ?_
  funext a
  apply Fin.ext
  refine (win0_2.rect_emb_val t _ _).trans ?_
  match a with
  | ⟨0, _⟩ =>
      show win0_2.index t 0 * 1 + 0 = t.val / 2
      omega
  | ⟨1, _⟩ =>
      show win0_2.index t 1 * 1024 + r.1 = t.val % 2 * 1024 + r.1
      omega
  | ⟨2, _⟩ =>
      show win0_2.index t 2 * 512 + l.1 = l.1
      omega

/-- Window 3's block of any array. -/
theorem read3 (X : S8x2048x256.Idx → EReal) (t : Fin cfg0.N) (ht : t.val / 2 < 8) (r : Fin 1024) (l : Fin 256) :
    (((cfg0.win 3).blk t).view.read (Elt Ideal) X : S1x1024x256.Idx → EReal) (ix3 0 r l)
      = X (ix3 ⟨t.val / 2, ht⟩ ⟨t.val % 2 * 1024 + r.1, by omega⟩ l) := by
  obtain ⟨h0, h1, h2⟩ := index3 t
  show X ((win0_3.rect t).emb _) = _
  refine congrArg X ?_
  funext a
  apply Fin.ext
  refine (win0_3.rect_emb_val t _ _).trans ?_
  match a with
  | ⟨0, _⟩ =>
      show win0_3.index t 0 * 1 + 0 = t.val / 2
      omega
  | ⟨1, _⟩ =>
      show win0_3.index t 1 * 1024 + r.1 = t.val % 2 * 1024 + r.1
      omega
  | ⟨2, _⟩ =>
      show win0_3.index t 2 * 256 + l.1 = l.1
      omega

/-- Window 4's block of any array. -/
theorem read4 (X : S8x1x1024.Idx → EReal) (t : Fin cfg0.N) (ht : t.val / 2 < 8) (l : Fin 1024) :
    (((cfg0.win 4).blk t).view.read (Elt Ideal) X : S1x1x1024.Idx → EReal) (ix3 0 0 l) = X (ix3 ⟨t.val / 2, ht⟩ 0 l) := by
  obtain ⟨h0, h1, h2⟩ := index4 t
  show X ((win0_4.rect t).emb _) = _
  refine congrArg X ?_
  funext a
  apply Fin.ext
  refine (win0_4.rect_emb_val t _ _).trans ?_
  match a with
  | ⟨0, _⟩ =>
      show win0_4.index t 0 * 1 + 0 = t.val / 2
      omega
  | ⟨1, _⟩ =>
      show win0_4.index t 1 * 1 + 0 = 0
      omega
  | ⟨2, _⟩ =>
      show win0_4.index t 2 * 1024 + l.1 = l.1
      omega

/-- Window 5's block of any array. -/
theorem read5 (X : S8x1x1024.Idx → EReal) (t : Fin cfg0.N) (ht : t.val / 2 < 8) (l : Fin 1024) :
    (((cfg0.win 5).blk t).view.read (Elt Ideal) X : S1x1x1024.Idx → EReal) (ix3 0 0 l) = X (ix3 ⟨t.val / 2, ht⟩ 0 l) := by
  obtain ⟨h0, h1, h2⟩ := index5 t
  show X ((win0_5.rect t).emb _) = _
  refine congrArg X ?_
  funext a
  apply Fin.ext
  refine (win0_5.rect_emb_val t _ _).trans ?_
  match a with
  | ⟨0, _⟩ =>
      show win0_5.index t 0 * 1 + 0 = t.val / 2
      omega
  | ⟨1, _⟩ =>
      show win0_5.index t 1 * 1 + 0 = 0
      omega
  | ⟨2, _⟩ =>
      show win0_5.index t 2 * 1024 + l.1 = l.1
      omega

/-- Window 6's block of any array. -/
theorem read6 (X : S8x1x1024.Idx → EReal) (t : Fin cfg0.N) (ht : t.val / 2 < 8) (l : Fin 1024) :
    (((cfg0.win 6).blk t).view.read (Elt Ideal) X : S1x1x1024.Idx → EReal) (ix3 0 0 l) = X (ix3 ⟨t.val / 2, ht⟩ 0 l) := by
  obtain ⟨h0, h1, h2⟩ := index6 t
  show X ((win0_6.rect t).emb _) = _
  refine congrArg X ?_
  funext a
  apply Fin.ext
  refine (win0_6.rect_emb_val t _ _).trans ?_
  match a with
  | ⟨0, _⟩ =>
      show win0_6.index t 0 * 1 + 0 = t.val / 2
      omega
  | ⟨1, _⟩ =>
      show win0_6.index t 1 * 1 + 0 = 0
      omega
  | ⟨2, _⟩ =>
      show win0_6.index t 2 * 1024 + l.1 = l.1
      omega

/-- Window 7's block of any array. -/
theorem read7 (X : S8x1x1024.Idx → EReal) (t : Fin cfg0.N) (ht : t.val / 2 < 8) (l : Fin 1024) :
    (((cfg0.win 7).blk t).view.read (Elt Ideal) X : S1x1x1024.Idx → EReal) (ix3 0 0 l) = X (ix3 ⟨t.val / 2, ht⟩ 0 l) := by
  obtain ⟨h0, h1, h2⟩ := index7 t
  show X ((win0_7.rect t).emb _) = _
  refine congrArg X ?_
  funext a
  apply Fin.ext
  refine (win0_7.rect_emb_val t _ _).trans ?_
  match a with
  | ⟨0, _⟩ =>
      show win0_7.index t 0 * 1 + 0 = t.val / 2
      omega
  | ⟨1, _⟩ =>
      show win0_7.index t 1 * 1 + 0 = 0
      omega
  | ⟨2, _⟩ =>
      show win0_7.index t 2 * 1024 + l.1 = l.1
      omega

/-- Window 8's block of any array. -/
theorem read8 (X : S8x1x1024.Idx → EReal) (t : Fin cfg0.N) (ht : t.val / 2 < 8) (l : Fin 1024) :
    (((cfg0.win 8).blk t).view.read (Elt Ideal) X : S1x1x1024.Idx → EReal) (ix3 0 0 l) = X (ix3 ⟨t.val / 2, ht⟩ 0 l) := by
  obtain ⟨h0, h1, h2⟩ := index8 t
  show X ((win0_8.rect t).emb _) = _
  refine congrArg X ?_
  funext a
  apply Fin.ext
  refine (win0_8.rect_emb_val t _ _).trans ?_
  match a with
  | ⟨0, _⟩ =>
      show win0_8.index t 0 * 1 + 0 = t.val / 2
      omega
  | ⟨1, _⟩ =>
      show win0_8.index t 1 * 1 + 0 = 0
      omega
  | ⟨2, _⟩ =>
      show win0_8.index t 2 * 1024 + l.1 = l.1
      omega

/-- Window 9's block of any array: all of it. -/
theorem read9 (X : S1x1024.Idx → EReal) (t : Fin cfg0.N) (k : Fin 1) (l : Fin 1024) :
    (((cfg0.win 9).blk t).view.read (Elt Ideal) X : S1x1024.Idx → EReal) (ix2 k l) = X (ix2 k l) := by
  obtain ⟨h0, h1⟩ := index9 t
  show X ((win0_9.rect t).emb _) = _
  refine congrArg X ?_
  funext a
  apply Fin.ext
  refine (win0_9.rect_emb_val t _ _).trans ?_
  match a with
  | ⟨0, _⟩ =>
      show win0_9.index t 0 * 1 + k.1 = k.1
      omega
  | ⟨1, _⟩ =>
      show win0_9.index t 1 * 1024 + l.1 = l.1
      omega

/-- Window 10's block of any array: all of it. -/
theorem read10 (X : S1x1024.Idx → EReal) (t : Fin cfg0.N) (k : Fin 1) (l : Fin 1024) :
    (((cfg0.win 10).blk t).view.read (Elt Ideal) X : S1x1024.Idx → EReal) (ix2 k l) = X (ix2 k l) := by
  obtain ⟨h0, h1⟩ := index10 t
  show X ((win0_10.rect t).emb _) = _
  refine congrArg X ?_
  funext a
  apply Fin.ext
  refine (win0_10.rect_emb_val t _ _).trans ?_
  match a with
  | ⟨0, _⟩ =>
      show win0_10.index t 0 * 1 + k.1 = k.1
      omega
  | ⟨1, _⟩ =>
      show win0_10.index t 1 * 1024 + l.1 = l.1
      omega

/-- Window 11's block of any array: all of it. -/
theorem read11 (X : S1024x3072.Idx → EReal) (t : Fin cfg0.N) (k : Fin 1024) (l : Fin 3072) :
    (((cfg0.win 11).blk t).view.read (Elt Ideal) X : S1024x3072.Idx → EReal) (ix2 k l) = X (ix2 k l) := by
  obtain ⟨h0, h1⟩ := index11 t
  show X ((win0_11.rect t).emb _) = _
  refine congrArg X ?_
  funext a
  apply Fin.ext
  refine (win0_11.rect_emb_val t _ _).trans ?_
  match a with
  | ⟨0, _⟩ =>
      show win0_11.index t 0 * 1024 + k.1 = k.1
      omega
  | ⟨1, _⟩ =>
      show win0_11.index t 1 * 3072 + l.1 = l.1
      omega

/-- Window 12's block of any array: all of it. -/
theorem read12 (X : S256x1024.Idx → EReal) (t : Fin cfg0.N) (k : Fin 256) (l : Fin 1024) :
    (((cfg0.win 12).blk t).view.read (Elt Ideal) X : S256x1024.Idx → EReal) (ix2 k l) = X (ix2 k l) := by
  obtain ⟨h0, h1⟩ := index12 t
  show X ((win0_12.rect t).emb _) = _
  refine congrArg X ?_
  funext a
  apply Fin.ext
  refine (win0_12.rect_emb_val t _ _).trans ?_
  match a with
  | ⟨0, _⟩ =>
      show win0_12.index t 0 * 256 + k.1 = k.1
      omega
  | ⟨1, _⟩ =>
      show win0_12.index t 1 * 1024 + l.1 = l.1
      omega

/-- Window 13's block of any array: all of it. -/
theorem read13 (X : S512x1024.Idx → EReal) (t : Fin cfg0.N) (k : Fin 512) (l : Fin 1024) :
    (((cfg0.win 13).blk t).view.read (Elt Ideal) X : S512x1024.Idx → EReal) (ix2 k l) = X (ix2 k l) := by
  obtain ⟨h0, h1⟩ := index13 t
  show X ((win0_13.rect t).emb _) = _
  refine congrArg X ?_
  funext a
  apply Fin.ext
  refine (win0_13.rect_emb_val t _ _).trans ?_
  match a with
  | ⟨0, _⟩ =>
      show win0_13.index t 0 * 512 + k.1 = k.1
      omega
  | ⟨1, _⟩ =>
      show win0_13.index t 1 * 1024 + l.1 = l.1
      omega

/-- Window 14's block of any array: all of it. -/
theorem read14 (X : S256x1024.Idx → EReal) (t : Fin cfg0.N) (k : Fin 256) (l : Fin 1024) :
    (((cfg0.win 14).blk t).view.read (Elt Ideal) X : S256x1024.Idx → EReal) (ix2 k l) = X (ix2 k l) := by
  obtain ⟨h0, h1⟩ := index14 t
  show X ((win0_14.rect t).emb _) = _
  refine congrArg X ?_
  funext a
  apply Fin.ext
  refine (win0_14.rect_emb_val t _ _).trans ?_
  match a with
  | ⟨0, _⟩ =>
      show win0_14.index t 0 * 256 + k.1 = k.1
      omega
  | ⟨1, _⟩ =>
      show win0_14.index t 1 * 1024 + l.1 = l.1
      omega

/-- Window 15's block of any array: all of it. -/
theorem read15 (X : S1024x1024.Idx → EReal) (t : Fin cfg0.N) (k : Fin 1024) (l : Fin 1024) :
    (((cfg0.win 15).blk t).view.read (Elt Ideal) X : S1024x1024.Idx → EReal) (ix2 k l) = X (ix2 k l) := by
  obtain ⟨h0, h1⟩ := index15 t
  show X ((win0_15.rect t).emb _) = _
  refine congrArg X ?_
  funext a
  apply Fin.ext
  refine (win0_15.rect_emb_val t _ _).trans ?_
  match a with
  | ⟨0, _⟩ =>
      show win0_15.index t 0 * 1024 + k.1 = k.1
      omega
  | ⟨1, _⟩ =>
      show win0_15.index t 1 * 1024 + l.1 = l.1
      omega

/-- Window 16's block of any array: all of it. -/
theorem read16 (X : S1024x128.Idx → EReal) (t : Fin cfg0.N) (k : Fin 1024) (l : Fin 128) :
    (((cfg0.win 16).blk t).view.read (Elt Ideal) X : S1024x128.Idx → EReal) (ix2 k l) = X (ix2 k l) := by
  obtain ⟨h0, h1⟩ := index16 t
  show X ((win0_16.rect t).emb _) = _
  refine congrArg X ?_
  funext a
  apply Fin.ext
  refine (win0_16.rect_emb_val t _ _).trans ?_
  match a with
  | ⟨0, _⟩ =>
      show win0_16.index t 0 * 1024 + k.1 = k.1
      omega
  | ⟨1, _⟩ =>
      show win0_16.index t 1 * 128 + l.1 = l.1
      omega

/-- Window 17's block of any array. -/
theorem read17 (X : S8x2048x1024.Idx → EReal) (t : Fin cfg0.N) (ht : t.val / 2 < 8) (r : Fin 1024) (l : Fin 1024) :
    (((cfg0.win 17).blk t).view.read (Elt Ideal) X : S1x1024x1024.Idx → EReal) (ix3 0 r l)
      = X (ix3 ⟨t.val / 2, ht⟩ ⟨t.val % 2 * 1024 + r.1, by omega⟩ l) := by
  obtain ⟨h0, h1, h2⟩ := index17 t
  show X ((win0_17.rect t).emb _) = _
  refine congrArg X ?_
  funext a
  apply Fin.ext
  refine (win0_17.rect_emb_val t _ _).trans ?_
  match a with
  | ⟨0, _⟩ =>
      show win0_17.index t 0 * 1 + 0 = t.val / 2
      omega
  | ⟨1, _⟩ =>
      show win0_17.index t 1 * 1024 + r.1 = t.val % 2 * 1024 + r.1
      omega
  | ⟨2, _⟩ =>
      show win0_17.index t 2 * 1024 + l.1 = l.1
      omega

/-- Window 18's block of any array. -/
theorem read18 (X : S8x2048x1024.Idx → EReal) (t : Fin cfg0.N) (ht : t.val / 2 < 8) (r : Fin 1024) (l : Fin 1024) :
    (((cfg0.win 18).blk t).view.read (Elt Ideal) X : S1x1024x1024.Idx → EReal) (ix3 0 r l)
      = X (ix3 ⟨t.val / 2, ht⟩ ⟨t.val % 2 * 1024 + r.1, by omega⟩ l) := by
  obtain ⟨h0, h1, h2⟩ := index18 t
  show X ((win0_18.rect t).emb _) = _
  refine congrArg X ?_
  funext a
  apply Fin.ext
  refine (win0_18.rect_emb_val t _ _).trans ?_
  match a with
  | ⟨0, _⟩ =>
      show win0_18.index t 0 * 1 + 0 = t.val / 2
      omega
  | ⟨1, _⟩ =>
      show win0_18.index t 1 * 1024 + r.1 = t.val % 2 * 1024 + r.1
      omega
  | ⟨2, _⟩ =>
      show win0_18.index t 2 * 1024 + l.1 = l.1
      omega

/-- Window 19's block of any array. -/
theorem read19 (X : S8x16x2048.Idx → EReal) (t : Fin cfg0.N) (ht : t.val / 2 < 8) (e : Fin 16) (r : Fin 1024) :
    (((cfg0.win 19).blk t).view.read (Elt Ideal) X : S1x16x1024.Idx → EReal) (ix3 0 e r)
      = X (ix3 ⟨t.val / 2, ht⟩ e ⟨t.val % 2 * 1024 + r.1, by omega⟩) := by
  obtain ⟨h0, h1, h2⟩ := index19 t
  show X ((win0_19.rect t).emb _) = _
  refine congrArg X ?_
  funext a
  apply Fin.ext
  refine (win0_19.rect_emb_val t _ _).trans ?_
  match a with
  | ⟨0, _⟩ =>
      show win0_19.index t 0 * 1 + 0 = t.val / 2
      omega
  | ⟨1, _⟩ =>
      show win0_19.index t 1 * 16 + e.1 = e.1
      omega
  | ⟨2, _⟩ =>
      show win0_19.index t 2 * 1024 + r.1 = t.val % 2 * 1024 + r.1
      omega

/-! ## The weights' blocks -/

theorem block9 (c : Dev nD) (t : Fin cfg0.N) (k : Fin 1024) : (iblk m c 9 t : S1x1024.Idx → EReal) (ix2 0 k) = A5 m c (ix1 k) := by
  exact Eq.trans (b := (V m c main_v10 : S1x1024.Idx → EReal) (ix2 0 k)) (read9 (V m c main_v10) t 0 k) (gain5 m c k)

theorem block10 (c : Dev nD) (t : Fin cfg0.N) (k : Fin 1024) : (iblk m c 10 t : S1x1024.Idx → EReal) (ix2 0 k) = A6 m c (ix1 k) := by
  exact Eq.trans (b := (V m c main_v11 : S1x1024.Idx → EReal) (ix2 0 k)) (read10 (V m c main_v11) t 0 k) (gain6 m c k)

theorem block12 (c : Dev nD) (t : Fin cfg0.N) (k : Fin 256) (f : Fin 1024) : (iblk m c 12 t : S256x1024.Idx → EReal) (ix2 k f) = A8 m c (ix2 k f) :=
  Eq.trans (b := (V m c main_v14 : S256x1024.Idx → EReal) (ix2 k f)) (read12 (V m c main_v14) t k f) (weight8 m c k f)

theorem block13 (c : Dev nD) (t : Fin cfg0.N) (k : Fin 512) (f : Fin 1024) : (iblk m c 13 t : S512x1024.Idx → EReal) (ix2 k f) = A9 m c (ix2 k f) :=
  Eq.trans (b := (V m c main_v15 : S512x1024.Idx → EReal) (ix2 k f)) (read13 (V m c main_v15) t k f) (weight9 m c k f)

theorem block14 (c : Dev nD) (t : Fin cfg0.N) (k : Fin 256) (f : Fin 1024) : (iblk m c 14 t : S256x1024.Idx → EReal) (ix2 k f) = A10 m c (ix2 k f) :=
  Eq.trans (b := (V m c main_v16 : S256x1024.Idx → EReal) (ix2 k f)) (read14 (V m c main_v16) t k f) (weight10 m c k f)

theorem block15 (c : Dev nD) (t : Fin cfg0.N) (k : Fin 1024) (f : Fin 1024) : (iblk m c 15 t : S1024x1024.Idx → EReal) (ix2 k f) = A11 m c (ix2 k f) :=
  Eq.trans (b := (V m c main_v17 : S1024x1024.Idx → EReal) (ix2 k f)) (read15 (V m c main_v17) t k f) (weight11 m c k f)

theorem block11 (c : Dev nD) (t : Fin cfg0.N) (k : Fin 1024) (f : Fin 3072) : (iblk m c 11 t : S1024x3072.Idx → EReal) (ix2 k f) = A7 m c (ix2 k ⟨1536 + f.1, by omega⟩) :=
  Eq.trans (b := (V m c main_v13 : S1024x3072.Idx → EReal) (ix2 k f)) (read11 (V m c main_v13) t k f) (gates m c k f)

theorem block16 (c : Dev nD) (t : Fin cfg0.N) (k : Fin 1024) (e : Fin 16) : (iblk m c 16 t : S1024x128.Idx → EReal) (ix2 k ⟨e.1, by omega⟩) = A12 m c (ix2 k e) :=
  Eq.trans (b := (V m c main_v19 : S1024x128.Idx → EReal) (ix2 k ⟨e.1, by omega⟩)) (read16 (V m c main_v19) t k ⟨e.1, by omega⟩) (router m c k e)

theorem wts_of {x9 x10 : Vec Ideal S1x1024 .f32} {x11 : Vec Ideal S1024x3072 .bf16} {x12 : Vec Ideal S256x1024 .bf16}
    {x13 : Vec Ideal S512x1024 .bf16} {x14 : Vec Ideal S256x1024 .bf16} {x15 : Vec Ideal S1024x1024 .bf16} {x16 : Vec Ideal S1024x128 .bf16}
    {a5 a6 : S1024.Idx → EReal} {a7 : S1024x4608.Idx → EReal} {a8 : S256x1024.Idx → EReal} {a9 : S512x1024.Idx → EReal}
    {a10 : S256x1024.Idx → EReal} {a11 : S1024x1024.Idx → EReal} {a12 : S1024x16.Idx → EReal}
    (h9 : ∀ k, x9 (ix2 0 k) = a5 (ix1 k)) (h10 : ∀ k, x10 (ix2 0 k) = a6 (ix1 k))
    (h11 : ∀ (k : Fin 1024) (f : Fin 3072), x11 (ix2 k f) = a7 (ix2 k ⟨1536 + f.1, by omega⟩))
    (h12 : ∀ (k : Fin 256) (f : Fin 1024), x12 (ix2 k f) = a8 (ix2 k f)) (h13 : ∀ (k : Fin 512) (f : Fin 1024), x13 (ix2 k f) = a9 (ix2 k f))
    (h14 : ∀ (k : Fin 256) (f : Fin 1024), x14 (ix2 k f) = a10 (ix2 k f)) (h15 : ∀ k f : Fin 1024, x15 (ix2 k f) = a11 (ix2 k f))
    (h16 : ∀ (k : Fin 1024) (e : Fin 16), x16 (ix2 k ⟨e.1, by omega⟩) = a12 (ix2 k e)) :
    wts x9 x10 x11 x12 x13 x14 x15 x16 = weightsOf a5 a6 a7 a8 a9 a10 a11 a12 := by
  refine Weights.ext ?_ ?_ ?_ ?_ ?_ ?_ ?_ ?_
  · exact funext h9
  · exact funext h10
  · exact funext fun i => funext fun k => funext fun f => h11 k ⟨i.1 * 1024 + f.1, by omega⟩
  · exact funext fun k => funext fun f => h12 k f
  · exact funext fun k => funext fun f => h13 k f
  · exact funext fun k => funext fun f => h14 k f
  · exact funext fun k => funext fun f => h15 k f
  · exact funext fun k => funext fun e => h16 k e

/-- The token and the weights the call's results are about. -/
abbrev T (c : Dev nD) (b : Fin 8) (l : Fin 2048) : Token := tokenAt (A0 m c) (A1 m c) (A2 m c) (A3 m c) (A4 m c) b l
abbrev W (c : Dev nD) : Weights := weightsOf (A5 m c) (A6 m c) (A7 m c) (A8 m c) (A9 m c) (A10 m c) (A11 m c) (A12 m c)

/-- A token of a step's blocks is a token of the arguments. -/
theorem tok_eq (c : Dev nD) (t : Fin cfg0.N) (ht : t.val / 2 < 8) (r : Fin 1024) :
    tok (iblk m c 0 t) (iblk m c 1 t) (iblk m c 2 t) (iblk m c 3 t) (iblk m c 4 t) (iblk m c 5 t) (iblk m c 6 t) (iblk m c 7 t) (iblk m c 8 t) r
      = T m c ⟨t.val / 2, ht⟩ ⟨t.val % 2 * 1024 + r.1, by omega⟩ := by
  refine Token.ext ?_ ?_ ?_ ?_ ?_ ?_ ?_ ?_ ?_ <;> funext k
  · exact read0 (A0 m c) t ht r k
  · exact read1 (A1 m c) t ht r k
  · exact read2 (A2 m c) t ht r k
  · exact read3 (A3 m c) t ht r k
  · exact (read4 (V m c main_v1) t ht k).trans (row0 m c _ k)
  · exact (read5 (V m c main_v3) t ht k).trans (row1 m c _ k)
  · exact (read6 (V m c main_v5) t ht k).trans (row2 m c _ k)
  · exact (read7 (V m c main_v7) t ht k).trans (row3 m c _ k)
  · exact (read8 (V m c main_v9) t ht k).trans (row4 m c _ k)

/-- The weights of a step's blocks are those of the arguments. -/
theorem wts_eq (c : Dev nD) (t : Fin cfg0.N) :
    wts (iblk m c 9 t) (iblk m c 10 t) (iblk m c 11 t) (iblk m c 12 t) (iblk m c 13 t) (iblk m c 14 t) (iblk m c 15 t) (iblk m c 16 t) = W m c := by
  exact wts_of (block9 m c t) (block10 m c t) (block11 m c t) (block12 m c t) (block13 m c t) (block14 m c t) (block15 m c t) (block16 m c t)

/-- Result 0: the merged token. -/
def whole17 (c : Dev nD) : S8x2048x1024.Idx → EReal := fun i => merged (T m c (i 0) (i 1)) (W m c) (i 2)

/-- What a step writes back is its block of the whole. -/
theorem flushed17_eq (c : Dev nD) (t : Fin cfg0.N) :
    (dats m 0 c).flushed 17 t = ((cfg0.win 17).blk t).view.read (Elt Ideal) (whole17 m c) := by
  have ht : t.val / 2 < 8 := by have : t.val < 16 := t.2.trans_eq N_0; omega
  rw [Value.flushed17]
  have hmain : ∀ j : S1x1024x1024.Idx,
      out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) j
        = (((cfg0.win 17).blk t).view.read (Elt Ideal) (whole17 m c) : S1x1024x1024.Idx → EReal) j := by
    refine of_ix3 fun r d => ?_
    refine (out17_apply _ _ _ _ _ _ _ _ _ _ _ _ _ _ _ _ _ r d).trans (Eq.trans ?_ (read17 (whole17 m c) t ht r d).symm)
    rw [tok_eq m c t ht r, wts_eq m c t]
    rfl
  funext j
  exact hmain j

/-- Every index of the result lies in some step's block. -/
theorem cover17 (i : S8x2048x1024.Idx) :
    ∃ t : Fin cfg0.N, (cfg0.win 17).flush t = true ∧ i ∈ ((cfg0.win 17).blk t).view.set := by
  have h0 : (i 0).1 < 8 := (i 0).2
  have h1 : (i 1).1 < 2048 := (i 1).2
  have h2 : (i 2).1 < 1024 := (i 2).2
  refine ⟨⟨(i 0).1 * 2 + (i 1).1 / 1024, by rw [show cfg0.N = 16 from N_0]; omega⟩, flush0_17 _, ?_⟩
  generalize ht : (⟨(i 0).1 * 2 + (i 1).1 / 1024, _⟩ : Fin cfg0.N) = t
  have hv : t.1 = (i 0).1 * 2 + (i 1).1 / 1024 := by rw [← ht]
  obtain ⟨e0, e1, e2⟩ := index17 t
  show i ∈ ((View.whole main_v20_0).slice (win0_17.rect t)).set
  rw [View.set_slice_whole, Rect.mem_set_unit]
  intro a
  match a with
  | ⟨0, _⟩ => show win0_17.index t 0 * 1 ≤ (i 0).1 ∧ (i 0).1 < win0_17.index t 0 * 1 + 1
              omega
  | ⟨1, _⟩ => show win0_17.index t 1 * 1024 ≤ (i 1).1 ∧ (i 1).1 < win0_17.index t 1 * 1024 + 1024
              omega
  | ⟨2, _⟩ => show win0_17.index t 2 * 1024 ≤ (i 2).1 ∧ (i 2).1 < win0_17.index t 2 * 1024 + 1024
              omega

theorem final17 (c : Dev nD) : (dats m 0 c).arrAt 17 cfg0.N = whole17 m c :=
  (dats m 0 c).arrAt_eq_of_cover 17 (whole17 m c) (fun t _ => flushed17_eq m c t) cover17

/-- Result 1: the token normalised again. -/
def whole18 (c : Dev nD) : S8x2048x1024.Idx → EReal := fun i => second (T m c (i 0) (i 1)) (W m c) (i 2)

/-- What a step writes back is its block of the whole. -/
theorem flushed18_eq (c : Dev nD) (t : Fin cfg0.N) :
    (dats m 0 c).flushed 18 t = ((cfg0.win 18).blk t).view.read (Elt Ideal) (whole18 m c) := by
  have ht : t.val / 2 < 8 := by have : t.val < 16 := t.2.trans_eq N_0; omega
  rw [Value.flushed18]
  have hmain : ∀ j : S1x1024x1024.Idx,
      out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) j
        = (((cfg0.win 18).blk t).view.read (Elt Ideal) (whole18 m c) : S1x1024x1024.Idx → EReal) j := by
    refine of_ix3 fun r d => ?_
    refine (out18_apply _ _ _ _ _ _ _ _ _ _ _ _ _ _ _ _ _ r d).trans (Eq.trans ?_ (read18 (whole18 m c) t ht r d).symm)
    rw [tok_eq m c t ht r, wts_eq m c t]
    rfl
  funext j
  exact hmain j

/-- Every index of the result lies in some step's block. -/
theorem cover18 (i : S8x2048x1024.Idx) :
    ∃ t : Fin cfg0.N, (cfg0.win 18).flush t = true ∧ i ∈ ((cfg0.win 18).blk t).view.set := by
  have h0 : (i 0).1 < 8 := (i 0).2
  have h1 : (i 1).1 < 2048 := (i 1).2
  have h2 : (i 2).1 < 1024 := (i 2).2
  refine ⟨⟨(i 0).1 * 2 + (i 1).1 / 1024, by rw [show cfg0.N = 16 from N_0]; omega⟩, flush0_18 _, ?_⟩
  generalize ht : (⟨(i 0).1 * 2 + (i 1).1 / 1024, _⟩ : Fin cfg0.N) = t
  have hv : t.1 = (i 0).1 * 2 + (i 1).1 / 1024 := by rw [← ht]
  obtain ⟨e0, e1, e2⟩ := index18 t
  show i ∈ ((View.whole main_v20_1).slice (win0_18.rect t)).set
  rw [View.set_slice_whole, Rect.mem_set_unit]
  intro a
  match a with
  | ⟨0, _⟩ => show win0_18.index t 0 * 1 ≤ (i 0).1 ∧ (i 0).1 < win0_18.index t 0 * 1 + 1
              omega
  | ⟨1, _⟩ => show win0_18.index t 1 * 1024 ≤ (i 1).1 ∧ (i 1).1 < win0_18.index t 1 * 1024 + 1024
              omega
  | ⟨2, _⟩ => show win0_18.index t 2 * 1024 ≤ (i 2).1 ∧ (i 2).1 < win0_18.index t 2 * 1024 + 1024
              omega

theorem final18 (c : Dev nD) : (dats m 0 c).arrAt 18 cfg0.N = whole18 m c :=
  (dats m 0 c).arrAt_eq_of_cover 18 (whole18 m c) (fun t _ => flushed18_eq m c t) cover18

/-- Result 2: each token's affinity to each expert. -/
def whole19 (c : Dev nD) : S8x16x2048.Idx → EReal := fun i => affinity (T m c (i 0) (i 2)) (W m c) (i 1)

/-- What a step writes back is its block of the whole. -/
theorem flushed19_eq (c : Dev nD) (t : Fin cfg0.N) :
    (dats m 0 c).flushed 19 t = ((cfg0.win 19).blk t).view.read (Elt Ideal) (whole19 m c) := by
  have ht : t.val / 2 < 8 := by have : t.val < 16 := t.2.trans_eq N_0; omega
  rw [Value.flushed19]
  have hmain : ∀ j : S1x16x1024.Idx,
      out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) j
        = (((cfg0.win 19).blk t).view.read (Elt Ideal) (whole19 m c) : S1x16x1024.Idx → EReal) j := by
    refine of_ix3 fun e r => ?_
    refine (out19_apply _ _ _ _ _ _ _ _ _ _ _ _ _ _ _ _ _ e r).trans (Eq.trans ?_ (read19 (whole19 m c) t ht e r).symm)
    rw [tok_eq m c t ht r, wts_eq m c t]
    rfl
  funext j
  exact hmain j

/-- Every index of the result lies in some step's block. -/
theorem cover19 (i : S8x16x2048.Idx) :
    ∃ t : Fin cfg0.N, (cfg0.win 19).flush t = true ∧ i ∈ ((cfg0.win 19).blk t).view.set := by
  have h0 : (i 0).1 < 8 := (i 0).2
  have h1 : (i 1).1 < 16 := (i 1).2
  have h2 : (i 2).1 < 2048 := (i 2).2
  refine ⟨⟨(i 0).1 * 2 + (i 2).1 / 1024, by rw [show cfg0.N = 16 from N_0]; omega⟩, flush0_19 _, ?_⟩
  generalize ht : (⟨(i 0).1 * 2 + (i 2).1 / 1024, _⟩ : Fin cfg0.N) = t
  have hv : t.1 = (i 0).1 * 2 + (i 2).1 / 1024 := by rw [← ht]
  obtain ⟨e0, e1, e2⟩ := index19 t
  show i ∈ ((View.whole main_v20_2).slice (win0_19.rect t)).set
  rw [View.set_slice_whole, Rect.mem_set_unit]
  intro a
  match a with
  | ⟨0, _⟩ => show win0_19.index t 0 * 1 ≤ (i 0).1 ∧ (i 0).1 < win0_19.index t 0 * 1 + 1
              omega
  | ⟨1, _⟩ => show win0_19.index t 1 * 16 ≤ (i 1).1 ∧ (i 1).1 < win0_19.index t 1 * 16 + 16
              omega
  | ⟨2, _⟩ => show win0_19.index t 2 * 1024 ≤ (i 2).1 ∧ (i 2).1 < win0_19.index t 2 * 1024 + 1024
              omega

theorem final19 (c : Dev nD) : (dats m 0 c).arrAt 19 cfg0.N = whole19 m c :=
  (dats m 0 c).arrAt_eq_of_cover 19 (whole19 m c) (fun t _ => flushed19_eq m c t) cover19

end Cert.MergeIdeal.Mix
-- ==== Proof.Merge.Ref.lean ====
module

public import proofs.«01_k».proof.Proof.Merge.Args
public import proofs.«01_k».proof.Proof.Gen.MergeRefIdeal.Read
public import proofs.«01_k».proof.Proof.Common.HostReads
public import Idealize.ShloMosaic.Lib.Pointwise
public import Idealize.ShloMosaic.Lib.IdealHost

/-!
# The reference merge is the formula

The stages of the reference read at a token.
-/

@[expose] public section

noncomputable section

namespace Cert.MergeRefIdeal.Mix

open Idealize.ShloMosaic Cert.MergeRefIdeal Cert.MergeRefIdeal.Gen Cert.MergeRefIdeal.Read Cert.Mix Cert.Common

/-- The host's maximum along the last of three axes. -/
theorem host_max3 {a b n : ℕ} (x : (⟨3, ![a, b, n]⟩ : Shape).Idx → EReal) {u : Shape} (init : u.Idx → EReal)
    (h' : (⟨3, ![a, b, n]⟩ : Shape).ReducesTo [2] ⟨2, ![a, b]⟩)
    (h : (⟨3, ![a, b, n]⟩ : Shape).Reduces [2] ⟨2, ![a, b]⟩) (hu : 0 < u.numel)
    (hi : init (Shape.Idx.first hu) = ⊥) (i : (⟨2, ![a, b]⟩ : Shape).Idx) :
    Host.reduce (FloatOps.maximumf (F := Ideal) (φ := .f32)) x init h' hu i = top fun k => x (ix3 (i 0) (i 1) k) := by
  refine (Host.reduce_eq_fold_single (FloatOps.maximumf (F := Ideal) (φ := .f32)) x init h' h hu i).trans ?_
  rw [← fold_max_eq_top, hi]
  refine congrArg (fun f => Finset.fold max ⊥ f Finset.univ) (funext fun k => congrArg x ?_)
  funext z
  apply Fin.ext
  rw [Shape.Reduces.lift_val]
  fin_cases z <;> rfl

variable (x0 : S8x2048x1024.Idx → EReal) (x1 : S8x2048x256.Idx → EReal) (x2 : S8x2048x512.Idx → EReal) (x3 : S8x2048x256.Idx → EReal)
  (x4 : S8x6144.Idx → EReal) (x5 x6 : S1024.Idx → EReal) (x7 : S1024x4608.Idx → EReal) (x8 : S256x1024.Idx → EReal)
  (x9 : S512x1024.Idx → EReal) (x10 : S256x1024.Idx → EReal) (x11 : S1024x1024.Idx → EReal) (x12 : S1024x16.Idx → EReal)

/-- The token and the weights the reference's stages are about. -/
abbrev T (b : Fin 8) (l : Fin 2048) : Token := tokenAt x0 x1 x2 x3 x4 b l
abbrev W : Weights := weightsOf x5 x6 x7 x8 x9 x10 x11 x12

/-! ## The first normalisation -/

theorem sum1 (b : Fin 8) (l : Fin 2048) :
    val_main_v7 (F := Ideal) x0 (ix2 b l) = ∑ k, x0 (ix3 b l k) * x0 (ix3 b l k) := by
  rw [val_main_v7_apply]
  refine (congrArg₂ (· + ·) (show _ = (0 : EReal) from ?_) (Finset.sum_congr rfl fun k _ => ?_)).trans (zero_add _)
  · exact (val_main_cst_apply _).trans (Ideal.ofBits_zero .f32)
  · have e : idx_main_v7 (ix2 b l) k = ix3 b l k := by
      funext z
      fin_cases z <;> rfl
    rw [val_main_v6_apply, e]
    rfl

theorem norm1 (b : Fin 8) (l : Fin 2048) (d : Fin 1024) :
    val_main_v26 (F := Ideal) x0 x4 x5 (ix3 b l d)
      = normed (T x0 x1 x2 x3 x4 b l).x (W x5 x6 x7 x8 x9 x10 x11 x12).n1 (T x0 x1 x2 x3 x4 b l).sh1 (T x0 x1 x2 x3 x4 b l).sc1 d := by
  have e0 : idx_main_v8 (idx_main_v14 (ix3 b l d)) = ix2 b l := by
    funext z
    fin_cases z <;> rfl
  have e1 : idx_main_v16 (idx_main_v17 (ix3 b l d)) = ix1 d := by
    funext z
    fin_cases z; rfl
  have e2 : idx_main_v1 (idx_main_v19 (idx_main_v22 (ix3 b l d))) = ix2 b ⟨1024 + d.1, by omega⟩ := by
    funext z
    fin_cases z <;> rfl
  have e3 : idx_main_v0 (idx_main_v24 (idx_main_v25 (ix3 b l d))) = ix2 b ⟨d.1, by omega⟩ := by
    funext z
    fin_cases z <;> rfl
  rw [val_main_v26_apply, val_main_v23_apply, val_main_v18_apply, val_main_v15_apply, val_main_v14_apply, val_main_v13_apply,
    val_main_v12_apply, val_main_v10_apply, val_main_v8_apply, val_main_v9_apply, val_main_v11_apply, val_main_cst_0_apply,
    val_main_cst_1_apply, val_main_v17_apply, val_main_v16_apply, val_main_v22_apply, val_main_v21_apply, val_main_v20_apply,
    val_main_cst_2_apply, val_main_v19_apply, val_main_v1_apply, val_main_v25_apply, val_main_v24_apply, val_main_v0_apply,
    e0, e1, e2, e3, sum1]
  rfl

/-! ## The gates -/

/-- The projection's last 3072 columns. -/
theorem gates (b : Fin 8) (l : Fin 2048) (i : Fin 3) (f : Fin 1024) :
    val_main_v28 (F := Ideal) x0 x4 x5 x7 (ix3 b l ⟨i.1 * 1024 + f.1, by omega⟩)
      = proj (normed (T x0 x1 x2 x3 x4 b l).x (W x5 x6 x7 x8 x9 x10 x11 x12).n1 (T x0 x1 x2 x3 x4 b l).sh1 (T x0 x1 x2 x3 x4 b l).sc1)
          ((W x5 x6 x7 x8 x9 x10 x11 x12).gate i) f := by
  rw [val_main_v28_apply, val_main_v27_apply]
  unfold proj
  refine Finset.sum_congr rfl fun k _ => congrArg₂ (· * ·) ?_ ?_
  · refine Eq.trans (congrArg _ ?_) (norm1 x0 x1 x2 x3 x4 x5 x6 x7 x8 x9 x10 x11 x12 b l k)
    funext z
    fin_cases z <;> rfl
  · refine congrArg x7 ?_
    funext z
    fin_cases z <;> rfl

/-- Their logistic. -/
theorem gate_apply (b : Fin 8) (l : Fin 2048) (i : Fin 3) (f : Fin 1024) :
    val_main_v38 (F := Ideal) x0 x4 x5 x7 (ix4 b l i f)
      = Ideal.logistic (proj (normed (T x0 x1 x2 x3 x4 b l).x (W x5 x6 x7 x8 x9 x10 x11 x12).n1 (T x0 x1 x2 x3 x4 b l).sh1 (T x0 x1 x2 x3 x4 b l).sc1)
          ((W x5 x6 x7 x8 x9 x10 x11 x12).gate i) f) := by
  have e : idx_main_v38 (ix4 b l i f) = ix3 b l ⟨i.1 * 1024 + f.1, by omega⟩ := by
    funext z
    apply Fin.ext
    match z with
    | ⟨0, _⟩ => show (((b.1 * 2048 + l.1) * 3 + i.1) * 1024 + f.1) / 6291456 = b.1
                omega
    | ⟨1, _⟩ => show (((b.1 * 2048 + l.1) * 3 + i.1) * 1024 + f.1) / 3072 % 2048 = l.1
                omega
    | ⟨2, _⟩ => show (((b.1 * 2048 + l.1) * 3 + i.1) * 1024 + f.1) % 3072 = i.1 * 1024 + f.1
                omega
  rw [val_main_v38_apply, e, val_main_v37_apply, val_main_v36_apply, val_main_cst_4_apply, val_main_v35_apply, val_main_v34_apply,
    val_main_cst_3_apply, val_main_v33_apply, val_main_v32_apply, gates x0 x1 x2 x3 x4 x5 x6 x7 x8 x9 x10 x11 x12]
  show Ideal.div (Ideal.ofBits .f32 0x3F800000#32) (Ideal.ofBits .f32 0x3F800000#32 + Ideal.exp (-_)) = _
  rw [Ideal.ofBits_one_f32]
  rfl

theorem gate0 (b : Fin 8) (l : Fin 2048) (f : Fin 1024) :
    val_main_v40 (F := Ideal) x0 x4 x5 x7 (ix3 b l f) = val_main_v38 (F := Ideal) x0 x4 x5 x7 (ix4 b l 0 f) := by
  rw [val_main_v40_apply, val_main_v39_apply]
  refine congrArg _ ?_
  funext z
  apply Fin.ext
  match z with
  | ⟨0, _⟩ => show ((b.1 * 2048 + l.1) * 1024 + f.1) / 2097152 = b.1
              omega
  | ⟨1, _⟩ => show ((b.1 * 2048 + l.1) * 1024 + f.1) / 1024 % 2048 = l.1
              omega
  | ⟨2, _⟩ => rfl
  | ⟨3, _⟩ => show ((b.1 * 2048 + l.1) * 1024 + f.1) % 1024 = f.1
              omega

theorem gate1 (b : Fin 8) (l : Fin 2048) (f : Fin 1024) :
    val_main_v44 (F := Ideal) x0 x4 x5 x7 (ix3 b l f) = val_main_v38 (F := Ideal) x0 x4 x5 x7 (ix4 b l 1 f) := by
  rw [val_main_v44_apply, val_main_v43_apply]
  refine congrArg _ ?_
  funext z
  apply Fin.ext
  match z with
  | ⟨0, _⟩ => show ((b.1 * 2048 + l.1) * 1024 + f.1) / 2097152 = b.1
              omega
  | ⟨1, _⟩ => show ((b.1 * 2048 + l.1) * 1024 + f.1) / 1024 % 2048 = l.1
              omega
  | ⟨2, _⟩ => rfl
  | ⟨3, _⟩ => show ((b.1 * 2048 + l.1) * 1024 + f.1) % 1024 = f.1
              omega

theorem gate2 (b : Fin 8) (l : Fin 2048) (f : Fin 1024) :
    val_main_v49 (F := Ideal) x0 x4 x5 x7 (ix3 b l f) = val_main_v38 (F := Ideal) x0 x4 x5 x7 (ix4 b l 2 f) := by
  rw [val_main_v49_apply, val_main_v48_apply]
  refine congrArg _ ?_
  funext z
  apply Fin.ext
  match z with
  | ⟨0, _⟩ => show ((b.1 * 2048 + l.1) * 1024 + f.1) / 2097152 = b.1
              omega
  | ⟨1, _⟩ => show ((b.1 * 2048 + l.1) * 1024 + f.1) / 1024 % 2048 = l.1
              omega
  | ⟨2, _⟩ => rfl
  | ⟨3, _⟩ => show ((b.1 * 2048 + l.1) * 1024 + f.1) % 1024 = f.1
              omega

/-! ## The branches -/

theorem branch0 (b : Fin 8) (l : Fin 2048) (d : Fin 1024) :
    val_main_v41 (F := Ideal) x1 x8 (ix3 b l d)
      = proj (T x0 x1 x2 x3 x4 b l).f (W x5 x6 x7 x8 x9 x10 x11 x12).bf d := by
  rw [val_main_v41_apply]
  unfold proj
  refine Finset.sum_congr rfl fun k _ => congrArg₂ (· * ·) ?_ ?_
  · rw [val_main_v29_apply]
    refine congrArg x1 ?_
    funext z
    fin_cases z <;> rfl
  · refine congrArg x8 ?_
    funext z
    fin_cases z <;> rfl

theorem branch1 (b : Fin 8) (l : Fin 2048) (d : Fin 1024) :
    val_main_v45 (F := Ideal) x2 x9 (ix3 b l d)
      = proj (T x0 x1 x2 x3 x4 b l).og (W x5 x6 x7 x8 x9 x10 x11 x12).bg d := by
  rw [val_main_v45_apply]
  unfold proj
  refine Finset.sum_congr rfl fun k _ => congrArg₂ (· * ·) ?_ ?_
  · rw [val_main_v30_apply]
    refine congrArg x2 ?_
    funext z
    fin_cases z <;> rfl
  · refine congrArg x9 ?_
    funext z
    fin_cases z <;> rfl

theorem branch2 (b : Fin 8) (l : Fin 2048) (d : Fin 1024) :
    val_main_v50 (F := Ideal) x3 x10 (ix3 b l d)
      = proj (T x0 x1 x2 x3 x4 b l).ow (W x5 x6 x7 x8 x9 x10 x11 x12).bw d := by
  rw [val_main_v50_apply]
  unfold proj
  refine Finset.sum_congr rfl fun k _ => congrArg₂ (· * ·) ?_ ?_
  · rw [val_main_v31_apply]
    refine congrArg x3 ?_
    funext z
    fin_cases z <;> rfl
  · refine congrArg x10 ?_
    funext z
    fin_cases z <;> rfl

theorem mixed_apply (b : Fin 8) (l : Fin 2048) (d : Fin 1024) :
    val_main_v52 (F := Ideal) x0 x1 x2 x3 x4 x5 x7 x8 x9 x10 (ix3 b l d) = mixed (T x0 x1 x2 x3 x4 b l) (W x5 x6 x7 x8 x9 x10 x11 x12) d := by
  rw [val_main_v52_apply, val_main_v47_apply, val_main_v42_apply, val_main_v46_apply, val_main_v51_apply, gate0, gate1, gate2,
    gate_apply x0 x1 x2 x3 x4 x5 x6 x7 x8 x9 x10 x11 x12, gate_apply x0 x1 x2 x3 x4 x5 x6 x7 x8 x9 x10 x11 x12, gate_apply x0 x1 x2 x3 x4 x5 x6 x7 x8 x9 x10 x11 x12,
    branch0 x0 x1 x2 x3 x4 x5 x6 x7 x8 x9 x10 x11 x12, branch1 x0 x1 x2 x3 x4 x5 x6 x7 x8 x9 x10 x11 x12, branch2 x0 x1 x2 x3 x4 x5 x6 x7 x8 x9 x10 x11 x12]
  rfl

/-- The first result. -/
theorem merged_apply (b : Fin 8) (l : Fin 2048) (d : Fin 1024) :
    val_main_v57 (F := Ideal) x0 x1 x2 x3 x4 x5 x7 x8 x9 x10 x11 (ix3 b l d) = merged (T x0 x1 x2 x3 x4 b l) (W x5 x6 x7 x8 x9 x10 x11 x12) d := by
  have e : idx_main_v2 (idx_main_v54 (idx_main_v55 (ix3 b l d))) = ix2 b ⟨2048 + d.1, by omega⟩ := by
    funext z
    fin_cases z <;> rfl
  have h : val_main_v53 (F := Ideal) x0 x1 x2 x3 x4 x5 x7 x8 x9 x10 x11 (ix3 b l d) = proj (mixed (T x0 x1 x2 x3 x4 b l) (W x5 x6 x7 x8 x9 x10 x11 x12)) (W x5 x6 x7 x8 x9 x10 x11 x12).out d := by
    rw [val_main_v53_apply]
    unfold proj
    refine Finset.sum_congr rfl fun k _ => congrArg₂ (· * ·) ?_ ?_
    · refine Eq.trans (congrArg _ ?_) (mixed_apply x0 x1 x2 x3 x4 x5 x6 x7 x8 x9 x10 x11 x12 b l k)
      funext z
      fin_cases z <;> rfl
    · refine congrArg x11 ?_
      funext z
      fin_cases z <;> rfl
  rw [val_main_v57_apply, val_main_v56_apply, val_main_v55_apply, val_main_v54_apply, val_main_v2_apply, e, h]
  rfl

/-! ## The second normalisation -/

theorem sum2 (b : Fin 8) (l : Fin 2048) :
    val_main_v59 (F := Ideal) x0 x1 x2 x3 x4 x5 x7 x8 x9 x10 x11 (ix2 b l) = ∑ k, merged (T x0 x1 x2 x3 x4 b l) (W x5 x6 x7 x8 x9 x10 x11 x12) k * merged (T x0 x1 x2 x3 x4 b l) (W x5 x6 x7 x8 x9 x10 x11 x12) k := by
  rw [val_main_v59_apply]
  refine (congrArg₂ (· + ·) (show _ = (0 : EReal) from ?_) (Finset.sum_congr rfl fun k _ => ?_)).trans (zero_add _)
  · exact (val_main_cst_5_apply _).trans (Ideal.ofBits_zero .f32)
  · have e : idx_main_v59 (ix2 b l) k = ix3 b l k := by
      funext z
      fin_cases z <;> rfl
    rw [val_main_v58_apply, e, merged_apply x0 x1 x2 x3 x4 x5 x6 x7 x8 x9 x10 x11 x12]
    rfl

theorem second_apply (b : Fin 8) (l : Fin 2048) (d : Fin 1024) :
    val_main_v78 (F := Ideal) x0 x1 x2 x3 x4 x5 x6 x7 x8 x9 x10 x11 (ix3 b l d) = second (T x0 x1 x2 x3 x4 b l) (W x5 x6 x7 x8 x9 x10 x11 x12) d := by
  have e0 : idx_main_v60 (idx_main_v66 (ix3 b l d)) = ix2 b l := by
    funext z
    fin_cases z <;> rfl
  have e1 : idx_main_v68 (idx_main_v69 (ix3 b l d)) = ix1 d := by
    funext z
    fin_cases z; rfl
  have e2 : idx_main_v4 (idx_main_v71 (idx_main_v74 (ix3 b l d))) = ix2 b ⟨4096 + d.1, by omega⟩ := by
    funext z
    fin_cases z <;> rfl
  have e3 : idx_main_v3 (idx_main_v76 (idx_main_v77 (ix3 b l d))) = ix2 b ⟨3072 + d.1, by omega⟩ := by
    funext z
    fin_cases z <;> rfl
  rw [val_main_v78_apply, val_main_v75_apply, val_main_v70_apply, val_main_v67_apply, val_main_v66_apply, val_main_v65_apply,
    val_main_v64_apply, val_main_v62_apply, val_main_v60_apply, val_main_v61_apply, val_main_v63_apply, val_main_cst_6_apply,
    val_main_cst_7_apply, val_main_v69_apply, val_main_v68_apply, val_main_v74_apply, val_main_v73_apply, val_main_v72_apply,
    val_main_cst_8_apply, val_main_v71_apply, val_main_v4_apply, val_main_v77_apply, val_main_v76_apply, val_main_v3_apply,
    e0, e1, e2, e3, merged_apply x0 x1 x2 x3 x4 x5 x6 x7 x8 x9 x10 x11 x12, sum2 x0 x1 x2 x3 x4 x5 x6 x7 x8 x9 x10 x11 x12]
  rfl

/-- The second result. -/
theorem cast_apply (b : Fin 8) (l : Fin 2048) (d : Fin 1024) :
    val_main_v91 (F := Ideal) x0 x1 x2 x3 x4 x5 x6 x7 x8 x9 x10 x11 (ix3 b l d) = second (T x0 x1 x2 x3 x4 b l) (W x5 x6 x7 x8 x9 x10 x11 x12) d := by
  rw [val_main_v91_apply]
  exact second_apply x0 x1 x2 x3 x4 x5 x6 x7 x8 x9 x10 x11 x12 b l d

/-! ## The router -/

theorem score_apply (b : Fin 8) (l : Fin 2048) (e : Fin 16) :
    val_main_v79 (F := Ideal) x0 x1 x2 x3 x4 x5 x6 x7 x8 x9 x10 x11 x12 (ix3 b l e) = proj (second (T x0 x1 x2 x3 x4 b l) (W x5 x6 x7 x8 x9 x10 x11 x12)) (W x5 x6 x7 x8 x9 x10 x11 x12).router e := by
  rw [val_main_v79_apply]
  unfold proj
  refine Finset.sum_congr rfl fun k _ => congrArg₂ (· * ·) ?_ ?_
  · refine Eq.trans (congrArg _ ?_) (second_apply x0 x1 x2 x3 x4 x5 x6 x7 x8 x9 x10 x11 x12 b l k)
    funext z
    fin_cases z <;> rfl
  · refine congrArg x12 ?_
    funext z
    fin_cases z <;> rfl

/-- The largest score of a token. -/
theorem peak_apply (b : Fin 8) (l : Fin 2048) :
    val_main_v82 (F := Ideal) x0 x1 x2 x3 x4 x5 x6 x7 x8 x9 x10 x11 x12 (ix2 b l) = top (proj (second (T x0 x1 x2 x3 x4 b l) (W x5 x6 x7 x8 x9 x10 x11 x12)) (W x5 x6 x7 x8 x9 x10 x11 x12).router) := by
  rw [val_main_v82_apply, val_main_v81_apply, val_main_cst_10_apply]
  refine (congrArg₂ max neg_inf ?_).trans (bot_sup_eq _)
  refine (host_max3 _ _ _ (by decide) _ neg_inf _).trans ?_
  exact top_congr fun k => score_apply x0 x1 x2 x3 x4 x5 x6 x7 x8 x9 x10 x11 x12 b l k

theorem weight_apply (b : Fin 8) (l : Fin 2048) (e : Fin 16) :
    val_main_v86 (F := Ideal) x0 x1 x2 x3 x4 x5 x6 x7 x8 x9 x10 x11 x12 (ix3 b l e)
      = Ideal.exp (proj (second (T x0 x1 x2 x3 x4 b l) (W x5 x6 x7 x8 x9 x10 x11 x12)) (W x5 x6 x7 x8 x9 x10 x11 x12).router e - top (proj (second (T x0 x1 x2 x3 x4 b l) (W x5 x6 x7 x8 x9 x10 x11 x12)) (W x5 x6 x7 x8 x9 x10 x11 x12).router)) := by
  have h : idx_main_v83 (idx_main_v84 (ix3 b l e)) = ix2 b l := by
    funext z
    fin_cases z <;> rfl
  rw [val_main_v86_apply, val_main_v85_apply, val_main_v84_apply, val_main_v83_apply, h, score_apply, peak_apply]
  rfl

theorem total_apply (b : Fin 8) (l : Fin 2048) :
    val_main_v87 (F := Ideal) x0 x1 x2 x3 x4 x5 x6 x7 x8 x9 x10 x11 x12 (ix2 b l)
      = ∑ e, Ideal.exp (proj (second (T x0 x1 x2 x3 x4 b l) (W x5 x6 x7 x8 x9 x10 x11 x12)) (W x5 x6 x7 x8 x9 x10 x11 x12).router e - top (proj (second (T x0 x1 x2 x3 x4 b l) (W x5 x6 x7 x8 x9 x10 x11 x12)) (W x5 x6 x7 x8 x9 x10 x11 x12).router)) := by
  rw [val_main_v87_apply]
  refine (congrArg₂ (· + ·) (show _ = (0 : EReal) from ?_) (Finset.sum_congr rfl fun k _ => ?_)).trans (zero_add _)
  · exact (val_main_cst_11_apply _).trans (Ideal.ofBits_zero .f32)
  · refine Eq.trans (congrArg _ ?_) (weight_apply x0 x1 x2 x3 x4 x5 x6 x7 x8 x9 x10 x11 x12 b l k)
    funext z
    fin_cases z <;> rfl

/-- The third result. -/
theorem affinity_apply (b : Fin 8) (e : Fin 16) (l : Fin 2048) :
    val_main_v92 (F := Ideal) x0 x1 x2 x3 x4 x5 x6 x7 x8 x9 x10 x11 x12 (ix3 b e l) = affinity (T x0 x1 x2 x3 x4 b l) (W x5 x6 x7 x8 x9 x10 x11 x12) e := by
  have h : idx_main_v92 (ix3 b e l) = ix3 b l e := by
    funext z
    fin_cases z <;> rfl
  have h' : idx_main_v88 (idx_main_v89 (ix3 b l e)) = ix2 b l := by
    funext z
    fin_cases z <;> rfl
  rw [val_main_v92_apply, h, val_main_v90_apply, val_main_v89_apply, val_main_v88_apply, h', weight_apply, total_apply]
  rfl

end Cert.MergeRefIdeal.Mix
-- ==== Proof.Merge.Claim.lean ====
module

public import proofs.«01_k».proof.Defs
public import proofs.«01_k».proof.Proof.Merge.Value
public import proofs.«01_k».proof.Proof.Merge.Ref
public import proofs.«01_k».proof.Proof.Gen.MergeRefIdeal.Run
public import Idealize.ShloMosaic.Lib.Quiescent

/-!
# The claims about the merge call

The call and the reference both end with the three arrays of the formulas `merged`, `second` and
`affinity`.
-/

@[expose] public section

noncomputable section

namespace Cert.Mix

open Idealize.ShloMosaic Idealize.SL.Sem

/-- The reference leaves its arguments. -/
theorem frame_ref : Cert.quiescent_MergeRefIdeal (hMergeRefIdeal := Cert.MergeRefIdeal.Gen.facts) := fun m ρ _ =>
  (θ_run (Cert.MergeRefIdeal.defs (F := Ideal)) _ _).mono
    (fun r h => ⟨fun c => (h c).2.2.2, Idealize.ShloMosaic.sem_eq_zero_of_no_sems (by decide) r.2⟩)
    (Cert.MergeRefIdeal.Value.run (F := Ideal) m ρ)

/-- Call and reference end with equal arrays. -/
theorem equal : Cert.algebraic_MergeIdeal_MergeRefIdeal (hMergeIdeal := Cert.MergeIdeal.Gen.facts)
    (hMergeRefIdeal := Cert.MergeRefIdeal.Gen.facts) := by
  intro m ρ m' ρ' _ hagree
  refine ⟨fun c => Cert.MergeIdeal.Mix.whole17 m c, fun c => Cert.MergeIdeal.Mix.whole18 m c, fun c => Cert.MergeIdeal.Mix.whole19 m c,
    (θ_run (Cert.MergeIdeal.defs (F := Ideal)) _ _).mono (fun r h c =>
      ⟨(h c).1.trans (Cert.MergeIdeal.Mix.final17 m c), (h c).2.1.trans (Cert.MergeIdeal.Mix.final18 m c),
        (h c).2.2.1.trans (Cert.MergeIdeal.Mix.final19 m c), (h c).2.2.2⟩)
      (Cert.MergeIdeal.Value.run_blocks m ρ),
    (θ_run (Cert.MergeRefIdeal.defs (F := Ideal)) _ _).mono (fun r h c =>
      ⟨(h c).1.trans ?_, (h c).2.1.trans ?_, (h c).2.2.1.trans ?_, (h c).2.2.2⟩)
      (Cert.MergeRefIdeal.Value.run (F := Ideal) m' ρ')⟩
  · obtain ⟨h0, h1, h2, h3, h4, h5, h6, h7, h8, h9, h10, h11, h12⟩ := hagree c
    refine (Cert.MergeRefIdeal.Read.val_main_v57_eq m' c).trans (funext fun i => ?_)
    rw [h0, h1, h2, h3, h4, h5, h7, h8, h9, h10, h11]
    exact (congrArg _ (eq_ix3 (n0 := 8) (n1 := 2048) (n2 := 1024) i)).trans
      (Cert.MergeRefIdeal.Mix.merged_apply _ _ _ _ _ _ (Cert.MergeIdeal.Mix.A6 m c) _ _ _ _ _ (Cert.MergeIdeal.Mix.A12 m c) (i 0) (i 1) (i 2))
  · obtain ⟨h0, h1, h2, h3, h4, h5, h6, h7, h8, h9, h10, h11, h12⟩ := hagree c
    refine (Cert.MergeRefIdeal.Read.val_main_v91_eq m' c).trans (funext fun i => ?_)
    rw [h0, h1, h2, h3, h4, h5, h6, h7, h8, h9, h10, h11]
    exact (congrArg _ (eq_ix3 (n0 := 8) (n1 := 2048) (n2 := 1024) i)).trans
      (Cert.MergeRefIdeal.Mix.cast_apply _ _ _ _ _ _ _ _ _ _ _ _ (Cert.MergeIdeal.Mix.A12 m c) (i 0) (i 1) (i 2))
  · obtain ⟨h0, h1, h2, h3, h4, h5, h6, h7, h8, h9, h10, h11, h12⟩ := hagree c
    refine (Cert.MergeRefIdeal.Read.val_main_v92_eq m' c).trans (funext fun i => ?_)
    rw [h0, h1, h2, h3, h4, h5, h6, h7, h8, h9, h10, h11, h12]
    exact (congrArg _ (eq_ix3 (n0 := 8) (n1 := 16) (n2 := 2048) i)).trans
      (Cert.MergeRefIdeal.Mix.affinity_apply _ _ _ _ _ _ _ _ _ _ _ _ _ (i 0) (i 1) (i 2))

end Cert.Mix
-- ==== Proof.Inproj.Spec.lean ====
module

public import proofs.«01_k».proof.Proof.Merge.Spec

/-!
# The projection of one token into the layer's branches

The token is normalised and shifted by its batch entry's modulation and multiplied by the weights.
The first 256 columns go through the channel transform. The others are heads of 64 columns: queries,
keys and values of the two attentions. The queries and keys of the first attention are divided by
their root mean square; all queries and keys are rotated in pairs of columns.
-/

@[expose] public section

noncomputable section

namespace Cert.Rope

open Idealize.ShloMosaic Cert.Common Cert.Mix

/-- What the call reads for one token: its row, its batch entry's modulation, its position's angles. -/
@[ext] structure Token where
  x : Fin 1024 → EReal
  sh : Fin 1024 → EReal
  sc : Fin 1024 → EReal
  cos : Fin 32 → EReal
  sin : Fin 32 → EReal

/-- The weights all tokens share. -/
@[ext] structure Weights where
  n1 : Fin 1024 → EReal
  mix : Fin 1024 → Fin 1536 → EReal
  dft : Fin 256 → Fin 512 → EReal
  qn : Fin 64 → EReal
  kn : Fin 64 → EReal

/-- The projected columns. -/
def columns (t : Token) (w : Weights) : Fin 1536 → EReal := proj (normed t.x w.n1 t.sh t.sc) w.mix

/-- Columns `o + 64 h …` as head `h`. -/
def heads (o : ℕ) {H : ℕ} (hb : o + 64 * H ≤ 1536) (z : Fin 1536 → EReal) (h : Fin H) (d : Fin 64) : EReal :=
  z ⟨o + (64 * h.1 + d.1), by omega⟩

/-- A head divided by its root mean square and scaled by `g`. -/
def meanNorm (u g : Fin 64 → EReal) (d : Fin 64) : EReal :=
  u d * Ideal.rsqrt (Ideal.div (∑ k, u k * u k) (Ideal.ofBits .f32 0x42800000#32) + Ideal.ofBits .f32 0x358637BD#32) * g d

/-- A head rotated: columns `2 i` and `2 i + 1` by angle `i`. -/
def rotate (c s : Fin 32 → EReal) (u : Fin 64 → EReal) (d : Fin 64) : EReal :=
  if d.1 % 2 = 0 then u d * c ⟨d.1 / 2, by omega⟩ - u ⟨(d.1 + 1) % 64, by omega⟩ * s ⟨d.1 / 2, by omega⟩
  else u ⟨d.1 - 1, by omega⟩ * s ⟨d.1 / 2, by omega⟩ + u d * c ⟨d.1 / 2, by omega⟩

/-- A head scaled by the attention's 1/8. -/
def eighth (u : Fin 64 → EReal) (d : Fin 64) : EReal := u d * Ideal.ofBits .f32 0x3E000000#32

/-- Heads laid out in 128 lanes each, the free lanes holding the value of `b`. -/
def laid (b : BitVec 32) {n H : ℕ} (hn : n = 128 * H) (u : Fin H → Fin 64 → EReal) (c : Fin n) : EReal :=
  if h : c.1 % 128 < 64 then u ⟨c.1 / 128, by omega⟩ ⟨c.1 % 128, h⟩ else Ideal.ofBits .f32 b

/-- The channel transform. -/
def fcs (t : Token) (w : Weights) (d : Fin 512) : EReal := proj (fun k : Fin 256 => columns t w ⟨k.1, by omega⟩) w.dft d
/-- The global attention's queries, keys and values. -/
def qg (t : Token) (w : Weights) : Fin 1024 → EReal :=
  laid 0x00000000#32 (H := 8) rfl fun h => eighth (rotate t.cos t.sin (meanNorm (heads 256 (by omega) (columns t w) h) w.qn))
def kg (t : Token) (w : Weights) : Fin 256 → EReal :=
  laid 0x00000000#32 (H := 2) rfl fun h => rotate t.cos t.sin (meanNorm (heads 768 (by omega) (columns t w) h) w.kn)
def vg (t : Token) (w : Weights) : Fin 256 → EReal := laid 0x3F800000#32 (H := 2) rfl fun h => heads 896 (by omega) (columns t w) h
/-- The window attention's queries, keys and values. -/
def qw (t : Token) (w : Weights) : Fin 512 → EReal :=
  laid 0x00000000#32 (H := 4) rfl fun h => eighth (rotate t.cos t.sin (heads 1024 (by omega) (columns t w) h))
def kw (t : Token) (w : Weights) : Fin 256 → EReal :=
  laid 0x00000000#32 (H := 2) rfl fun h => rotate t.cos t.sin (heads 1280 (by omega) (columns t w) h)
def vw (t : Token) (w : Weights) : Fin 256 → EReal := laid 0x3F800000#32 (H := 2) rfl fun h => heads 1408 (by omega) (columns t w) h

end Cert.Rope
-- ==== Proof.Inproj.Body.lean ====
module

public import proofs.«01_k».proof.Proof.Gen.InprojIdeal.Skeleton
public import proofs.«01_k».proof.Proof.Inproj.Spec
public import proofs.«01_k».proof.Proof.Common.Reads

/-!
# What the body computes on one chunk of 128 tokens

The projection of the chunk, its rotation by lanes, and the layout of each of the seven outputs.
-/

@[expose] public section

noncomputable section

namespace Cert.InprojIdeal.Body

open Idealize.ShloMosaic Cert.InprojIdeal.Gen

/-- The projected rows of a chunk: normalised, modulated, times the weights. -/
def zed (x : Vec Ideal S1x128x1024 .f32) (g : Vec Ideal S1x1024 .f32) (sh sc : Vec Ideal S1x1x1024 .f32)
    (w : FVec Ideal S1024x1536 .bf16) : FVec Ideal S128x1536 .f32 :=
  have y : FVec Ideal S128x1024 .f32 := shapeCast S128x1024 x shapeCasts_S1x128x1024_S128x1024
  have n : FVec Ideal S128x1024 .bf16 := truncf .bf16 (addf (mulf (mulf (mulf y (broadcastTo S128x1024 (rsqrt (addf (divf
      (shapeCast S128x1 (multiReduction .add [1] S128 (mulf y y) 0x00000000#32 reduces_S128x1024_S128 (.inl rfl) rfl) shapeCasts_S128_S128x1)
      (broadcast S128x1 (Scalar.ofBits .f32 0x44800000#32))) (broadcast S128x1 (Scalar.ofBits .f32 0x358637BD#32)))) broadcasts_S128x1_S128x1024))
      (broadcastTo S128x1024 g broadcasts_S1x1024_S128x1024))
      (broadcastTo S128x1024 (addf (broadcast S1x1024 (Scalar.ofBits .f32 0x3F800000#32))
        (shapeCast S1x1024 sc shapeCasts_S1x1x1024_S1x1024)) broadcasts_S1x1024_S128x1024))
      (broadcastTo S128x1024 (shapeCast S1x1024 sh shapeCasts_S1x1x1024_S1x1024) broadcasts_S1x1024_S128x1024)) bitsLt_bf16_f32
  matmul dot_S128x1024_S1024x1536_S128x1536_1_0_0_1_n_n none n w (constant S128x1536 .f32 0x00000000#32)

/-- The channel transform of the first 256 columns. -/
def fcsOf (z : FVec Ideal S128x1536 .f32) (cd : Vec Ideal S256x512 .f32) : FVec Ideal S1x128x512 .bf16 :=
  have y : FVec Ideal S128x256 .bf16 := truncf .bf16 (extractStridedSlice S128x256 ![0, 0] z slices_S128x1536_o0_0_S128x256) bitsLt_bf16_f32
  have w : FVec Ideal S256x512 .bf16 := truncf .bf16 cd bitsLt_bf16_f32
  shapeCast S1x128x512 (truncf .bf16 (matmul dot_S128x256_S256x512_S128x512_1_0_0_1_n_n none y w (constant S128x512 .f32 0x00000000#32)) bitsLt_bf16_f32) shapeCasts_S128x512_S1x128x512

/-- The queries, eight heads, each divided by its root mean square and scaled. -/
def normQ (bd : FVec Ideal S256x256 .bf16) (z : FVec Ideal S128x1536 .f32) (g : Vec Ideal S1x512 .f32) : FVec Ideal S128x512 .f32 :=
  have y : FVec Ideal S128x512 .f32 := extractStridedSlice S128x512 ![0, 256] z slices_S128x1536_o0_256_S128x512
  have q : FVec Ideal S128x512 .bf16 := truncf .bf16 (mulf y y) bitsLt_bf16_f32
  mulf (mulf y (rsqrt (addf (concatenate S128x512 1
      [⟨S128x256, matmul dot_S128x256_S256x256_S128x256_1_0_0_1_n_n none
          (extractStridedSlice S128x256 ![0, 0] q slices_S128x512_o0_0_S128x256) bd (constant S128x256 .f32 0x00000000#32)⟩,
        ⟨S128x256, matmul dot_S128x256_S256x256_S128x256_1_0_0_1_n_n none
          (extractStridedSlice S128x256 ![0, 256] q slices_S128x512_o0_256_S128x256) bd (constant S128x256 .f32 0x00000000#32)⟩]
      concatenates_S128x256_S128x256_S128x512_d1) (broadcast S128x512 (Scalar.ofBits .f32 0x358637BD#32)))))
    (broadcastTo S128x512 g broadcasts_S1x512_S128x512)

/-- The keys, two heads, each divided by its root mean square and scaled. -/
def normK (bd : FVec Ideal S256x256 .bf16) (z : FVec Ideal S128x1536 .f32) (g : Vec Ideal S1x128 .f32) : FVec Ideal S128x128 .f32 :=
  have y : FVec Ideal S128x128 .f32 := extractStridedSlice S128x128 ![0, 768] z slices_S128x1536_o0_768_S128x128
  have q : FVec Ideal S128x128 .bf16 := truncf .bf16 (mulf y y) bitsLt_bf16_f32
  mulf (mulf y (rsqrt (addf (matmul dot_S128x128_S128x128_S128x128_1_0_0_1_n_n none q
      (extractStridedSlice S128x128 ![0, 0] bd slices_S256x256_o0_0_S128x128) (constant S128x128 .f32 0x00000000#32))
      (broadcast S128x128 (Scalar.ofBits .f32 0x358637BD#32)))))
    (broadcastTo S128x128 g broadcasts_S1x128_S128x128)

/-- The lane number's remainder by two. -/
def halfRest : IVec S128x128 32 :=
  remsi (iota .tc S128x128 32 [1] iota_S128x128_d1_w32)
    (broadcast S128x128 (Scalar.select (Scalar.cmpi .eq 2#32 0#32) 1#32 2#32))

/-- The lanes with an even number. -/
def evenLane : IVec S128x128 1 :=
  cmpi .eq (select
      (andi (xori (cmpi .slt halfRest (broadcast S128x128 0#32))
          (broadcastTo S128x128 (broadcast S128x128 (Scalar.cmpi .slt (Scalar.select (Scalar.cmpi .eq 2#32 0#32) 1#32 2#32) 0#32)) broadcasts_S128x128_S128x128))
        (cmpi .ne halfRest (broadcast S128x128 0#32)))
      (addi halfRest (broadcast S128x128 (Scalar.select (Scalar.cmpi .eq 2#32 0#32) 1#32 2#32))) halfRest)
    (broadcast S128x128 0#32)

/-- Two heads side by side rotated: every lane by its cosine, its partner lane by its signed sine. -/
def turn (y c s : FVec Ideal S128x128 .f32) : FVec Ideal S128x128 .f32 :=
  addf (mulf y c) (mulf (select evenLane (dynamicRotate 1 127#32 none y rotates_S128x128_d1)
    (dynamicRotate 1 1#32 none y rotates_S128x128_d1)) s)

/-- Eight heads rotated, two at a time. -/
def turn8 (y : FVec Ideal S128x512 .f32) (c s : FVec Ideal S128x128 .f32) : FVec Ideal S128x512 .f32 :=
  concatenate S128x512 1 [⟨S128x128, turn (extractStridedSlice S128x128 ![0, 0] y slices_S128x512_o0_0_S128x128) c s⟩,
      ⟨S128x128, turn (extractStridedSlice S128x128 ![0, 128] y slices_S128x512_o0_128_S128x128) c s⟩,
      ⟨S128x128, turn (extractStridedSlice S128x128 ![0, 256] y slices_S128x512_o0_256_S128x128) c s⟩,
      ⟨S128x128, turn (extractStridedSlice S128x128 ![0, 384] y slices_S128x512_o0_384_S128x128) c s⟩]
    concatenates_S128x128_S128x128_S128x128_S128x128_S128x512_d1

/-- Four heads rotated, two at a time. -/
def turn4 (y : FVec Ideal S128x256 .f32) (c s : FVec Ideal S128x128 .f32) : FVec Ideal S128x256 .f32 :=
  concatenate S128x256 1 [⟨S128x128, turn (extractStridedSlice S128x128 ![0, 0] y slices_S128x256_o0_0_S128x128) c s⟩,
      ⟨S128x128, turn (extractStridedSlice S128x128 ![0, 128] y slices_S128x256_o0_128_S128x128) c s⟩]
    concatenates_S128x128_S128x128_S128x256_d1

/-- Eight heads of 64 columns laid out in 128 lanes each. -/
def lay8 (y : FVec Ideal S128x512 .f32) : FVec Ideal S1x128x1024 .bf16 :=
  have q : FVec Ideal S128x512 .f32 := mulf y (broadcast S128x512 (Scalar.ofBits .f32 0x3E000000#32))
  have o : FVec Ideal S128x64 .f32 := broadcast S128x64 (Scalar.ofBits .f32 0x00000000#32)
  shapeCast S1x128x1024 (truncf .bf16 (concatenate S128x1024 1
    [⟨S128x64, extractStridedSlice S128x64 ![0, 0] q slices_S128x512_o0_0_S128x64⟩, ⟨S128x64, o⟩,
      ⟨S128x64, extractStridedSlice S128x64 ![0, 64] q slices_S128x512_o0_64_S128x64⟩, ⟨S128x64, o⟩,
      ⟨S128x64, extractStridedSlice S128x64 ![0, 128] q slices_S128x512_o0_128_S128x64⟩, ⟨S128x64, o⟩,
      ⟨S128x64, extractStridedSlice S128x64 ![0, 192] q slices_S128x512_o0_192_S128x64⟩, ⟨S128x64, o⟩,
      ⟨S128x64, extractStridedSlice S128x64 ![0, 256] q slices_S128x512_o0_256_S128x64⟩, ⟨S128x64, o⟩,
      ⟨S128x64, extractStridedSlice S128x64 ![0, 320] q slices_S128x512_o0_320_S128x64⟩, ⟨S128x64, o⟩,
      ⟨S128x64, extractStridedSlice S128x64 ![0, 384] q slices_S128x512_o0_384_S128x64⟩, ⟨S128x64, o⟩,
      ⟨S128x64, extractStridedSlice S128x64 ![0, 448] q slices_S128x512_o0_448_S128x64⟩, ⟨S128x64, o⟩]
    concatenates_S128x64_S128x64_S128x64_S128x64_S128x64_S128x64_S128x64_S128x64_S128x64_S128x64_S128x64_S128x64_S128x64_S128x64_S128x64_S128x64_S128x1024_d1) bitsLt_bf16_f32)
    shapeCasts_S128x1024_S1x128x1024

/-- Four heads of 64 columns laid out in 128 lanes each. -/
def lay4 (y : FVec Ideal S128x256 .f32) : FVec Ideal S1x128x512 .bf16 :=
  have q : FVec Ideal S128x256 .f32 := mulf y (broadcast S128x256 (Scalar.ofBits .f32 0x3E000000#32))
  have o : FVec Ideal S128x64 .f32 := broadcast S128x64 (Scalar.ofBits .f32 0x00000000#32)
  shapeCast S1x128x512 (truncf .bf16 (concatenate S128x512 1
    [⟨S128x64, extractStridedSlice S128x64 ![0, 0] q slices_S128x256_o0_0_S128x64⟩, ⟨S128x64, o⟩,
      ⟨S128x64, extractStridedSlice S128x64 ![0, 64] q slices_S128x256_o0_64_S128x64⟩, ⟨S128x64, o⟩,
      ⟨S128x64, extractStridedSlice S128x64 ![0, 128] q slices_S128x256_o0_128_S128x64⟩, ⟨S128x64, o⟩,
      ⟨S128x64, extractStridedSlice S128x64 ![0, 192] q slices_S128x256_o0_192_S128x64⟩, ⟨S128x64, o⟩]
    concatenates_S128x64_S128x64_S128x64_S128x64_S128x64_S128x64_S128x64_S128x64_S128x512_d1) bitsLt_bf16_f32)
    shapeCasts_S128x512_S1x128x512

/-- Two heads of 64 columns laid out in 128 lanes each, the free lanes filled with the value of `b`. -/
def lay2 (b : BitVec 32) (y : FVec Ideal S128x128 .f32) : FVec Ideal S1x128x256 .bf16 :=
  have o : FVec Ideal S128x64 .f32 := broadcast S128x64 (Scalar.ofBits .f32 b)
  shapeCast S1x128x256 (truncf .bf16 (concatenate S128x256 1
    [⟨S128x64, extractStridedSlice S128x64 ![0, 0] y slices_S128x128_o0_0_S128x64⟩, ⟨S128x64, o⟩, ⟨S128x64, extractStridedSlice S128x64 ![0, 64] y slices_S128x128_o0_64_S128x64⟩, ⟨S128x64, o⟩]
    concatenates_S128x64_S128x64_S128x64_S128x64_S128x256_d1) bitsLt_bf16_f32)
    shapeCasts_S128x256_S1x128x256

/-! ## The seven outputs of a chunk, from its projection -/

def qOf (bd : FVec Ideal S256x256 .bf16) (z : FVec Ideal S128x1536 .f32) (g : Vec Ideal S1x512 .f32) (c s : FVec Ideal S128x128 .f32) :
    FVec Ideal S1x128x1024 .bf16 := lay8 (turn8 (normQ bd z g) c s)
def kOf (bd : FVec Ideal S256x256 .bf16) (z : FVec Ideal S128x1536 .f32) (g : Vec Ideal S1x128 .f32) (c s : FVec Ideal S128x128 .f32) :
    FVec Ideal S1x128x256 .bf16 := lay2 0x00000000#32 (turn (normK bd z g) c s)
def vOf (z : FVec Ideal S128x1536 .f32) : FVec Ideal S1x128x256 .bf16 :=
  lay2 0x3F800000#32 (extractStridedSlice S128x128 ![0, 896] z slices_S128x1536_o0_896_S128x128)
def qwOf (z : FVec Ideal S128x1536 .f32) (c s : FVec Ideal S128x128 .f32) : FVec Ideal S1x128x512 .bf16 :=
  lay4 (turn4 (extractStridedSlice S128x256 ![0, 1024] z slices_S128x1536_o0_1024_S128x256) c s)
def kwOf (z : FVec Ideal S128x1536 .f32) (c s : FVec Ideal S128x128 .f32) : FVec Ideal S1x128x256 .bf16 :=
  lay2 0x00000000#32 (turn (extractStridedSlice S128x128 ![0, 1280] z slices_S128x1536_o0_1280_S128x128) c s)
def vwOf (z : FVec Ideal S128x1536 .f32) : FVec Ideal S1x128x256 .bf16 :=
  lay2 0x3F800000#32 (extractStridedSlice S128x128 ![0, 1408] z slices_S128x1536_o0_1408_S128x128)

end Cert.InprojIdeal.Body
-- ==== Proof.Inproj.Chunk.lean ====
module

public import proofs.«01_k».proof.Proof.Inproj.Body
public import proofs.«01_k».proof.Proof.Gen.InprojIdeal.Frame
public import Idealize.ShloMosaic.Lib.Pipeline.Value

/-!
# What one grid step leaves in its seven outputs

A step's blocks hold 1024 tokens, eight chunks of 128. Every chunk goes through the same operations.
-/

@[expose] public section

noncomputable section

namespace Cert.InprojIdeal.Body

open Idealize.ShloMosaic Cert.InprojIdeal.Gen

variable (x0 : Vec Ideal S1x1024x1024 .f32) (x1 x2 : Vec Ideal S1x1x1024 .f32) (x3 : Vec Ideal S1x1024 .f32)
  (x4 : Vec Ideal S1024x1536 .bf16) (x5 x6 : Vec Ideal S1024x128 .f32) (x7 : Vec Ideal S256x256 .bf16)
  (x8 : Vec Ideal S256x512 .f32) (x9 : Vec Ideal S1x512 .f32) (x10 : Vec Ideal S1x128 .f32)

/-- The shape casts the body makes of what it loads, each to the shape it has. -/
abbrev sq256 (x : Vec Ideal S256x256 .bf16) : FVec Ideal S256x256 .bf16 := shapeCast S256x256 x shapeCasts_S256x256_S256x256
abbrev sq128 (x : Vec Ideal S128x128 .f32) : FVec Ideal S128x128 .f32 := shapeCast S128x128 x shapeCasts_S128x128_S128x128
abbrev row512 (x : Vec Ideal S1x512 .f32) : FVec Ideal S1x512 .f32 := shapeCast S1x512 x shapeCasts_S1x512_S1x512
abbrev row128 (x : Vec Ideal S1x128 .f32) : FVec Ideal S1x128 .f32 := shapeCast S1x128 x shapeCasts_S1x128_S1x128

/-- The projection of the chunk `x`. -/
abbrev zat (x : Vec Ideal S1x128x1024 .f32) : FVec Ideal S128x1536 .f32 :=
  zed x (View.ld x3 r0_2) (View.ld x1 r0_3) (View.ld x2 r0_3) (View.ld x4 r0_4)

theorem z0_eq : k0_pay221 x0 x1 x2 x3 x4 x5 x6 x7 x8 x9 x10 = zat x1 x2 x3 x4 (View.ld x0 r0_1) := by
  simp only [k0_pay221, k0_pay4, zat, zed, shapeCast_self]
theorem z1_eq : k0_pay222 x0 x1 x2 x3 x4 x5 x6 x7 x8 x9 x10 = zat x1 x2 x3 x4 (View.ld x0 r0_5) := by
  simp only [k0_pay222, k0_pay5, k0_pay6, zat, zed, shapeCast_self]
theorem z2_eq : k0_pay230 x0 x1 x2 x3 x4 x5 x6 x7 x8 x9 x10 = zat x1 x2 x3 x4 (View.ld x0 r0_12) := by
  simp only [k0_pay230, k0_pay33, zat, zed, shapeCast_self]
theorem z3_eq : k0_pay237 x0 x1 x2 x3 x4 x5 x6 x7 x8 x9 x10 = zat x1 x2 x3 x4 (View.ld x0 r0_16) := by
  simp only [k0_pay237, k0_pay58, zat, zed, shapeCast_self]
theorem z4_eq : k0_pay243 x0 x1 x2 x3 x4 x5 x6 x7 x8 x9 x10 = zat x1 x2 x3 x4 (View.ld x0 r0_20) := by
  simp only [k0_pay243, k0_pay80, zat, zed, shapeCast_self]
theorem z5_eq : k0_pay249 x0 x1 x2 x3 x4 x5 x6 x7 x8 x9 x10 = zat x1 x2 x3 x4 (View.ld x0 r0_24) := by
  simp only [k0_pay249, k0_pay108, zat, zed, shapeCast_self]
theorem z6_eq : k0_pay254 x0 x1 x2 x3 x4 x5 x6 x7 x8 x9 x10 = zat x1 x2 x3 x4 (View.ld x0 r0_28) := by
  simp only [k0_pay254, k0_pay134, k0_pay135, k0_pay136, zat, zed, shapeCast_self]
theorem z7_eq : k0_pay259 x0 x1 x2 x3 x4 x5 x6 x7 x8 x9 x10 = zat x1 x2 x3 x4 (View.ld x0 r0_32) := by
  simp only [k0_pay259, k0_pay160, k0_pay161, zat, zed, shapeCast_self]

set_option maxHeartbeats 4000000 in
theorem out11_eq : out0_11 x0 x1 x2 x3 x4 x5 x6 x7 x8 x9 x10 = View.canon [⟨r0_36, fcsOf (zat x1 x2 x3 x4 (View.ld x0 r0_32)) (View.ld x8 r0_6)⟩,
    ⟨r0_33, fcsOf (zat x1 x2 x3 x4 (View.ld x0 r0_28)) (View.ld x8 r0_6)⟩,
    ⟨r0_29, fcsOf (zat x1 x2 x3 x4 (View.ld x0 r0_24)) (View.ld x8 r0_6)⟩,
    ⟨r0_25, fcsOf (zat x1 x2 x3 x4 (View.ld x0 r0_20)) (View.ld x8 r0_6)⟩,
    ⟨r0_21, fcsOf (zat x1 x2 x3 x4 (View.ld x0 r0_16)) (View.ld x8 r0_6)⟩,
    ⟨r0_17, fcsOf (zat x1 x2 x3 x4 (View.ld x0 r0_12)) (View.ld x8 r0_6)⟩,
    ⟨r0_13, fcsOf (zat x1 x2 x3 x4 (View.ld x0 r0_5)) (View.ld x8 r0_6)⟩,
    ⟨r0_7, fcsOf (zat x1 x2 x3 x4 (View.ld x0 r0_1)) (View.ld x8 r0_6)⟩] := by
  simp only [out0_11]
  simp only [z0_eq, z1_eq, z2_eq, z3_eq, z4_eq, z5_eq, z6_eq, z7_eq]
  rfl

set_option maxHeartbeats 4000000 in
theorem out12_eq : out0_12 x0 x1 x2 x3 x4 x5 x6 x7 x8 x9 x10 = View.canon [⟨r0_32, qOf (sq256 (View.ld x7 r0_0)) (zat x1 x2 x3 x4 (View.ld x0 r0_32)) (row512 (View.ld x9 r0_8)) (sq128 (View.ld x5 r0_37)) (sq128 (View.ld x6 r0_37))⟩,
    ⟨r0_28, qOf (sq256 (View.ld x7 r0_0)) (zat x1 x2 x3 x4 (View.ld x0 r0_28)) (row512 (View.ld x9 r0_8)) (sq128 (View.ld x5 r0_34)) (sq128 (View.ld x6 r0_34))⟩,
    ⟨r0_24, qOf (sq256 (View.ld x7 r0_0)) (zat x1 x2 x3 x4 (View.ld x0 r0_24)) (row512 (View.ld x9 r0_8)) (sq128 (View.ld x5 r0_30)) (sq128 (View.ld x6 r0_30))⟩,
    ⟨r0_20, qOf (sq256 (View.ld x7 r0_0)) (zat x1 x2 x3 x4 (View.ld x0 r0_20)) (row512 (View.ld x9 r0_8)) (sq128 (View.ld x5 r0_26)) (sq128 (View.ld x6 r0_26))⟩,
    ⟨r0_16, qOf (sq256 (View.ld x7 r0_0)) (zat x1 x2 x3 x4 (View.ld x0 r0_16)) (row512 (View.ld x9 r0_8)) (sq128 (View.ld x5 r0_22)) (sq128 (View.ld x6 r0_22))⟩,
    ⟨r0_12, qOf (sq256 (View.ld x7 r0_0)) (zat x1 x2 x3 x4 (View.ld x0 r0_12)) (row512 (View.ld x9 r0_8)) (sq128 (View.ld x5 r0_18)) (sq128 (View.ld x6 r0_18))⟩,
    ⟨r0_5, qOf (sq256 (View.ld x7 r0_0)) (zat x1 x2 x3 x4 (View.ld x0 r0_5)) (row512 (View.ld x9 r0_8)) (sq128 (View.ld x5 r0_14)) (sq128 (View.ld x6 r0_14))⟩,
    ⟨r0_1, qOf (sq256 (View.ld x7 r0_0)) (zat x1 x2 x3 x4 (View.ld x0 r0_1)) (row512 (View.ld x9 r0_8)) (sq128 (View.ld x5 r0_10)) (sq128 (View.ld x6 r0_10))⟩] := by
  simp only [out0_12, k0_pay220, k0_pay224, k0_pay225, k0_pay226, k0_pay227, k0_pay228, k0_pay232, k0_pay233, k0_pay234, k0_pay235, k0_pay238, k0_pay240, k0_pay241, k0_pay244, k0_pay245, k0_pay246, k0_pay247, k0_pay250, k0_pay251, k0_pay252, k0_pay253, k0_pay255, k0_pay256, k0_pay257, k0_pay258, k0_pay260, k0_pay261, k0_pay262, k0_pay263, k0_pay264, k0_pay265, k0_pay266, k0_pay267, k0_pay268, k0_pay270, k0_pay271, k0_pay272]
  simp only [z0_eq, z1_eq, z2_eq, z3_eq, z4_eq, z5_eq, z6_eq, z7_eq]
  rfl

set_option maxHeartbeats 4000000 in
theorem out13_eq : out0_13 x0 x1 x2 x3 x4 x5 x6 x7 x8 x9 x10 = View.canon [⟨r0_38, kOf (sq256 (View.ld x7 r0_0)) (zat x1 x2 x3 x4 (View.ld x0 r0_32)) (row128 (View.ld x10 r0_9)) (sq128 (View.ld x5 r0_37)) (sq128 (View.ld x6 r0_37))⟩,
    ⟨r0_35, kOf (sq256 (View.ld x7 r0_0)) (zat x1 x2 x3 x4 (View.ld x0 r0_28)) (row128 (View.ld x10 r0_9)) (sq128 (View.ld x5 r0_34)) (sq128 (View.ld x6 r0_34))⟩,
    ⟨r0_31, kOf (sq256 (View.ld x7 r0_0)) (zat x1 x2 x3 x4 (View.ld x0 r0_24)) (row128 (View.ld x10 r0_9)) (sq128 (View.ld x5 r0_30)) (sq128 (View.ld x6 r0_30))⟩,
    ⟨r0_27, kOf (sq256 (View.ld x7 r0_0)) (zat x1 x2 x3 x4 (View.ld x0 r0_20)) (row128 (View.ld x10 r0_9)) (sq128 (View.ld x5 r0_26)) (sq128 (View.ld x6 r0_26))⟩,
    ⟨r0_23, kOf (sq256 (View.ld x7 r0_0)) (zat x1 x2 x3 x4 (View.ld x0 r0_16)) (row128 (View.ld x10 r0_9)) (sq128 (View.ld x5 r0_22)) (sq128 (View.ld x6 r0_22))⟩,
    ⟨r0_19, kOf (sq256 (View.ld x7 r0_0)) (zat x1 x2 x3 x4 (View.ld x0 r0_12)) (row128 (View.ld x10 r0_9)) (sq128 (View.ld x5 r0_18)) (sq128 (View.ld x6 r0_18))⟩,
    ⟨r0_15, kOf (sq256 (View.ld x7 r0_0)) (zat x1 x2 x3 x4 (View.ld x0 r0_5)) (row128 (View.ld x10 r0_9)) (sq128 (View.ld x5 r0_14)) (sq128 (View.ld x6 r0_14))⟩,
    ⟨r0_11, kOf (sq256 (View.ld x7 r0_0)) (zat x1 x2 x3 x4 (View.ld x0 r0_1)) (row128 (View.ld x10 r0_9)) (sq128 (View.ld x5 r0_10)) (sq128 (View.ld x6 r0_10))⟩] := by
  simp only [out0_13, k0_pay220, k0_pay224, k0_pay225, k0_pay226, k0_pay227, k0_pay228, k0_pay231, k0_pay232, k0_pay233, k0_pay234, k0_pay235, k0_pay238, k0_pay239, k0_pay240, k0_pay241, k0_pay242, k0_pay244, k0_pay246, k0_pay247, k0_pay248, k0_pay251, k0_pay252, k0_pay253, k0_pay256, k0_pay257, k0_pay258, k0_pay261, k0_pay262, k0_pay263, k0_pay270, k0_pay271, k0_pay272]
  simp only [z0_eq, z1_eq, z2_eq, z3_eq, z4_eq, z5_eq, z6_eq, z7_eq]
  rfl

set_option maxHeartbeats 4000000 in
theorem out14_eq : out0_14 x0 x1 x2 x3 x4 x5 x6 x7 x8 x9 x10 = View.canon [⟨r0_38, vOf (zat x1 x2 x3 x4 (View.ld x0 r0_32))⟩,
    ⟨r0_35, vOf (zat x1 x2 x3 x4 (View.ld x0 r0_28))⟩,
    ⟨r0_31, vOf (zat x1 x2 x3 x4 (View.ld x0 r0_24))⟩,
    ⟨r0_27, vOf (zat x1 x2 x3 x4 (View.ld x0 r0_20))⟩,
    ⟨r0_23, vOf (zat x1 x2 x3 x4 (View.ld x0 r0_16))⟩,
    ⟨r0_19, vOf (zat x1 x2 x3 x4 (View.ld x0 r0_12))⟩,
    ⟨r0_15, vOf (zat x1 x2 x3 x4 (View.ld x0 r0_5))⟩,
    ⟨r0_11, vOf (zat x1 x2 x3 x4 (View.ld x0 r0_1))⟩] := by
  simp only [out0_14]
  simp only [z0_eq, z1_eq, z2_eq, z3_eq, z4_eq, z5_eq, z6_eq, z7_eq]
  rfl

set_option maxHeartbeats 4000000 in
theorem out15_eq : out0_15 x0 x1 x2 x3 x4 x5 x6 x7 x8 x9 x10 = View.canon [⟨r0_36, qwOf (zat x1 x2 x3 x4 (View.ld x0 r0_32)) (sq128 (View.ld x5 r0_37)) (sq128 (View.ld x6 r0_37))⟩,
    ⟨r0_33, qwOf (zat x1 x2 x3 x4 (View.ld x0 r0_28)) (sq128 (View.ld x5 r0_34)) (sq128 (View.ld x6 r0_34))⟩,
    ⟨r0_29, qwOf (zat x1 x2 x3 x4 (View.ld x0 r0_24)) (sq128 (View.ld x5 r0_30)) (sq128 (View.ld x6 r0_30))⟩,
    ⟨r0_25, qwOf (zat x1 x2 x3 x4 (View.ld x0 r0_20)) (sq128 (View.ld x5 r0_26)) (sq128 (View.ld x6 r0_26))⟩,
    ⟨r0_21, qwOf (zat x1 x2 x3 x4 (View.ld x0 r0_16)) (sq128 (View.ld x5 r0_22)) (sq128 (View.ld x6 r0_22))⟩,
    ⟨r0_17, qwOf (zat x1 x2 x3 x4 (View.ld x0 r0_12)) (sq128 (View.ld x5 r0_18)) (sq128 (View.ld x6 r0_18))⟩,
    ⟨r0_13, qwOf (zat x1 x2 x3 x4 (View.ld x0 r0_5)) (sq128 (View.ld x5 r0_14)) (sq128 (View.ld x6 r0_14))⟩,
    ⟨r0_7, qwOf (zat x1 x2 x3 x4 (View.ld x0 r0_1)) (sq128 (View.ld x5 r0_10)) (sq128 (View.ld x6 r0_10))⟩] := by
  simp only [out0_15, k0_pay223, k0_pay224, k0_pay225, k0_pay226, k0_pay227, k0_pay228, k0_pay229, k0_pay232, k0_pay233, k0_pay234, k0_pay235, k0_pay236, k0_pay238, k0_pay240, k0_pay241, k0_pay242, k0_pay244, k0_pay246, k0_pay247, k0_pay248, k0_pay251, k0_pay252, k0_pay253, k0_pay256, k0_pay257, k0_pay258, k0_pay261, k0_pay262, k0_pay263, k0_pay270, k0_pay271, k0_pay272, k0_pay273]
  simp only [z0_eq, z1_eq, z2_eq, z3_eq, z4_eq, z5_eq, z6_eq, z7_eq]
  rfl

set_option maxHeartbeats 4000000 in
theorem out16_eq : out0_16 x0 x1 x2 x3 x4 x5 x6 x7 x8 x9 x10 = View.canon [⟨r0_38, kwOf (zat x1 x2 x3 x4 (View.ld x0 r0_32)) (sq128 (View.ld x5 r0_37)) (sq128 (View.ld x6 r0_37))⟩,
    ⟨r0_35, kwOf (zat x1 x2 x3 x4 (View.ld x0 r0_28)) (sq128 (View.ld x5 r0_34)) (sq128 (View.ld x6 r0_34))⟩,
    ⟨r0_31, kwOf (zat x1 x2 x3 x4 (View.ld x0 r0_24)) (sq128 (View.ld x5 r0_30)) (sq128 (View.ld x6 r0_30))⟩,
    ⟨r0_27, kwOf (zat x1 x2 x3 x4 (View.ld x0 r0_20)) (sq128 (View.ld x5 r0_26)) (sq128 (View.ld x6 r0_26))⟩,
    ⟨r0_23, kwOf (zat x1 x2 x3 x4 (View.ld x0 r0_16)) (sq128 (View.ld x5 r0_22)) (sq128 (View.ld x6 r0_22))⟩,
    ⟨r0_19, kwOf (zat x1 x2 x3 x4 (View.ld x0 r0_12)) (sq128 (View.ld x5 r0_18)) (sq128 (View.ld x6 r0_18))⟩,
    ⟨r0_15, kwOf (zat x1 x2 x3 x4 (View.ld x0 r0_5)) (sq128 (View.ld x5 r0_14)) (sq128 (View.ld x6 r0_14))⟩,
    ⟨r0_11, kwOf (zat x1 x2 x3 x4 (View.ld x0 r0_1)) (sq128 (View.ld x5 r0_10)) (sq128 (View.ld x6 r0_10))⟩] := by
  simp only [out0_16, k0_pay224, k0_pay225, k0_pay226, k0_pay227, k0_pay228, k0_pay229, k0_pay232, k0_pay233, k0_pay234, k0_pay235, k0_pay236, k0_pay238, k0_pay240, k0_pay241, k0_pay242, k0_pay244, k0_pay246, k0_pay247, k0_pay248, k0_pay251, k0_pay252, k0_pay253, k0_pay256, k0_pay257, k0_pay258, k0_pay261, k0_pay262, k0_pay263, k0_pay269, k0_pay270, k0_pay271, k0_pay272]
  simp only [z0_eq, z1_eq, z2_eq, z3_eq, z4_eq, z5_eq, z6_eq, z7_eq]
  rfl

set_option maxHeartbeats 4000000 in
theorem out17_eq : out0_17 x0 x1 x2 x3 x4 x5 x6 x7 x8 x9 x10 = View.canon [⟨r0_38, vwOf (zat x1 x2 x3 x4 (View.ld x0 r0_32))⟩,
    ⟨r0_35, vwOf (zat x1 x2 x3 x4 (View.ld x0 r0_28))⟩,
    ⟨r0_31, vwOf (zat x1 x2 x3 x4 (View.ld x0 r0_24))⟩,
    ⟨r0_27, vwOf (zat x1 x2 x3 x4 (View.ld x0 r0_20))⟩,
    ⟨r0_23, vwOf (zat x1 x2 x3 x4 (View.ld x0 r0_16))⟩,
    ⟨r0_19, vwOf (zat x1 x2 x3 x4 (View.ld x0 r0_12))⟩,
    ⟨r0_15, vwOf (zat x1 x2 x3 x4 (View.ld x0 r0_5))⟩,
    ⟨r0_11, vwOf (zat x1 x2 x3 x4 (View.ld x0 r0_1))⟩] := by
  simp only [out0_17]
  simp only [z0_eq, z1_eq, z2_eq, z3_eq, z4_eq, z5_eq, z6_eq, z7_eq]
  rfl

end Cert.InprojIdeal.Body
-- ==== Proof.Inproj.Heads.lean ====
module

public import proofs.«01_k».proof.Proof.Inproj.Body
public import Idealize.ShloMosaic.Lib.IdealHost

/-!
# The projection and the heads' norms, read at a column

The mean of a head's squares is a product with a matrix that holds 1/64 where two columns lie in
one head and zero elsewhere.
-/

@[expose] public section

noncomputable section

namespace Cert.InprojIdeal.Body

open Idealize.ShloMosaic Cert.InprojIdeal.Gen Cert.Rope Cert.Mix Cert.Common

theorem fcsOf_apply (z : FVec Ideal S128x1536 .f32) (cd : Vec Ideal S256x512 .f32) (r : Fin 128) (c : Fin 512) :
    fcsOf z cd (ix3 0 r c) = proj (fun k : Fin 256 => z (ix2 r ⟨k.1, by omega⟩)) (fun k f => cd (ix2 k f)) c := by
  unfold fcsOf proj
  pointwise

theorem zed_apply (x : Vec Ideal S1x128x1024 .f32) (g : Vec Ideal S1x1024 .f32) (sh sc : Vec Ideal S1x1x1024 .f32)
    (w : FVec Ideal S1024x1536 .bf16) (r : Fin 128) (c : Fin 1536) :
    zed x g sh sc w (ix2 r c) = proj (normed (fun k => x (ix3 0 r k)) (fun k => g (ix2 0 k)) (fun k => sh (ix3 0 0 k)) (fun k => sc (ix3 0 0 k)))
      (fun k f => w (ix2 k f)) c := by
  unfold zed proj normed
  pointwise

/-- A sum over the columns of `H` heads in which one head alone has weight `b`. -/
theorem head_sum {H n : ℕ} (hn : n = 64 * H) (a : Fin n → EReal) {b : EReal} (h0 : 0 ≤ b) (ht : b ≠ ⊤) (e : Fin H) :
    ∑ k : Fin n, a k * (if k.1 / 64 = e.1 then b else 0) = (∑ d : Fin 64, a ⟨64 * e.1 + d.1, by omega⟩) * b := by
  have hs : (∑ d : Fin 64, a ⟨64 * e.1 + d.1, by omega⟩) * b = ∑ d : Fin 64, a ⟨64 * e.1 + d.1, by omega⟩ * b :=
    sum_mul_of_nonneg _ _ h0 ht
  rw [hs]
  let emb : Fin 64 ↪ Fin n := ⟨fun d => ⟨64 * e.1 + d.1, by omega⟩, fun x y h => Fin.ext (by
    have := congrArg Fin.val h
    dsimp only at this
    omega)⟩
  have hi : ∑ d : Fin 64, a ⟨64 * e.1 + d.1, by omega⟩ * b
      = ∑ k ∈ Finset.univ.map emb, a k * (if k.1 / 64 = e.1 then b else 0) := by
    rw [Finset.sum_map]
    refine Finset.sum_congr rfl fun d _ => ?_
    show _ = a ⟨64 * e.1 + d.1, _⟩ * (if (64 * e.1 + d.1) / 64 = e.1 then b else 0)
    rw [if_pos (by omega)]
  rw [hi]
  symm
  refine Finset.sum_subset (Finset.subset_univ _) fun k _ hk => ?_
  rw [if_neg, mul_zero]
  intro h
  refine hk (Finset.mem_map.2 ⟨⟨k.1 % 64, by omega⟩, Finset.mem_univ _, Fin.ext ?_⟩)
  show 64 * e.1 + k.1 % 64 = k.1
  omega

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

/-- The mean of one head's squares. -/
theorem head_mean {H n : ℕ} (hn : n = 64 * H) (a : Fin n → EReal) (e : Fin H) :
    ∑ k : Fin n, a k * (if k.1 / 64 = e.1 then Ideal.ofBits .f32 0x3C800000#32 else 0)
      = Ideal.div (∑ d : Fin 64, a ⟨64 * e.1 + d.1, by omega⟩) (Ideal.ofBits .f32 0x42800000#32) := by
  rw [ofBits_64th, head_sum hn a (EReal.coe_nonneg.mpr (by norm_num)) (EReal.coe_ne_top _), ofBits_64,
    Ideal.div_coe (by norm_num)]

/-- The matrix of the means. -/
def Means (bd : FVec Ideal S256x256 .bf16) : Prop :=
  ∀ k l : Fin 256, bd (ix2 k l) = if k.1 / 64 = l.1 / 64 then Ideal.ofBits .f32 0x3C800000#32 else 0

theorem Means.at {bd : FVec Ideal S256x256 .bf16} (hb : Means bd) (k l : Fin 256) (e : ℕ) (he : l.1 / 64 = e) :
    bd (ix2 k l) = if k.1 / 64 = e then Ideal.ofBits .f32 0x3C800000#32 else 0 := by
  rw [hb, he]

theorem normK_apply {bd : FVec Ideal S256x256 .bf16} (hb : Means bd) (z : FVec Ideal S128x1536 .f32) (g : Vec Ideal S1x128 .f32)
    (G : Fin 64 → EReal) (hg : ∀ l : Fin 128, g (ix2 0 l) = G ⟨l.1 % 64, by omega⟩) (r : Fin 128) (h : Fin 2) (d : Fin 64) :
    normK bd z g (ix2 r ⟨64 * h.1 + d.1, by omega⟩) = meanNorm (heads 768 (by omega) (fun k => z (ix2 r k)) h) G d := by
  unfold normK meanNorm heads
  pointwise
  refine congrArg₂ (· * ·) (congrArg (fun m => z (ix2 r ⟨768 + (64 * h.1 + d.1), _⟩) * Ideal.rsqrt (m + _)) ?_)
    ((hg _).trans (congrArg G (Fin.ext (by dsimp only; omega))))
  exact (Finset.sum_congr rfl fun k _ => congrArg _ (hb.at _ _ h.1 (by dsimp only; omega))).trans
    (head_mean (n := 128) rfl (fun k => z (ix2 r ⟨768 + k.1, by omega⟩) * z (ix2 r ⟨768 + k.1, by omega⟩)) h)

theorem normQ_apply {bd : FVec Ideal S256x256 .bf16} (hb : Means bd) (z : FVec Ideal S128x1536 .f32) (g : Vec Ideal S1x512 .f32)
    (G : Fin 64 → EReal) (hg : ∀ l : Fin 512, g (ix2 0 l) = G ⟨l.1 % 64, by omega⟩) (r : Fin 128) (h : Fin 8) (d : Fin 64) :
    normQ bd z g (ix2 r ⟨64 * h.1 + d.1, by omega⟩) = meanNorm (heads 256 (by omega) (fun k => z (ix2 r k)) h) G d := by
  unfold normQ meanNorm heads
  pointwise
  refine congrArg₂ (· * ·) (congrArg (fun m => z (ix2 r ⟨256 + (64 * h.1 + d.1), _⟩) * Ideal.rsqrt (m + _)) ?_)
    ((hg _).trans (congrArg G (Fin.ext (by dsimp only; omega))))
  by_cases h0 : 64 * h.1 + d.1 < 256
  · rw [dif_pos h0]
    exact (Finset.sum_congr rfl fun k _ => congrArg _ (hb.at _ _ h.1 (by dsimp only; omega))).trans
      (head_mean (n := 256) (H := 4) rfl (fun k => z (ix2 r ⟨256 + k.1, by omega⟩) * z (ix2 r ⟨256 + k.1, by omega⟩)) ⟨h.1, by omega⟩)
  · rw [dif_neg h0]
    refine (Finset.sum_congr rfl fun k _ => congrArg _ (hb.at _ _ (h.1 - 4) (by dsimp only; omega))).trans
      ((head_mean (n := 256) (H := 4) rfl
        (fun k => z (ix2 r ⟨256 + (256 + k.1), by omega⟩) * z (ix2 r ⟨256 + (256 + k.1), by omega⟩)) ⟨h.1 - 4, by omega⟩).trans ?_)
    refine congrArg (fun m => Ideal.div m _) (Finset.sum_congr rfl fun k _ => ?_)
    exact congrArg (fun j => z (ix2 r j) * z (ix2 r j)) (Fin.ext (by dsimp only; omega))

end Cert.InprojIdeal.Body
-- ==== Proof.Inproj.Lanes.lean ====
module

public import proofs.«01_k».proof.Proof.Inproj.Body

/-!
# The rotation by lanes, read at a lane

Two heads lie side by side in 128 lanes. A lane's partner is its neighbour inside its pair.
-/

@[expose] public section

noncomputable section

namespace Cert.InprojIdeal.Body

open Idealize.ShloMosaic Cert.InprojIdeal.Gen Cert.Rope Cert.Mix Cert.Common

theorem halfRest_apply (r l : Fin 128) : halfRest (ix2 r l) = IntOp.remsi .vector (BitVec.ofNat 32 l.1) 2#32 := by
  unfold halfRest
  pointwise
  rfl

theorem even_word : ∀ l : Fin 128, Scalar.cmpi .eq (Scalar.select
      (IntOp.andi (IntOp.xori (IntOp.cmpi .slt (IntOp.remsi .vector (BitVec.ofNat 32 l.1) 2#32) 0#32) 0#1)
        (IntOp.cmpi .ne (IntOp.remsi .vector (BitVec.ofNat 32 l.1) 2#32) 0#32))
      (IntOp.addi (IntOp.remsi .vector (BitVec.ofNat 32 l.1) 2#32) 2#32)
      (IntOp.remsi .vector (BitVec.ofNat 32 l.1) 2#32)) 0#32 = if l.1 % 2 = 0 then 1#1 else 0#1 := by
  decide

theorem evenLane_apply (r l : Fin 128) : evenLane (ix2 r l) = if l.1 % 2 = 0 then 1#1 else 0#1 := by
  refine Eq.trans ?_ (even_word l)
  rw [← halfRest_apply r l]
  rfl

theorem turn_apply (y c s : FVec Ideal S128x128 .f32) (r l : Fin 128) :
    turn y c s (ix2 r l) = y (ix2 r l) * c (ix2 r l)
      + (if l.1 % 2 = 0 then y (ix2 r ⟨(l.1 + 1) % 128, by omega⟩) else y (ix2 r ⟨(l.1 + 127) % 128, by omega⟩)) * s (ix2 r l) := by
  unfold turn
  pointwise
  rw [evenLane_apply]
  split_ifs
  · rfl
  · rfl

/-- Rotated tables agree with the angles `C` and `S` of one row. -/
structure Angles (c s : FVec Ideal S128x128 .f32) (C S : Fin 32 → EReal) (r : Fin 128) : Prop where
  hc : ∀ l : Fin 128, c (ix2 r l) = C ⟨l.1 % 64 / 2, by omega⟩
  hs : ∀ l : Fin 128, s (ix2 r l) = S ⟨l.1 % 64 / 2, by omega⟩ * (if l.1 % 2 = 0 then -1 else 1)

/-- Head `e` of the two, at its column `d`. -/
theorem turn_head {y c s : FVec Ideal S128x128 .f32} {C S : Fin 32 → EReal} {r : Fin 128} (h : Angles c s C S r)
    (e : Fin 2) (d : Fin 64) (u : Fin 64 → EReal) (hu : ∀ k : Fin 64, y (ix2 r ⟨64 * e.1 + k.1, by omega⟩) = u k)
    (l : Fin 128) (hl : l.1 = 64 * e.1 + d.1) :
    turn y c s (ix2 r l) = rotate C S u d := by
  have hl' : l = ⟨64 * e.1 + d.1, by omega⟩ := Fin.ext hl
  have hi : (⟨l.1 % 64 / 2, by omega⟩ : Fin 32) = ⟨d.1 / 2, by omega⟩ := Fin.ext (by dsimp only; omega)
  have hy : y (ix2 r l) = u d := (congrArg (fun k => y (ix2 r k)) hl').trans (hu d)
  rw [turn_apply, h.hc, h.hs, hy, hi]
  unfold rotate
  by_cases hd : d.1 % 2 = 0
  · have hp : l.1 % 2 = 0 := by omega
    have hk : (⟨(l.1 + 1) % 128, by omega⟩ : Fin 128) = ⟨64 * e.1 + ((d.1 + 1) % 64), by omega⟩ :=
      Fin.ext (by dsimp only; omega)
    rw [if_pos hd, if_pos hp, if_pos hp, hk, hu ⟨(d.1 + 1) % 64, by omega⟩, mul_neg, mul_one, mul_neg, sub_eq_add_neg]
  · have hp : ¬ l.1 % 2 = 0 := by omega
    have hk : (⟨(l.1 + 127) % 128, by omega⟩ : Fin 128) = ⟨64 * e.1 + (d.1 - 1), by omega⟩ :=
      Fin.ext (by dsimp only; omega)
    rw [if_neg hd, if_neg hp, if_neg hp, hk, hu ⟨d.1 - 1, by omega⟩, mul_one, add_comm]

/-- Two heads of a wider array rotated: the slice that starts at head `2 j`. -/
theorem turn_slice {n : ℕ} (y : FVec Ideal ⟨2, ![128, n]⟩ .f32) {c s : FVec Ideal S128x128 .f32} {C S : Fin 32 → EReal} {r : Fin 128}
    (h : Angles c s C S r) (o : ℕ) (hsl : (⟨2, ![128, n]⟩ : Shape).Slices ![0, o] S128x128) (g : ℕ) (hg : 64 * g + 64 ≤ n) (d : Fin 64)
    (e : Fin 2) (he : 64 * g = o + 64 * e.1) (l : Fin 128) (hl : l.1 = 64 * e.1 + d.1) :
    turn (extractStridedSlice S128x128 ![0, o] y hsl) c s (ix2 r l) = rotate C S (fun k => y (ix2 r ⟨64 * g + k.1, by omega⟩)) d := by
  refine turn_head h e d _ (fun k => ?_) l hl
  refine extractStridedSlice_apply _ _ _ _ _ fun a => ?_
  match a with
  | ⟨0, _⟩ => show r.1 = 0 + r.1
              omega
  | ⟨1, _⟩ => show 64 * g + k.1 = o + (64 * e.1 + k.1)
              omega

theorem turn4_apply (y : FVec Ideal S128x256 .f32) {c s : FVec Ideal S128x128 .f32} {C S : Fin 32 → EReal} {r : Fin 128}
    (h : Angles c s C S r) (g : Fin 4) (d : Fin 64) :
    turn4 y c s (ix2 r ⟨64 * g.1 + d.1, by omega⟩) = rotate C S (fun k => y (ix2 r ⟨64 * g.1 + k.1, by omega⟩)) d := by
  unfold turn4
  pointwise
  by_cases h0 : 64 * g.1 + d.1 < 128
  · rw [dif_pos h0]
    exact turn_slice y h 0 _ g.1 (by omega) d ⟨g.1, by omega⟩ (by dsimp only; omega) _ (by dsimp only)
  · rw [dif_neg h0]
    exact turn_slice y h 128 _ g.1 (by omega) d ⟨g.1 - 2, by omega⟩ (by dsimp only; omega) _ (by dsimp only; omega)

theorem turn8_apply (y : FVec Ideal S128x512 .f32) {c s : FVec Ideal S128x128 .f32} {C S : Fin 32 → EReal} {r : Fin 128}
    (h : Angles c s C S r) (g : Fin 8) (d : Fin 64) :
    turn8 y c s (ix2 r ⟨64 * g.1 + d.1, by omega⟩) = rotate C S (fun k => y (ix2 r ⟨64 * g.1 + k.1, by omega⟩)) d := by
  unfold turn8
  pointwise
  by_cases h0 : 64 * g.1 + d.1 < 128
  · rw [dif_pos h0]
    exact turn_slice y h 0 _ g.1 (by omega) d ⟨g.1, by omega⟩ (by dsimp only; omega) _ (by dsimp only)
  · rw [dif_neg h0]
    by_cases h1 : 64 * g.1 + d.1 - 128 < 128
    · rw [dif_pos h1]
      exact turn_slice y h 128 _ g.1 (by omega) d ⟨g.1 - 2, by omega⟩ (by dsimp only; omega) _ (by dsimp only; omega)
    · rw [dif_neg h1]
      by_cases h2 : 64 * g.1 + d.1 - 128 - 128 < 128
      · rw [dif_pos h2]
        exact turn_slice y h 256 _ g.1 (by omega) d ⟨g.1 - 4, by omega⟩ (by dsimp only; omega) _ (by dsimp only; omega)
      · rw [dif_neg h2]
        exact turn_slice y h 384 _ g.1 (by omega) d ⟨g.1 - 6, by omega⟩ (by dsimp only; omega) _ (by dsimp only; omega)

/-! ## The layout of the heads -/

theorem lay2_apply (b : BitVec 32) (y : FVec Ideal S128x128 .f32) (r : Fin 128) (c : Fin 256) :
    lay2 b y (ix3 0 r c) = laid b (H := 2) rfl (fun h d => y (ix2 r ⟨64 * h.1 + d.1, by omega⟩)) c := by
  unfold lay2 laid
  by_cases h : c.1 % 128 < 64
  · rw [dif_pos h]
    pointwise
    split_ifs <;> first
      | (exfalso; omega)
      | exact congrArg (fun k => y (ix2 r k)) (Fin.ext (by first | omega | (dsimp only; omega)))
  · rw [dif_neg h]
    pointwise
    split_ifs <;> first
      | (exfalso; omega)
      | rfl

theorem lay4_apply (y : FVec Ideal S128x256 .f32) (r : Fin 128) (c : Fin 512) :
    lay4 y (ix3 0 r c) = laid 0x00000000#32 (H := 4) rfl (fun h => eighth fun d => y (ix2 r ⟨64 * h.1 + d.1, by omega⟩)) c := by
  unfold lay4 laid eighth
  by_cases h : c.1 % 128 < 64
  · rw [dif_pos h]
    pointwise
    split_ifs <;> first
      | (exfalso; omega)
      | exact congrArg (fun k => y (ix2 r k) * Ideal.ofBits .f32 0x3E000000#32) (Fin.ext (by first | omega | (dsimp only; omega)))
  · rw [dif_neg h]
    pointwise
    split_ifs <;> first
      | (exfalso; omega)
      | rfl

/-- Eight blocks of 64 lanes, each followed by the filler `o`, as a list of pieces. -/
abbrev spaced (a : Fin 8 → S128x64.Idx → EReal) (o : S128x64.Idx → EReal) : List ((s : Shape) × (s.Idx → EReal)) :=
  [⟨S128x64, a 0⟩, ⟨S128x64, o⟩, ⟨S128x64, a 1⟩, ⟨S128x64, o⟩, ⟨S128x64, a 2⟩, ⟨S128x64, o⟩, ⟨S128x64, a 3⟩, ⟨S128x64, o⟩,
    ⟨S128x64, a 4⟩, ⟨S128x64, o⟩, ⟨S128x64, a 5⟩, ⟨S128x64, o⟩, ⟨S128x64, a 6⟩, ⟨S128x64, o⟩, ⟨S128x64, a 7⟩, ⟨S128x64, o⟩]

theorem spaced_block (a : Fin 8 → S128x64.Idx → EReal) (o : S128x64.Idx → EReal)
    (h : Shape.Concatenates ((spaced a o).map (·.1)) S128x1024 1) (g : Fin 8) (r : Fin 128) (d : Fin 64) :
    concatenate S128x1024 1 (spaced a o) h (ix2 r ⟨128 * g.1 + d.1, by omega⟩) = a g (ix2 r d) := by
  refine concatenate_apply_piece 1 _ h _ (2 * g.1) (by simp; omega) S128x64 (a g) ?_ rfl (128 * g.1) ?_ (ix2 r d) ?_ rfl
  · fin_cases g <;> rfl
  · rw [List.map_take, show (spaced a o).map (·.1) = List.replicate 16 S128x64 from rfl, List.take_replicate, List.map_replicate,
      List.sum_replicate]
    show min _ 16 * 64 = _
    omega
  · intro b hb
    fin_cases b
    · rfl
    · exact absurd rfl hb

theorem spaced_filler (a : Fin 8 → S128x64.Idx → EReal) (o : S128x64.Idx → EReal)
    (h : Shape.Concatenates ((spaced a o).map (·.1)) S128x1024 1) (g : Fin 8) (r : Fin 128) (d : Fin 64) :
    concatenate S128x1024 1 (spaced a o) h (ix2 r ⟨128 * g.1 + 64 + d.1, by omega⟩) = o (ix2 r d) := by
  refine concatenate_apply_piece 1 _ h _ (2 * g.1 + 1) (by simp; omega) S128x64 o ?_ rfl (128 * g.1 + 64) ?_ (ix2 r d) ?_ rfl
  · fin_cases g <;> rfl
  · rw [List.map_take, show (spaced a o).map (·.1) = List.replicate 16 S128x64 from rfl, List.take_replicate, List.map_replicate,
      List.sum_replicate]
    show min _ 16 * 64 = _
    omega
  · intro b hb
    fin_cases b
    · rfl
    · exact absurd rfl hb

theorem slices_head (g : Fin 8) : S128x512.Slices ![0, 64 * g.1] S128x64 := by
  fin_cases g
  exacts [slices_S128x512_o0_0_S128x64, slices_S128x512_o0_64_S128x64, slices_S128x512_o0_128_S128x64, slices_S128x512_o0_192_S128x64,
    slices_S128x512_o0_256_S128x64, slices_S128x512_o0_320_S128x64, slices_S128x512_o0_384_S128x64, slices_S128x512_o0_448_S128x64]

/-- The 64 lanes of head `g`. -/
abbrev headOf (q : S128x512.Idx → EReal) (g : Fin 8) : S128x64.Idx → EReal :=
  extractStridedSlice S128x64 ![0, 64 * g.1] q (slices_head g)

theorem headOf_apply (q : S128x512.Idx → EReal) (g : Fin 8) (r : Fin 128) (d : Fin 64) :
    headOf q g (ix2 r d) = q (ix2 r ⟨64 * g.1 + d.1, by omega⟩) := by
  refine extractStridedSlice_apply _ _ _ _ _ fun a => ?_
  match a with
  | ⟨0, _⟩ => exact (Nat.zero_add r.1).symm
  | ⟨1, _⟩ => rfl

theorem lift1024 (y : S128x1024.Idx → EReal) (r : Fin 128) (c : Fin 1024) :
    shapeCast S1x128x1024 y shapeCasts_S128x1024_S1x128x1024 (ix3 0 r c) = y (ix2 r c) := by
  pointwise

theorem lay8_apply (y : FVec Ideal S128x512 .f32) (r : Fin 128) (c : Fin 1024) :
    lay8 y (ix3 0 r c) = laid 0x00000000#32 (H := 8) rfl (fun h => eighth fun d => y (ix2 r ⟨64 * h.1 + d.1, by omega⟩)) c := by
  show shapeCast S1x128x1024 (concatenate S128x1024 1 (spaced (headOf fun i => y i * Ideal.ofBits .f32 0x3E000000#32)
    fun _ => Ideal.ofBits .f32 0x00000000#32) concatenates_S128x64_S128x64_S128x64_S128x64_S128x64_S128x64_S128x64_S128x64_S128x64_S128x64_S128x64_S128x64_S128x64_S128x64_S128x64_S128x64_S128x1024_d1)
    shapeCasts_S128x1024_S1x128x1024 (ix3 0 r c) = _
  rw [lift1024]
  unfold laid
  by_cases h : c.1 % 128 < 64
  · rw [dif_pos h]
    have e : c = ⟨128 * (c.1 / 128) + c.1 % 128, by omega⟩ := Fin.ext (by dsimp only; omega)
    refine (congrArg (fun k => concatenate S128x1024 1 _ _ (ix2 r k)) e).trans ?_
    refine (spaced_block _ _ _ ⟨c.1 / 128, by omega⟩ r ⟨c.1 % 128, h⟩).trans ((headOf_apply _ _ r _).trans ?_)
    unfold eighth
    refine congrArg (fun k => y (ix2 r k) * Ideal.ofBits .f32 0x3E000000#32) (Fin.ext ?_)
    dsimp only
  · rw [dif_neg h]
    have e : c = ⟨128 * (c.1 / 128) + 64 + (c.1 % 128 - 64), by omega⟩ := Fin.ext (by dsimp only; omega)
    refine (congrArg (fun k => concatenate S128x1024 1 _ _ (ix2 r k)) e).trans ?_
    exact spaced_filler _ _ _ ⟨c.1 / 128, by omega⟩ r ⟨c.1 % 128 - 64, by omega⟩

end Cert.InprojIdeal.Body
-- ==== Proof.Inproj.Out.lean ====
module

public import proofs.«01_k».proof.Proof.Inproj.Chunk
public import proofs.«01_k».proof.Proof.Inproj.Heads
public import proofs.«01_k».proof.Proof.Inproj.Lanes

/-!
# The stores of one grid step are the formulas

Eight chunks of 128 tokens, all stored by the same operations at their own offset. One lemma about
a chunk at any offset serves the eight of them.
-/

@[expose] public section

noncomputable section

namespace Cert.InprojIdeal.Body

open Idealize.ShloMosaic Cert.InprojIdeal.Gen Cert.Rope Cert.Common

section Row

variable {t : Token} {w : Weights} {r : Fin 128} {z : FVec Ideal S128x1536 .f32} {c s : FVec Ideal S128x128 .f32}

/-- A slice of the projected columns. -/
theorem slice_at (hz : (fun k => z (ix2 r k)) = columns t w) {n : ℕ} (o : ℕ)
    (h : S128x1536.Slices ![0, o] ⟨2, ![128, n]⟩) (l : Fin n) (hl : o + l.1 < 1536) :
    extractStridedSlice ⟨2, ![128, n]⟩ ![0, o] z h (ix2 r l) = columns t w ⟨o + l.1, hl⟩ := by
  refine Eq.trans (extractStridedSlice_apply _ _ _ _ (ix2 r ⟨o + l.1, hl⟩) fun a => ?_) (congrFun hz _)
  match a with
  | ⟨0, _⟩ => exact (Nat.zero_add r.1).symm
  | ⟨1, _⟩ => rfl

theorem fcsOf_at (hz : (fun k => z (ix2 r k)) = columns t w) (cd : Vec Ideal S256x512 .f32) (hd : ∀ k f, cd (ix2 k f) = w.dft k f)
    (l : Fin 512) : fcsOf z cd (ix3 0 r l) = fcs t w l := by
  rw [fcsOf_apply]
  unfold fcs
  rw [← hz, show (fun k f => cd (ix2 k f)) = w.dft from funext fun k => funext fun f => hd k f]

theorem qOf_at (hz : (fun k => z (ix2 r k)) = columns t w) (ha : Angles c s t.cos t.sin r) {bd : FVec Ideal S256x256 .bf16}
    (hb : Means bd) (g : Vec Ideal S1x512 .f32) (hg : ∀ l : Fin 512, g (ix2 0 l) = w.qn ⟨l.1 % 64, by omega⟩) (l : Fin 1024) :
    qOf bd z g c s (ix3 0 r l) = qg t w l := by
  unfold qOf qg
  rw [lay8_apply]
  refine congrArg (fun u => laid _ (n := 1024) (H := 8) rfl u l) (funext fun h => congrArg eighth (funext fun d => (turn8_apply _ ha h d).trans ?_))
  refine congrArg (fun u => rotate t.cos t.sin u d) (funext fun k => (normQ_apply hb z g w.qn hg r h k).trans ?_)
  rw [hz]

theorem kOf_at (hz : (fun k => z (ix2 r k)) = columns t w) (ha : Angles c s t.cos t.sin r) {bd : FVec Ideal S256x256 .bf16}
    (hb : Means bd) (g : Vec Ideal S1x128 .f32) (hg : ∀ l : Fin 128, g (ix2 0 l) = w.kn ⟨l.1 % 64, by omega⟩) (l : Fin 256) :
    kOf bd z g c s (ix3 0 r l) = kg t w l := by
  unfold kOf kg
  rw [lay2_apply]
  refine congrArg (fun u => laid _ (n := 256) (H := 2) rfl u l) (funext fun h => funext fun d =>
    turn_head ha h d (meanNorm (heads 768 (by omega) (columns t w) h) w.kn) (fun k => (normK_apply hb z g w.kn hg r h k).trans ?_) _ rfl)
  rw [hz]

theorem vOf_at (hz : (fun k => z (ix2 r k)) = columns t w) (l : Fin 256) : vOf z (ix3 0 r l) = vg t w l := by
  unfold vOf vg
  rw [lay2_apply]
  exact congrArg (fun u => laid _ (n := 256) (H := 2) rfl u l) (funext fun h => funext fun d => slice_at hz 896 _ _ _)

theorem vwOf_at (hz : (fun k => z (ix2 r k)) = columns t w) (l : Fin 256) : vwOf z (ix3 0 r l) = vw t w l := by
  unfold vwOf vw
  rw [lay2_apply]
  exact congrArg (fun u => laid _ (n := 256) (H := 2) rfl u l) (funext fun h => funext fun d => slice_at hz 1408 _ _ _)

theorem qwOf_at (hz : (fun k => z (ix2 r k)) = columns t w) (ha : Angles c s t.cos t.sin r) (l : Fin 512) :
    qwOf z c s (ix3 0 r l) = qw t w l := by
  unfold qwOf qw
  rw [lay4_apply]
  refine congrArg (fun u => laid _ (n := 512) (H := 4) rfl u l) (funext fun h => congrArg eighth (funext fun d => (turn4_apply _ ha h d).trans ?_))
  exact congrArg (fun u => rotate t.cos t.sin u d) (funext fun k => slice_at hz 1024 _ _ _)

theorem kwOf_at (hz : (fun k => z (ix2 r k)) = columns t w) (ha : Angles c s t.cos t.sin r) (l : Fin 256) :
    kwOf z c s (ix3 0 r l) = kw t w l := by
  unfold kwOf kw
  rw [lay2_apply]
  exact congrArg (fun u => laid _ (n := 256) (H := 2) rfl u l) (funext fun h => funext fun d =>
    turn_head ha h d (heads 1280 (by omega) (columns t w) h) (fun k => slice_at hz 1280 _ _ _) _ rfl)

end Row

/-! ## A chunk at any offset -/

theorem emb_rows {n : ℕ} (o : ℕ) (inb : ∀ a, (![0, o, 0] : Fin 3 → ℕ) a + (![1, 128, n] : Fin 3 → ℕ) a ≤ (⟨3, ![1, 1024, n]⟩ : Shape).size a)
    (r : Fin 128) (l : Fin n) (hr : o + r.1 < 1024) :
    (Rect.unit (s := ⟨3, ![1, 1024, n]⟩) ![0, o, 0] ![1, 128, n] inb).emb (ix3 0 r l) = ix3 0 ⟨o + r.1, hr⟩ l := by
  funext a
  apply Fin.ext
  match a with
  | ⟨0, _⟩ => rfl
  | ⟨1, _⟩ => show o + 1 * r.1 = o + r.1
              omega
  | ⟨2, _⟩ => show 0 + 1 * l.1 = l.1
              omega

theorem emb_plane (o : ℕ) (inb : ∀ a, (![o, 0] : Fin 2 → ℕ) a + S128x128.size a ≤ S1024x128.size a)
    (r l : Fin 128) (hr : o + r.1 < 1024) :
    (Rect.unit (s := S1024x128) ![o, 0] S128x128.size inb).emb (ix2 r l) = ix2 ⟨o + r.1, hr⟩ l := by
  funext a
  apply Fin.ext
  match a with
  | ⟨0, _⟩ => show o + 1 * r.1 = o + r.1
              omega
  | ⟨1, _⟩ => show 0 + 1 * l.1 = l.1
              omega

/-- An equation at every index of a block of one batch entry. -/
theorem of_ix3 {n k : ℕ} {f g : (⟨3, ![1, n, k]⟩ : Shape).Idx → EReal} (h : ∀ a b, f (ix3 0 a b) = g (ix3 0 a b)) (i) : f i = g i := by
  have e : i = ix3 0 (i 1) (i 2) := (eq_ix3 i).trans (congrArg (fun z => ix3 z (i 1) (i 2)) (Subsingleton.elim _ _))
  rw [e]
  exact h _ _

theorem rows_inb {n o : ℕ} (ho : o + 128 ≤ 1024) :
    ∀ a, (![0, o, 0] : Fin 3 → ℕ) a + (![1, 128, n] : Fin 3 → ℕ) a ≤ (⟨3, ![1, 1024, n]⟩ : Shape).size a
  | ⟨0, _⟩ => Nat.le_refl 1
  | ⟨1, _⟩ => ho
  | ⟨2, _⟩ => (Nat.zero_add n).le

theorem plane_inb {o : ℕ} (ho : o + 128 ≤ 1024) : ∀ a, (![o, 0] : Fin 2 → ℕ) a + S128x128.size a ≤ S1024x128.size a
  | ⟨0, _⟩ => ho
  | ⟨1, _⟩ => Nat.le_refl 128

/-- A chunk's store holds the rows of `G` it covers. -/
theorem piece_at {n : ℕ} (G : Fin 1024 → Fin n → EReal) (o : ℕ)
    (ho : o + 128 ≤ 1024) (y : (⟨3, ![1, 128, n]⟩ : Shape).Idx → EReal)
    (hy : ∀ (r : Fin 128) (l : Fin n), y (ix3 0 r l) = G ⟨o + r.1, by omega⟩ l) (j : (⟨3, ![1, 128, n]⟩ : Shape).Idx) :
    y j = (fun i : (⟨3, ![1, 1024, n]⟩ : Shape).Idx => G (i 1) (i 2)) ((Rect.unit (s := ⟨3, ![1, 1024, n]⟩) ![0, o, 0] ![1, 128, n] (rows_inb ho)).emb j) := by
  refine of_ix3 (g := fun j => (fun i : (⟨3, ![1, 1024, n]⟩ : Shape).Idx => G (i 1) (i 2)) ((Rect.unit (s := ⟨3, ![1, 1024, n]⟩) ![0, o, 0] ![1, 128, n] (rows_inb ho)).emb j))
    (fun r l => (hy r l).trans ?_) j
  rw [emb_rows o _ r l (by omega)]
  rfl

theorem zero2 : (![0, 0] : Fin 2 → Nat) = fun _ => 0 := by funext a; fin_cases a <;> rfl
theorem zero3 : (![0, 0, 0] : Fin 3 → Nat) = fun _ => 0 := by funext a; fin_cases a <;> rfl

theorem ld_0 (x : Vec Ideal S256x256 .bf16) : View.ld x r0_0 = x := View.ld_unit_zero zero2 _ x
theorem ld_2 (x : Vec Ideal S1x1024 .f32) : View.ld x r0_2 = x := View.ld_unit_zero zero2 _ x
theorem ld_3 (x : Vec Ideal S1x1x1024 .f32) : View.ld x r0_3 = x := View.ld_unit_zero zero3 _ x
theorem ld_4 (x : Vec Ideal S1024x1536 .bf16) : View.ld x r0_4 = x := View.ld_unit_zero zero2 _ x
theorem ld_6 (x : Vec Ideal S256x512 .f32) : View.ld x r0_6 = x := View.ld_unit_zero zero2 _ x
theorem ld_8 (x : Vec Ideal S1x512 .f32) : View.ld x r0_8 = x := View.ld_unit_zero zero2 _ x
theorem ld_9 (x : Vec Ideal S1x128 .f32) : View.ld x r0_9 = x := View.ld_unit_zero zero2 _ x

/-- The blocks of one step hold the tokens `T` and the weights `W`. -/
structure Fits (T : Fin 1024 → Token) (W : Weights) (x0 : Vec Ideal S1x1024x1024 .f32) (x1 x2 : Vec Ideal S1x1x1024 .f32)
    (x3 : Vec Ideal S1x1024 .f32) (x4 : Vec Ideal S1024x1536 .bf16) (x5 x6 : Vec Ideal S1024x128 .f32) (x7 : Vec Ideal S256x256 .bf16)
    (x8 : Vec Ideal S256x512 .f32) (x9 : Vec Ideal S1x512 .f32) (x10 : Vec Ideal S1x128 .f32) : Prop where
  x : ∀ r k, x0 (ix3 0 r k) = (T r).x k
  sh : ∀ r k, x1 (ix3 0 0 k) = (T r).sh k
  sc : ∀ r k, x2 (ix3 0 0 k) = (T r).sc k
  n1 : ∀ k, x3 (ix2 0 k) = W.n1 k
  mix : ∀ k f, x4 (ix2 k f) = W.mix k f
  cos : ∀ (r : Fin 1024) (l : Fin 128), x5 (ix2 r l) = (T r).cos ⟨l.1 % 64 / 2, by omega⟩
  sin : ∀ (r : Fin 1024) (l : Fin 128), x6 (ix2 r l) = (T r).sin ⟨l.1 % 64 / 2, by omega⟩ * (if l.1 % 2 = 0 then -1 else 1)
  means : Means x7
  dft : ∀ k f, x8 (ix2 k f) = W.dft k f
  qn : ∀ l : Fin 512, x9 (ix2 0 l) = W.qn ⟨l.1 % 64, by omega⟩
  kn : ∀ l : Fin 128, x10 (ix2 0 l) = W.kn ⟨l.1 % 64, by omega⟩

section Step

variable {T : Fin 1024 → Token} {W : Weights} {x0 : Vec Ideal S1x1024x1024 .f32} {x1 x2 : Vec Ideal S1x1x1024 .f32}
  {x3 : Vec Ideal S1x1024 .f32} {x4 : Vec Ideal S1024x1536 .bf16} {x5 x6 : Vec Ideal S1024x128 .f32} {x7 : Vec Ideal S256x256 .bf16}
  {x8 : Vec Ideal S256x512 .f32} {x9 : Vec Ideal S1x512 .f32} {x10 : Vec Ideal S1x128 .f32}
  (F : Fits T W x0 x1 x2 x3 x4 x5 x6 x7 x8 x9 x10)

include F

/-- The projected columns of the token in row `o + r`. -/
theorem cols_at (o : ℕ) (ho : o + 128 ≤ 1024) (r : Fin 128) (hr : o + r.1 < 1024) :
    (fun k => zat x1 x2 x3 x4 (View.ld x0 (Rect.unit (s := S1x1024x1024) ![0, o, 0] S1x128x1024.size (rows_inb ho))) (ix2 r k)) = columns (T ⟨o + r.1, hr⟩) W := by
  funext k
  rw [zat, zed_apply, ld_2, ld_3, ld_3, ld_4]
  unfold columns
  have hx : (fun k => View.ld x0 (Rect.unit (s := S1x1024x1024) ![0, o, 0] S1x128x1024.size (rows_inb ho)) (ix3 0 r k)) = (T ⟨o + r.1, hr⟩).x :=
    funext fun k => (congrArg x0 (emb_rows (n := 1024) o _ r k hr)).trans (F.x _ k)
  rw [hx, show (fun k => x3 (ix2 0 k)) = W.n1 from funext F.n1, show (fun k => x1 (ix3 0 0 k)) = (T ⟨o + r.1, hr⟩).sh from funext (F.sh _),
    show (fun k => x2 (ix3 0 0 k)) = (T ⟨o + r.1, hr⟩).sc from funext (F.sc _),
    show (fun k f => x4 (ix2 k f)) = W.mix from funext fun k => funext fun f => F.mix k f]

/-- The angles of the token in row `o + r`. -/
theorem angles_at (o : ℕ) (ho : o + 128 ≤ 1024) (r : Fin 128) (hr : o + r.1 < 1024) :
    Angles (sq128 (View.ld x5 (Rect.unit (s := S1024x128) ![o, 0] S128x128.size (plane_inb ho)))) (sq128 (View.ld x6 (Rect.unit (s := S1024x128) ![o, 0] S128x128.size (plane_inb ho))))
      (T ⟨o + r.1, hr⟩).cos (T ⟨o + r.1, hr⟩).sin r := by
  rw [sq128, sq128, shapeCast_self, shapeCast_self]
  exact ⟨fun l => (congrArg x5 (emb_plane o _ r l hr)).trans (F.cos _ l), fun l => (congrArg x6 (emb_plane o _ r l hr)).trans (F.sin _ l)⟩

theorem means_at : Means (sq256 (View.ld x7 r0_0)) := by
  rw [sq256, shapeCast_self, ld_0]
  exact F.means

theorem dft_at (k : Fin 256) (f : Fin 512) : View.ld x8 r0_6 (ix2 k f) = W.dft k f := by
  rw [ld_6]
  exact F.dft k f

theorem qn_at (l : Fin 512) : row512 (View.ld x9 r0_8) (ix2 0 l) = W.qn ⟨l.1 % 64, by omega⟩ := by
  rw [row512, shapeCast_self, ld_8]
  exact F.qn l

theorem kn_at (l : Fin 128) : row128 (View.ld x10 r0_9) (ix2 0 l) = W.kn ⟨l.1 % 64, by omega⟩ := by
  rw [row128, shapeCast_self, ld_9]
  exact F.kn l

/-- The channel transform of a step. -/
theorem out11_apply (r : Fin 1024) (d : Fin 512) :
    out0_11 x0 x1 x2 x3 x4 x5 x6 x7 x8 x9 x10 (ix3 0 r d) = fcs (T r) W d := by
  rw [out11_eq]
  refine View.canon_apply_of_pieces (Val := Elt Ideal) (S := S1x1024x512) (fun i => fcs (T (i 1)) W (i 2)) _ ?_ (ix3 0 r d)
    (cover0_11 _ _ _ _ _ _ _ _ _)
  intro p hp
  simp only [List.mem_cons, List.not_mem_nil, or_false] at hp
  rcases hp with rfl | rfl | rfl | rfl | rfl | rfl | rfl | rfl <;>
    exact piece_at (fun i => fcs (T i) W) _ (by omega) _ (fun a b => fcsOf_at (cols_at F _ (by omega) a _) _ (dft_at F) b)

/-- The global queries of a step. -/
theorem out12_apply (r : Fin 1024) (d : Fin 1024) :
    out0_12 x0 x1 x2 x3 x4 x5 x6 x7 x8 x9 x10 (ix3 0 r d) = qg (T r) W d := by
  rw [out12_eq]
  refine View.canon_apply_of_pieces (Val := Elt Ideal) (S := S1x1024x1024) (fun i => qg (T (i 1)) W (i 2)) _ ?_ (ix3 0 r d)
    (cover0_12 _ _ _ _ _ _ _ _ _)
  intro p hp
  simp only [List.mem_cons, List.not_mem_nil, or_false] at hp
  rcases hp with rfl | rfl | rfl | rfl | rfl | rfl | rfl | rfl <;>
    exact piece_at (fun i => qg (T i) W) _ (by omega) _ (fun a b => qOf_at (cols_at F _ (by omega) a _) (angles_at F _ (by omega) a _) (means_at F) _ (qn_at F) b)

/-- The global keys of a step. -/
theorem out13_apply (r : Fin 1024) (d : Fin 256) :
    out0_13 x0 x1 x2 x3 x4 x5 x6 x7 x8 x9 x10 (ix3 0 r d) = kg (T r) W d := by
  rw [out13_eq]
  refine View.canon_apply_of_pieces (Val := Elt Ideal) (S := S1x1024x256) (fun i => kg (T (i 1)) W (i 2)) _ ?_ (ix3 0 r d)
    (cover0_13 _ _ _ _ _ _ _ _ _)
  intro p hp
  simp only [List.mem_cons, List.not_mem_nil, or_false] at hp
  rcases hp with rfl | rfl | rfl | rfl | rfl | rfl | rfl | rfl <;>
    exact piece_at (fun i => kg (T i) W) _ (by omega) _ (fun a b => kOf_at (cols_at F _ (by omega) a _) (angles_at F _ (by omega) a _) (means_at F) _ (kn_at F) b)

/-- The global values of a step. -/
theorem out14_apply (r : Fin 1024) (d : Fin 256) :
    out0_14 x0 x1 x2 x3 x4 x5 x6 x7 x8 x9 x10 (ix3 0 r d) = vg (T r) W d := by
  rw [out14_eq]
  refine View.canon_apply_of_pieces (Val := Elt Ideal) (S := S1x1024x256) (fun i => vg (T (i 1)) W (i 2)) _ ?_ (ix3 0 r d)
    (cover0_14 _ _ _ _ _ _ _ _ _)
  intro p hp
  simp only [List.mem_cons, List.not_mem_nil, or_false] at hp
  rcases hp with rfl | rfl | rfl | rfl | rfl | rfl | rfl | rfl <;>
    exact piece_at (fun i => vg (T i) W) _ (by omega) _ (fun a b => vOf_at (cols_at F _ (by omega) a _) b)

/-- The window queries of a step. -/
theorem out15_apply (r : Fin 1024) (d : Fin 512) :
    out0_15 x0 x1 x2 x3 x4 x5 x6 x7 x8 x9 x10 (ix3 0 r d) = qw (T r) W d := by
  rw [out15_eq]
  refine View.canon_apply_of_pieces (Val := Elt Ideal) (S := S1x1024x512) (fun i => qw (T (i 1)) W (i 2)) _ ?_ (ix3 0 r d)
    (cover0_15 _ _ _ _ _ _ _ _ _)
  intro p hp
  simp only [List.mem_cons, List.not_mem_nil, or_false] at hp
  rcases hp with rfl | rfl | rfl | rfl | rfl | rfl | rfl | rfl <;>
    exact piece_at (fun i => qw (T i) W) _ (by omega) _ (fun a b => qwOf_at (cols_at F _ (by omega) a _) (angles_at F _ (by omega) a _) b)

/-- The window keys of a step. -/
theorem out16_apply (r : Fin 1024) (d : Fin 256) :
    out0_16 x0 x1 x2 x3 x4 x5 x6 x7 x8 x9 x10 (ix3 0 r d) = kw (T r) W d := by
  rw [out16_eq]
  refine View.canon_apply_of_pieces (Val := Elt Ideal) (S := S1x1024x256) (fun i => kw (T (i 1)) W (i 2)) _ ?_ (ix3 0 r d)
    (cover0_16 _ _ _ _ _ _ _ _ _)
  intro p hp
  simp only [List.mem_cons, List.not_mem_nil, or_false] at hp
  rcases hp with rfl | rfl | rfl | rfl | rfl | rfl | rfl | rfl <;>
    exact piece_at (fun i => kw (T i) W) _ (by omega) _ (fun a b => kwOf_at (cols_at F _ (by omega) a _) (angles_at F _ (by omega) a _) b)

/-- The window values of a step. -/
theorem out17_apply (r : Fin 1024) (d : Fin 256) :
    out0_17 x0 x1 x2 x3 x4 x5 x6 x7 x8 x9 x10 (ix3 0 r d) = vw (T r) W d := by
  rw [out17_eq]
  refine View.canon_apply_of_pieces (Val := Elt Ideal) (S := S1x1024x256) (fun i => vw (T (i 1)) W (i 2)) _ ?_ (ix3 0 r d)
    (cover0_17 _ _ _ _ _ _ _ _ _)
  intro p hp
  simp only [List.mem_cons, List.not_mem_nil, or_false] at hp
  rcases hp with rfl | rfl | rfl | rfl | rfl | rfl | rfl | rfl <;>
    exact piece_at (fun i => vw (T i) W) _ (by omega) _ (fun a b => vwOf_at (cols_at F _ (by omega) a _) b)

end Step

end Cert.InprojIdeal.Body
-- ==== Proof.Inproj.Args.lean ====
module

public import proofs.«01_k».proof.Proof.Inproj.Spec
public import proofs.«01_k».proof.Proof.Common.Reads

/-!
# The tokens and weights in the argument arrays

The modulation array holds six rows of 1024 per batch entry; the projection reads the first two. The
first 1536 columns of the input projection are the branches' columns.
-/

@[expose] public section

noncomputable section

namespace Cert.Rope

open Idealize.ShloMosaic

/-- Token `l` of batch entry `b`. -/
def tokenAt (x : (⟨3, ![8, 2048, 1024]⟩ : Shape).Idx → EReal) (mod : (⟨2, ![8, 6144]⟩ : Shape).Idx → EReal)
    (cos sin : (⟨2, ![2048, 32]⟩ : Shape).Idx → EReal) (b : Fin 8) (l : Fin 2048) : Token where
  x k := x (ix3 b l k)
  sh k := mod (ix2 b ⟨k.1, by omega⟩)
  sc k := mod (ix2 b ⟨1024 + k.1, by omega⟩)
  cos i := cos (ix2 l i)
  sin i := sin (ix2 l i)

/-- The weights. -/
def weightsOf (n1 : (⟨1, ![1024]⟩ : Shape).Idx → EReal) (win : (⟨2, ![1024, 4608]⟩ : Shape).Idx → EReal)
    (dft : (⟨2, ![256, 512]⟩ : Shape).Idx → EReal) (qn kn : (⟨1, ![64]⟩ : Shape).Idx → EReal) : Weights where
  n1 k := n1 (ix1 k)
  mix k f := win (ix2 k ⟨f.1, by omega⟩)
  dft k f := dft (ix2 k f)
  qn d := qn (ix1 d)
  kn d := kn (ix1 d)

end Cert.Rope
-- ==== Proof.Inproj.Entry.lean ====
module

public import proofs.«01_k».proof.Proof.Inproj.Out
public import proofs.«01_k».proof.Proof.Inproj.Args
public import proofs.«01_k».proof.Proof.Gen.InprojIdeal.Value
public import Idealize.ShloMosaic.Lib.Pointwise
public import Idealize.ShloMosaic.Lib.StableHlo.ReadAt

/-!
# What the host prepares for the call

Slices of the modulation, the projection's first columns, the norms' gains repeated per head, the
angles repeated per pair with the sine's sign, and the matrix that takes a head's mean.
-/

@[expose] public section

noncomputable section

namespace Cert.InprojIdeal.Mix

open Idealize.ShloMosaic Idealize.ShloMosaic.TcCoe Cert.InprojIdeal.Gen Cert.InprojIdeal.Body Cert.Rope

variable (m : (ℓ : Loc nD τ sig) → Buf (Elt Ideal) ℓ)

/-- The argument arrays as functions of their indices. -/
abbrev A0 (c : Dev nD) : S8x2048x1024.Idx → EReal := m ((c : Thread nD τ).loc main_arg0)
abbrev A1 (c : Dev nD) : S8x6144.Idx → EReal := m ((c : Thread nD τ).loc main_arg1)
abbrev A2 (c : Dev nD) : S1024.Idx → EReal := m ((c : Thread nD τ).loc main_arg2)
abbrev A3 (c : Dev nD) : S1024x4608.Idx → EReal := m ((c : Thread nD τ).loc main_arg3)
abbrev A4 (c : Dev nD) : S2048x32.Idx → EReal := m ((c : Thread nD τ).loc main_arg4)
abbrev A5 (c : Dev nD) : S2048x32.Idx → EReal := m ((c : Thread nD τ).loc main_arg5)
abbrev A6 (c : Dev nD) : S256x512.Idx → EReal := m ((c : Thread nD τ).loc main_arg6)
abbrev A7 (c : Dev nD) : S64.Idx → EReal := m ((c : Thread nD τ).loc main_arg7)
abbrev A8 (c : Dev nD) : S64.Idx → EReal := m ((c : Thread nD τ).loc main_arg8)

/-- Modulation row 0: the shift. -/
theorem row0 (c : Dev nD) (b : Fin 8) (k : Fin 1024) :
    (V m c main_v1 : S8x1x1024.Idx → EReal) (ix3 b 0 k) = A1 m c (ix2 b ⟨k.1, by omega⟩) := by
  unfold V
  after_reads_at

/-- Modulation row 1: the scale. -/
theorem row1 (c : Dev nD) (b : Fin 8) (k : Fin 1024) :
    (V m c main_v3 : S8x1x1024.Idx → EReal) (ix3 b 0 k) = A1 m c (ix2 b ⟨1024 + k.1, by omega⟩) := by
  unfold V
  after_reads_at

theorem gain (c : Dev nD) (k : Fin 1024) : (V m c main_v6 : S1x1024.Idx → EReal) (ix2 0 k) = A2 m c (ix1 k) := by
  unfold V
  after_reads_at

/-- The branches' columns. -/
theorem weights (c : Dev nD) (k : Fin 1024) (f : Fin 1536) :
    (V m c main_v5 : S1024x1536.Idx → EReal) (ix2 k f) = A3 m c (ix2 k ⟨f.1, by omega⟩) := by
  unfold V
  after_reads_at

/-- The queries' gain, repeated for eight heads. -/
theorem gainQ (c : Dev nD) (l : Fin 512) :
    (V m c main_v10 : S1x512.Idx → EReal) (ix2 0 l) = A7 m c (ix1 ⟨l.1 % 64, by omega⟩) := by
  unfold V
  after_reads_at

/-- The keys' gain, repeated for two heads. -/
theorem gainK (c : Dev nD) (l : Fin 128) :
    (V m c main_v14 : S1x128.Idx → EReal) (ix2 0 l) = A8 m c (ix1 ⟨l.1 % 64, by omega⟩) := by
  unfold V
  after_reads_at

/-- The cosines, one per pair of lanes. -/
theorem cosines (c : Dev nD) (r : Fin 2048) (l : Fin 128) :
    (V m c main_v19 : S2048x128.Idx → EReal) (ix2 r l) = A4 m c (ix2 r ⟨l.1 % 64 / 2, by omega⟩) := by
  unfold V
  after_reads_at

/-- The two signs. -/
theorem sign_apply (p : Fin 2) : Ideal.ofBits .f32 (lit0 (S2.rowMajor (ix1 p))) = if p.1 = 0 then (-1 : EReal) else 1 := by
  fin_cases p
  · refine Eq.trans (b := Ideal.ofBits .f32 0xBF800000#32) rfl ?_
    rw [if_pos rfl]
    simp [Ideal.ofBits, Ideal.ieee]
    exact (EReal.coe_mul _ _).symm.trans (by norm_num)
  · refine Eq.trans (b := Ideal.ofBits .f32 0x3F800000#32) rfl ?_
    rw [if_neg (by decide), Ideal.ofBits_one_f32]

/-- The signed sines. -/
theorem sines (c : Dev nD) (r : Fin 2048) (l : Fin 128) :
    (V m c main_v30 : S2048x128.Idx → EReal) (ix2 r l)
      = A5 m c (ix2 r ⟨l.1 % 64 / 2, by omega⟩) * (if l.1 % 2 = 0 then -1 else 1) := by
  unfold V
  after_reads_at
  exact congrArg (A5 m c (ix2 r ⟨l.1 % 64 / 2, by omega⟩) * ·) ((sign_apply _).trans (if_congr (by
    show l.1 % 64 % 2 = 0 ↔ l.1 % 2 = 0
    omega) rfl rfl))

/-- A choice by equality of two small numbers. -/
theorem same_head (a b : ℕ) (ha : a < 4) (hb : b < 4) (x : EReal) :
    Scalar.select (IntOp.cmpi .eq (BitVec.ofNat 32 a) (BitVec.ofNat 32 b)) x 0 = if a = b then x else 0 := by
  interval_cases a <;> interval_cases b <;> rfl

/-- The matrix of the means. -/
theorem means (c : Dev nD) : Means (V m c main_v38 : S256x256.Idx → EReal) := by
  intro k l
  unfold V
  after_reads_at
  exact same_head _ _ (by omega) (by omega) _

end Cert.InprojIdeal.Mix
-- ==== Proof.Inproj.Value.lean ====
module

public import proofs.«01_k».proof.Proof.Inproj.Entry

/-!
# The projection computes the formula

Grid step `t` is batch entry `t/2`, tokens from `t%2*1024`. Its blocks are those of the seven arrays
`whole11` to `whole17`, which they tile.
-/

@[expose] public section

noncomputable section

namespace Cert.InprojIdeal.Mix

open Idealize.ShloMosaic Idealize.ShloMosaic.TcCoe Idealize.SL.Sem Cert.InprojIdeal.Gen Cert.InprojIdeal.Body Cert.Rope

variable (m : (ℓ : Loc nD τ sig) → Buf (Elt Ideal) ℓ)

theorem index0 : ∀ t : Fin cfg0.N, win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0)
theorem index1 : ∀ t : Fin cfg0.N, win0_1.index t 0 = t.val / 2 ∧ win0_1.index t 1 = 0 ∧ win0_1.index t 2 = 0 :=
  (by decide +kernel : ∀ t : Fin grid0.N, win0_1.index t 0 = t.val / 2 ∧ win0_1.index t 1 = 0 ∧ win0_1.index t 2 = 0)
theorem index2 : ∀ t : Fin cfg0.N, win0_2.index t 0 = t.val / 2 ∧ win0_2.index t 1 = 0 ∧ win0_2.index t 2 = 0 :=
  (by decide +kernel : ∀ t : Fin grid0.N, win0_2.index t 0 = t.val / 2 ∧ win0_2.index t 1 = 0 ∧ win0_2.index t 2 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val % 2 ∧ win0_5.index t 1 = 0 :=
  (by decide +kernel : ∀ t : Fin grid0.N, win0_5.index t 0 = t.val % 2 ∧ win0_5.index t 1 = 0)
theorem index6 : ∀ t : Fin cfg0.N, win0_6.index t 0 = t.val % 2 ∧ win0_6.index t 1 = 0 :=
  (by decide +kernel : ∀ t : Fin grid0.N, win0_6.index t 0 = t.val % 2 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = 0 ∧ win0_9.index t 1 = 0 :=
  (by decide +kernel : ∀ t : Fin grid0.N, win0_9.index t 0 = 0 ∧ win0_9.index t 1 = 0)
theorem index10 : ∀ t : Fin cfg0.N, win0_10.index t 0 = 0 ∧ win0_10.index t 1 = 0 :=
  (by decide +kernel : ∀ t : Fin grid0.N, win0_10.index t 0 = 0 ∧ win0_10.index t 1 = 0)
theorem index11 : ∀ t : Fin cfg0.N, win0_11.index t 0 = t.val / 2 ∧ win0_11.index t 1 = t.val % 2 ∧ win0_11.index t 2 = 0 :=
  (by decide +kernel : ∀ t : Fin grid0.N, win0_11.index t 0 = t.val / 2 ∧ win0_11.index t 1 = t.val % 2 ∧ win0_11.index t 2 = 0)
theorem index12 : ∀ t : Fin cfg0.N, win0_12.index t 0 = t.val / 2 ∧ win0_12.index t 1 = t.val % 2 ∧ win0_12.index t 2 = 0 :=
  (by decide +kernel : ∀ t : Fin grid0.N, win0_12.index t 0 = t.val / 2 ∧ win0_12.index t 1 = t.val % 2 ∧ win0_12.index t 2 = 0)
theorem index13 : ∀ t : Fin cfg0.N, win0_13.index t 0 = t.val / 2 ∧ win0_13.index t 1 = t.val % 2 ∧ win0_13.index t 2 = 0 :=
  (by decide +kernel : ∀ t : Fin grid0.N, win0_13.index t 0 = t.val / 2 ∧ win0_13.index t 1 = t.val % 2 ∧ win0_13.index t 2 = 0)
theorem index14 : ∀ t : Fin cfg0.N, win0_14.index t 0 = t.val / 2 ∧ win0_14.index t 1 = t.val % 2 ∧ win0_14.index t 2 = 0 :=
  (by decide +kernel : ∀ t : Fin grid0.N, win0_14.index t 0 = t.val / 2 ∧ win0_14.index t 1 = t.val % 2 ∧ win0_14.index t 2 = 0)
theorem index15 : ∀ t : Fin cfg0.N, win0_15.index t 0 = t.val / 2 ∧ win0_15.index t 1 = t.val % 2 ∧ win0_15.index t 2 = 0 :=
  (by decide +kernel : ∀ t : Fin grid0.N, win0_15.index t 0 = t.val / 2 ∧ win0_15.index t 1 = t.val % 2 ∧ win0_15.index t 2 = 0)
theorem index16 : ∀ t : Fin cfg0.N, win0_16.index t 0 = t.val / 2 ∧ win0_16.index t 1 = t.val % 2 ∧ win0_16.index t 2 = 0 :=
  (by decide +kernel : ∀ t : Fin grid0.N, win0_16.index t 0 = t.val / 2 ∧ win0_16.index t 1 = t.val % 2 ∧ win0_16.index t 2 = 0)
theorem index17 : ∀ t : Fin cfg0.N, win0_17.index t 0 = t.val / 2 ∧ win0_17.index t 1 = t.val % 2 ∧ win0_17.index t 2 = 0 :=
  (by decide +kernel : ∀ t : Fin grid0.N, win0_17.index t 0 = t.val / 2 ∧ win0_17.index t 1 = t.val % 2 ∧ win0_17.index t 2 = 0)

/-- Window 0's block of any array. -/
theorem read0 (X : S8x2048x1024.Idx → EReal) (t : Fin cfg0.N) (ht : t.val / 2 < 8) (r : Fin 1024) (l : Fin 1024) :
    (((cfg0.win 0).blk t).view.read (Elt Ideal) X : S1x1024x1024.Idx → EReal) (ix3 0 r l)
      = X (ix3 ⟨t.val / 2, ht⟩ ⟨t.val % 2 * 1024 + r.1, by omega⟩ l) := by
  obtain ⟨h0, h1, h2⟩ := index0 t
  show X ((win0_0.rect t).emb _) = _
  refine congrArg X ?_
  funext a
  apply Fin.ext
  refine (win0_0.rect_emb_val t _ _).trans ?_
  match a with
  | ⟨0, _⟩ =>
      show win0_0.index t 0 * 1 + 0 = t.val / 2
      omega
  | ⟨1, _⟩ =>
      show win0_0.index t 1 * 1024 + r.1 = t.val % 2 * 1024 + r.1
      omega
  | ⟨2, _⟩ =>
      show win0_0.index t 2 * 1024 + l.1 = l.1
      omega

/-- Window 1's block of any array. -/
theorem read1 (X : S8x1x1024.Idx → EReal) (t : Fin cfg0.N) (ht : t.val / 2 < 8) (l : Fin 1024) :
    (((cfg0.win 1).blk t).view.read (Elt Ideal) X : S1x1x1024.Idx → EReal) (ix3 0 0 l) = X (ix3 ⟨t.val / 2, ht⟩ 0 l) := by
  obtain ⟨h0, h1, h2⟩ := index1 t
  show X ((win0_1.rect t).emb _) = _
  refine congrArg X ?_
  funext a
  apply Fin.ext
  refine (win0_1.rect_emb_val t _ _).trans ?_
  match a with
  | ⟨0, _⟩ =>
      show win0_1.index t 0 * 1 + 0 = t.val / 2
      omega
  | ⟨1, _⟩ =>
      show win0_1.index t 1 * 1 + 0 = 0
      omega
  | ⟨2, _⟩ =>
      show win0_1.index t 2 * 1024 + l.1 = l.1
      omega

/-- Window 2's block of any array. -/
theorem read2 (X : S8x1x1024.Idx → EReal) (t : Fin cfg0.N) (ht : t.val / 2 < 8) (l : Fin 1024) :
    (((cfg0.win 2).blk t).view.read (Elt Ideal) X : S1x1x1024.Idx → EReal) (ix3 0 0 l) = X (ix3 ⟨t.val / 2, ht⟩ 0 l) := by
  obtain ⟨h0, h1, h2⟩ := index2 t
  show X ((win0_2.rect t).emb _) = _
  refine congrArg X ?_
  funext a
  apply Fin.ext
  refine (win0_2.rect_emb_val t _ _).trans ?_
  match a with
  | ⟨0, _⟩ =>
      show win0_2.index t 0 * 1 + 0 = t.val / 2
      omega
  | ⟨1, _⟩ =>
      show win0_2.index t 1 * 1 + 0 = 0
      omega
  | ⟨2, _⟩ =>
      show win0_2.index t 2 * 1024 + l.1 = l.1
      omega

/-- Window 3's block of any array. -/
theorem read3 (X : S1x1024.Idx → EReal) (t : Fin cfg0.N) (k : Fin 1) (l : Fin 1024) :
    (((cfg0.win 3).blk t).view.read (Elt Ideal) X : S1x1024.Idx → EReal) (ix2 k l) = X (ix2 k l) := by
  obtain ⟨h0, h1⟩ := index3 t
  show X ((win0_3.rect t).emb _) = _
  refine congrArg X ?_
  funext a
  apply Fin.ext
  refine (win0_3.rect_emb_val t _ _).trans ?_
  match a with
  | ⟨0, _⟩ =>
      show win0_3.index t 0 * 1 + k.1 = k.1
      omega
  | ⟨1, _⟩ =>
      show win0_3.index t 1 * 1024 + l.1 = l.1
      omega

/-- Window 4's block of any array. -/
theorem read4 (X : S1024x1536.Idx → EReal) (t : Fin cfg0.N) (k : Fin 1024) (l : Fin 1536) :
    (((cfg0.win 4).blk t).view.read (Elt Ideal) X : S1024x1536.Idx → EReal) (ix2 k l) = X (ix2 k l) := by
  obtain ⟨h0, h1⟩ := index4 t
  show X ((win0_4.rect t).emb _) = _
  refine congrArg X ?_
  funext a
  apply Fin.ext
  refine (win0_4.rect_emb_val t _ _).trans ?_
  match a with
  | ⟨0, _⟩ =>
      show win0_4.index t 0 * 1024 + k.1 = k.1
      omega
  | ⟨1, _⟩ =>
      show win0_4.index t 1 * 1536 + l.1 = l.1
      omega

/-- Window 5's block of any array. -/
theorem read5 (X : S2048x128.Idx → EReal) (t : Fin cfg0.N) (r : Fin 1024) (l : Fin 128) :
    (((cfg0.win 5).blk t).view.read (Elt Ideal) X : S1024x128.Idx → EReal) (ix2 r l) = X (ix2 ⟨t.val % 2 * 1024 + r.1, by omega⟩ l) := by
  obtain ⟨h0, h1⟩ := index5 t
  show X ((win0_5.rect t).emb _) = _
  refine congrArg X ?_
  funext a
  apply Fin.ext
  refine (win0_5.rect_emb_val t _ _).trans ?_
  match a with
  | ⟨0, _⟩ =>
      show win0_5.index t 0 * 1024 + r.1 = t.val % 2 * 1024 + r.1
      omega
  | ⟨1, _⟩ =>
      show win0_5.index t 1 * 128 + l.1 = l.1
      omega

/-- Window 6's block of any array. -/
theorem read6 (X : S2048x128.Idx → EReal) (t : Fin cfg0.N) (r : Fin 1024) (l : Fin 128) :
    (((cfg0.win 6).blk t).view.read (Elt Ideal) X : S1024x128.Idx → EReal) (ix2 r l) = X (ix2 ⟨t.val % 2 * 1024 + r.1, by omega⟩ l) := by
  obtain ⟨h0, h1⟩ := index6 t
  show X ((win0_6.rect t).emb _) = _
  refine congrArg X ?_
  funext a
  apply Fin.ext
  refine (win0_6.rect_emb_val t _ _).trans ?_
  match a with
  | ⟨0, _⟩ =>
      show win0_6.index t 0 * 1024 + r.1 = t.val % 2 * 1024 + r.1
      omega
  | ⟨1, _⟩ =>
      show win0_6.index t 1 * 128 + l.1 = l.1
      omega

/-- Window 7's block of any array. -/
theorem read7 (X : S256x256.Idx → EReal) (t : Fin cfg0.N) (k : Fin 256) (l : Fin 256) :
    (((cfg0.win 7).blk t).view.read (Elt Ideal) X : S256x256.Idx → EReal) (ix2 k l) = X (ix2 k l) := by
  obtain ⟨h0, h1⟩ := index7 t
  show X ((win0_7.rect t).emb _) = _
  refine congrArg X ?_
  funext a
  apply Fin.ext
  refine (win0_7.rect_emb_val t _ _).trans ?_
  match a with
  | ⟨0, _⟩ =>
      show win0_7.index t 0 * 256 + k.1 = k.1
      omega
  | ⟨1, _⟩ =>
      show win0_7.index t 1 * 256 + l.1 = l.1
      omega

/-- Window 8's block of any array. -/
theorem read8 (X : S256x512.Idx → EReal) (t : Fin cfg0.N) (k : Fin 256) (l : Fin 512) :
    (((cfg0.win 8).blk t).view.read (Elt Ideal) X : S256x512.Idx → EReal) (ix2 k l) = X (ix2 k l) := by
  obtain ⟨h0, h1⟩ := index8 t
  show X ((win0_8.rect t).emb _) = _
  refine congrArg X ?_
  funext a
  apply Fin.ext
  refine (win0_8.rect_emb_val t _ _).trans ?_
  match a with
  | ⟨0, _⟩ =>
      show win0_8.index t 0 * 256 + k.1 = k.1
      omega
  | ⟨1, _⟩ =>
      show win0_8.index t 1 * 512 + l.1 = l.1
      omega

/-- Window 9's block of any array. -/
theorem read9 (X : S1x512.Idx → EReal) (t : Fin cfg0.N) (k : Fin 1) (l : Fin 512) :
    (((cfg0.win 9).blk t).view.read (Elt Ideal) X : S1x512.Idx → EReal) (ix2 k l) = X (ix2 k l) := by
  obtain ⟨h0, h1⟩ := index9 t
  show X ((win0_9.rect t).emb _) = _
  refine congrArg X ?_
  funext a
  apply Fin.ext
  refine (win0_9.rect_emb_val t _ _).trans ?_
  match a with
  | ⟨0, _⟩ =>
      show win0_9.index t 0 * 1 + k.1 = k.1
      omega
  | ⟨1, _⟩ =>
      show win0_9.index t 1 * 512 + l.1 = l.1
      omega

/-- Window 10's block of any array. -/
theorem read10 (X : S1x128.Idx → EReal) (t : Fin cfg0.N) (k : Fin 1) (l : Fin 128) :
    (((cfg0.win 10).blk t).view.read (Elt Ideal) X : S1x128.Idx → EReal) (ix2 k l) = X (ix2 k l) := by
  obtain ⟨h0, h1⟩ := index10 t
  show X ((win0_10.rect t).emb _) = _
  refine congrArg X ?_
  funext a
  apply Fin.ext
  refine (win0_10.rect_emb_val t _ _).trans ?_
  match a with
  | ⟨0, _⟩ =>
      show win0_10.index t 0 * 1 + k.1 = k.1
      omega
  | ⟨1, _⟩ =>
      show win0_10.index t 1 * 128 + l.1 = l.1
      omega

/-- Window 11's block of any array. -/
theorem read11 (X : S8x2048x512.Idx → EReal) (t : Fin cfg0.N) (ht : t.val / 2 < 8) (r : Fin 1024) (l : Fin 512) :
    (((cfg0.win 11).blk t).view.read (Elt Ideal) X : S1x1024x512.Idx → EReal) (ix3 0 r l)
      = X (ix3 ⟨t.val / 2, ht⟩ ⟨t.val % 2 * 1024 + r.1, by omega⟩ l) := by
  obtain ⟨h0, h1, h2⟩ := index11 t
  show X ((win0_11.rect t).emb _) = _
  refine congrArg X ?_
  funext a
  apply Fin.ext
  refine (win0_11.rect_emb_val t _ _).trans ?_
  match a with
  | ⟨0, _⟩ =>
      show win0_11.index t 0 * 1 + 0 = t.val / 2
      omega
  | ⟨1, _⟩ =>
      show win0_11.index t 1 * 1024 + r.1 = t.val % 2 * 1024 + r.1
      omega
  | ⟨2, _⟩ =>
      show win0_11.index t 2 * 512 + l.1 = l.1
      omega

/-- Window 12's block of any array. -/
theorem read12 (X : S8x2048x1024.Idx → EReal) (t : Fin cfg0.N) (ht : t.val / 2 < 8) (r : Fin 1024) (l : Fin 1024) :
    (((cfg0.win 12).blk t).view.read (Elt Ideal) X : S1x1024x1024.Idx → EReal) (ix3 0 r l)
      = X (ix3 ⟨t.val / 2, ht⟩ ⟨t.val % 2 * 1024 + r.1, by omega⟩ l) := by
  obtain ⟨h0, h1, h2⟩ := index12 t
  show X ((win0_12.rect t).emb _) = _
  refine congrArg X ?_
  funext a
  apply Fin.ext
  refine (win0_12.rect_emb_val t _ _).trans ?_
  match a with
  | ⟨0, _⟩ =>
      show win0_12.index t 0 * 1 + 0 = t.val / 2
      omega
  | ⟨1, _⟩ =>
      show win0_12.index t 1 * 1024 + r.1 = t.val % 2 * 1024 + r.1
      omega
  | ⟨2, _⟩ =>
      show win0_12.index t 2 * 1024 + l.1 = l.1
      omega

/-- Window 13's block of any array. -/
theorem read13 (X : S8x2048x256.Idx → EReal) (t : Fin cfg0.N) (ht : t.val / 2 < 8) (r : Fin 1024) (l : Fin 256) :
    (((cfg0.win 13).blk t).view.read (Elt Ideal) X : S1x1024x256.Idx → EReal) (ix3 0 r l)
      = X (ix3 ⟨t.val / 2, ht⟩ ⟨t.val % 2 * 1024 + r.1, by omega⟩ l) := by
  obtain ⟨h0, h1, h2⟩ := index13 t
  show X ((win0_13.rect t).emb _) = _
  refine congrArg X ?_
  funext a
  apply Fin.ext
  refine (win0_13.rect_emb_val t _ _).trans ?_
  match a with
  | ⟨0, _⟩ =>
      show win0_13.index t 0 * 1 + 0 = t.val / 2
      omega
  | ⟨1, _⟩ =>
      show win0_13.index t 1 * 1024 + r.1 = t.val % 2 * 1024 + r.1
      omega
  | ⟨2, _⟩ =>
      show win0_13.index t 2 * 256 + l.1 = l.1
      omega

/-- Window 14's block of any array. -/
theorem read14 (X : S8x2048x256.Idx → EReal) (t : Fin cfg0.N) (ht : t.val / 2 < 8) (r : Fin 1024) (l : Fin 256) :
    (((cfg0.win 14).blk t).view.read (Elt Ideal) X : S1x1024x256.Idx → EReal) (ix3 0 r l)
      = X (ix3 ⟨t.val / 2, ht⟩ ⟨t.val % 2 * 1024 + r.1, by omega⟩ l) := by
  obtain ⟨h0, h1, h2⟩ := index14 t
  show X ((win0_14.rect t).emb _) = _
  refine congrArg X ?_
  funext a
  apply Fin.ext
  refine (win0_14.rect_emb_val t _ _).trans ?_
  match a with
  | ⟨0, _⟩ =>
      show win0_14.index t 0 * 1 + 0 = t.val / 2
      omega
  | ⟨1, _⟩ =>
      show win0_14.index t 1 * 1024 + r.1 = t.val % 2 * 1024 + r.1
      omega
  | ⟨2, _⟩ =>
      show win0_14.index t 2 * 256 + l.1 = l.1
      omega

/-- Window 15's block of any array. -/
theorem read15 (X : S8x2048x512.Idx → EReal) (t : Fin cfg0.N) (ht : t.val / 2 < 8) (r : Fin 1024) (l : Fin 512) :
    (((cfg0.win 15).blk t).view.read (Elt Ideal) X : S1x1024x512.Idx → EReal) (ix3 0 r l)
      = X (ix3 ⟨t.val / 2, ht⟩ ⟨t.val % 2 * 1024 + r.1, by omega⟩ l) := by
  obtain ⟨h0, h1, h2⟩ := index15 t
  show X ((win0_15.rect t).emb _) = _
  refine congrArg X ?_
  funext a
  apply Fin.ext
  refine (win0_15.rect_emb_val t _ _).trans ?_
  match a with
  | ⟨0, _⟩ =>
      show win0_15.index t 0 * 1 + 0 = t.val / 2
      omega
  | ⟨1, _⟩ =>
      show win0_15.index t 1 * 1024 + r.1 = t.val % 2 * 1024 + r.1
      omega
  | ⟨2, _⟩ =>
      show win0_15.index t 2 * 512 + l.1 = l.1
      omega

/-- Window 16's block of any array. -/
theorem read16 (X : S8x2048x256.Idx → EReal) (t : Fin cfg0.N) (ht : t.val / 2 < 8) (r : Fin 1024) (l : Fin 256) :
    (((cfg0.win 16).blk t).view.read (Elt Ideal) X : S1x1024x256.Idx → EReal) (ix3 0 r l)
      = X (ix3 ⟨t.val / 2, ht⟩ ⟨t.val % 2 * 1024 + r.1, by omega⟩ l) := by
  obtain ⟨h0, h1, h2⟩ := index16 t
  show X ((win0_16.rect t).emb _) = _
  refine congrArg X ?_
  funext a
  apply Fin.ext
  refine (win0_16.rect_emb_val t _ _).trans ?_
  match a with
  | ⟨0, _⟩ =>
      show win0_16.index t 0 * 1 + 0 = t.val / 2
      omega
  | ⟨1, _⟩ =>
      show win0_16.index t 1 * 1024 + r.1 = t.val % 2 * 1024 + r.1
      omega
  | ⟨2, _⟩ =>
      show win0_16.index t 2 * 256 + l.1 = l.1
      omega

/-- Window 17's block of any array. -/
theorem read17 (X : S8x2048x256.Idx → EReal) (t : Fin cfg0.N) (ht : t.val / 2 < 8) (r : Fin 1024) (l : Fin 256) :
    (((cfg0.win 17).blk t).view.read (Elt Ideal) X : S1x1024x256.Idx → EReal) (ix3 0 r l)
      = X (ix3 ⟨t.val / 2, ht⟩ ⟨t.val % 2 * 1024 + r.1, by omega⟩ l) := by
  obtain ⟨h0, h1, h2⟩ := index17 t
  show X ((win0_17.rect t).emb _) = _
  refine congrArg X ?_
  funext a
  apply Fin.ext
  refine (win0_17.rect_emb_val t _ _).trans ?_
  match a with
  | ⟨0, _⟩ =>
      show win0_17.index t 0 * 1 + 0 = t.val / 2
      omega
  | ⟨1, _⟩ =>
      show win0_17.index t 1 * 1024 + r.1 = t.val % 2 * 1024 + r.1
      omega
  | ⟨2, _⟩ =>
      show win0_17.index t 2 * 256 + l.1 = l.1
      omega

/-- The token and the weights the call's results are about. -/
abbrev T (c : Dev nD) (b : Fin 8) (l : Fin 2048) : Token := tokenAt (A0 m c) (A1 m c) (A4 m c) (A5 m c) b l
abbrev W (c : Dev nD) : Weights := weightsOf (A2 m c) (A3 m c) (A6 m c) (A7 m c) (A8 m c)

/-- A step's blocks hold the tokens and the weights of the arguments. -/
theorem fits (c : Dev nD) (t : Fin cfg0.N) (ht : t.val / 2 < 8) :
    Fits (fun r => T m c ⟨t.val / 2, ht⟩ ⟨t.val % 2 * 1024 + r.1, by omega⟩) (W m c)
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) where
  x r k := read0 (A0 m c) t ht r k
  sh _ k := (read1 (V m c main_v1) t ht k).trans (row0 m c _ k)
  sc _ k := (read2 (V m c main_v3) t ht k).trans (row1 m c _ k)
  n1 k := Eq.trans (b := (V m c main_v6 : S1x1024.Idx → EReal) (ix2 0 k)) (read3 (V m c main_v6) t 0 k) (gain m c k)
  mix k f := Eq.trans (b := (V m c main_v5 : S1024x1536.Idx → EReal) (ix2 k f)) (read4 (V m c main_v5) t k f) (weights m c k f)
  cos r l := (read5 (V m c main_v19) t r l).trans (cosines m c _ l)
  sin r l := (read6 (V m c main_v30) t r l).trans (sines m c _ l)
  means k l := Eq.trans (b := (V m c main_v38 : S256x256.Idx → EReal) (ix2 k l)) (read7 (V m c main_v38) t k l) (means m c k l)
  dft k f := read8 (A6 m c) t k f
  qn l := Eq.trans (b := (V m c main_v10 : S1x512.Idx → EReal) (ix2 0 l)) (read9 (V m c main_v10) t 0 l) (gainQ m c l)
  kn l := Eq.trans (b := (V m c main_v14 : S1x128.Idx → EReal) (ix2 0 l)) (read10 (V m c main_v14) t 0 l) (gainK m c l)

/-- Result 0: the channel transform. -/
def whole11 (c : Dev nD) : S8x2048x512.Idx → EReal := fun i => fcs (T m c (i 0) (i 1)) (W m c) (i 2)

/-- What a step writes back is its block of the whole. -/
theorem flushed11_eq (c : Dev nD) (t : Fin cfg0.N) :
    (dats m 0 c).flushed 11 t = ((cfg0.win 11).blk t).view.read (Elt Ideal) (whole11 m c) := by
  have ht : t.val / 2 < 8 := by have : t.val < 16 := t.2.trans_eq N_0; omega
  rw [Value.flushed11]
  have hmain : ∀ j : S1x1024x512.Idx,
      out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) j
        = (((cfg0.win 11).blk t).view.read (Elt Ideal) (whole11 m c) : S1x1024x512.Idx → EReal) j :=
    of_ix3 fun r d => (out11_apply (fits m c t ht) r d).trans (read11 (whole11 m c) t ht r d).symm
  funext j
  exact hmain j

/-- Every index of the result lies in some step's block. -/
theorem cover11 (i : S8x2048x512.Idx) :
    ∃ t : Fin cfg0.N, (cfg0.win 11).flush t = true ∧ i ∈ ((cfg0.win 11).blk t).view.set := by
  have h0 : (i 0).1 < 8 := (i 0).2
  have h1 : (i 1).1 < 2048 := (i 1).2
  have h2 : (i 2).1 < 512 := (i 2).2
  refine ⟨⟨(i 0).1 * 2 + (i 1).1 / 1024, by rw [show cfg0.N = 16 from N_0]; omega⟩, flush0_11 _, ?_⟩
  generalize ht : (⟨(i 0).1 * 2 + (i 1).1 / 1024, _⟩ : Fin cfg0.N) = t
  have hv : t.1 = (i 0).1 * 2 + (i 1).1 / 1024 := by rw [← ht]
  obtain ⟨e0, e1, e2⟩ := index11 t
  show i ∈ ((View.whole main_v39_0).slice (win0_11.rect t)).set
  rw [View.set_slice_whole, Rect.mem_set_unit]
  intro a
  match a with
  | ⟨0, _⟩ => show win0_11.index t 0 * 1 ≤ (i 0).1 ∧ (i 0).1 < win0_11.index t 0 * 1 + 1
              omega
  | ⟨1, _⟩ => show win0_11.index t 1 * 1024 ≤ (i 1).1 ∧ (i 1).1 < win0_11.index t 1 * 1024 + 1024
              omega
  | ⟨2, _⟩ => show win0_11.index t 2 * 512 ≤ (i 2).1 ∧ (i 2).1 < win0_11.index t 2 * 512 + 512
              omega

theorem final11 (c : Dev nD) : (dats m 0 c).arrAt 11 cfg0.N = whole11 m c :=
  (dats m 0 c).arrAt_eq_of_cover 11 (whole11 m c) (fun t _ => flushed11_eq m c t) cover11

/-- Result 1: the global queries. -/
def whole12 (c : Dev nD) : S8x2048x1024.Idx → EReal := fun i => qg (T m c (i 0) (i 1)) (W m c) (i 2)

/-- What a step writes back is its block of the whole. -/
theorem flushed12_eq (c : Dev nD) (t : Fin cfg0.N) :
    (dats m 0 c).flushed 12 t = ((cfg0.win 12).blk t).view.read (Elt Ideal) (whole12 m c) := by
  have ht : t.val / 2 < 8 := by have : t.val < 16 := t.2.trans_eq N_0; omega
  rw [Value.flushed12]
  have hmain : ∀ j : S1x1024x1024.Idx,
      out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) j
        = (((cfg0.win 12).blk t).view.read (Elt Ideal) (whole12 m c) : S1x1024x1024.Idx → EReal) j :=
    of_ix3 fun r d => (out12_apply (fits m c t ht) r d).trans (read12 (whole12 m c) t ht r d).symm
  funext j
  exact hmain j

/-- Every index of the result lies in some step's block. -/
theorem cover12 (i : S8x2048x1024.Idx) :
    ∃ t : Fin cfg0.N, (cfg0.win 12).flush t = true ∧ i ∈ ((cfg0.win 12).blk t).view.set := by
  have h0 : (i 0).1 < 8 := (i 0).2
  have h1 : (i 1).1 < 2048 := (i 1).2
  have h2 : (i 2).1 < 1024 := (i 2).2
  refine ⟨⟨(i 0).1 * 2 + (i 1).1 / 1024, by rw [show cfg0.N = 16 from N_0]; omega⟩, flush0_12 _, ?_⟩
  generalize ht : (⟨(i 0).1 * 2 + (i 1).1 / 1024, _⟩ : Fin cfg0.N) = t
  have hv : t.1 = (i 0).1 * 2 + (i 1).1 / 1024 := by rw [← ht]
  obtain ⟨e0, e1, e2⟩ := index12 t
  show i ∈ ((View.whole main_v39_1).slice (win0_12.rect t)).set
  rw [View.set_slice_whole, Rect.mem_set_unit]
  intro a
  match a with
  | ⟨0, _⟩ => show win0_12.index t 0 * 1 ≤ (i 0).1 ∧ (i 0).1 < win0_12.index t 0 * 1 + 1
              omega
  | ⟨1, _⟩ => show win0_12.index t 1 * 1024 ≤ (i 1).1 ∧ (i 1).1 < win0_12.index t 1 * 1024 + 1024
              omega
  | ⟨2, _⟩ => show win0_12.index t 2 * 1024 ≤ (i 2).1 ∧ (i 2).1 < win0_12.index t 2 * 1024 + 1024
              omega

theorem final12 (c : Dev nD) : (dats m 0 c).arrAt 12 cfg0.N = whole12 m c :=
  (dats m 0 c).arrAt_eq_of_cover 12 (whole12 m c) (fun t _ => flushed12_eq m c t) cover12

/-- Result 2: the global keys. -/
def whole13 (c : Dev nD) : S8x2048x256.Idx → EReal := fun i => kg (T m c (i 0) (i 1)) (W m c) (i 2)

/-- What a step writes back is its block of the whole. -/
theorem flushed13_eq (c : Dev nD) (t : Fin cfg0.N) :
    (dats m 0 c).flushed 13 t = ((cfg0.win 13).blk t).view.read (Elt Ideal) (whole13 m c) := by
  have ht : t.val / 2 < 8 := by have : t.val < 16 := t.2.trans_eq N_0; omega
  rw [Value.flushed13]
  have hmain : ∀ j : S1x1024x256.Idx,
      out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) j
        = (((cfg0.win 13).blk t).view.read (Elt Ideal) (whole13 m c) : S1x1024x256.Idx → EReal) j :=
    of_ix3 fun r d => (out13_apply (fits m c t ht) r d).trans (read13 (whole13 m c) t ht r d).symm
  funext j
  exact hmain j

/-- Every index of the result lies in some step's block. -/
theorem cover13 (i : S8x2048x256.Idx) :
    ∃ t : Fin cfg0.N, (cfg0.win 13).flush t = true ∧ i ∈ ((cfg0.win 13).blk t).view.set := by
  have h0 : (i 0).1 < 8 := (i 0).2
  have h1 : (i 1).1 < 2048 := (i 1).2
  have h2 : (i 2).1 < 256 := (i 2).2
  refine ⟨⟨(i 0).1 * 2 + (i 1).1 / 1024, by rw [show cfg0.N = 16 from N_0]; omega⟩, flush0_13 _, ?_⟩
  generalize ht : (⟨(i 0).1 * 2 + (i 1).1 / 1024, _⟩ : Fin cfg0.N) = t
  have hv : t.1 = (i 0).1 * 2 + (i 1).1 / 1024 := by rw [← ht]
  obtain ⟨e0, e1, e2⟩ := index13 t
  show i ∈ ((View.whole main_v39_2).slice (win0_13.rect t)).set
  rw [View.set_slice_whole, Rect.mem_set_unit]
  intro a
  match a with
  | ⟨0, _⟩ => show win0_13.index t 0 * 1 ≤ (i 0).1 ∧ (i 0).1 < win0_13.index t 0 * 1 + 1
              omega
  | ⟨1, _⟩ => show win0_13.index t 1 * 1024 ≤ (i 1).1 ∧ (i 1).1 < win0_13.index t 1 * 1024 + 1024
              omega
  | ⟨2, _⟩ => show win0_13.index t 2 * 256 ≤ (i 2).1 ∧ (i 2).1 < win0_13.index t 2 * 256 + 256
              omega

theorem final13 (c : Dev nD) : (dats m 0 c).arrAt 13 cfg0.N = whole13 m c :=
  (dats m 0 c).arrAt_eq_of_cover 13 (whole13 m c) (fun t _ => flushed13_eq m c t) cover13

/-- Result 3: the global values. -/
def whole14 (c : Dev nD) : S8x2048x256.Idx → EReal := fun i => vg (T m c (i 0) (i 1)) (W m c) (i 2)

/-- What a step writes back is its block of the whole. -/
theorem flushed14_eq (c : Dev nD) (t : Fin cfg0.N) :
    (dats m 0 c).flushed 14 t = ((cfg0.win 14).blk t).view.read (Elt Ideal) (whole14 m c) := by
  have ht : t.val / 2 < 8 := by have : t.val < 16 := t.2.trans_eq N_0; omega
  rw [Value.flushed14]
  have hmain : ∀ j : S1x1024x256.Idx,
      out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) j
        = (((cfg0.win 14).blk t).view.read (Elt Ideal) (whole14 m c) : S1x1024x256.Idx → EReal) j :=
    of_ix3 fun r d => (out14_apply (fits m c t ht) r d).trans (read14 (whole14 m c) t ht r d).symm
  funext j
  exact hmain j

/-- Every index of the result lies in some step's block. -/
theorem cover14 (i : S8x2048x256.Idx) :
    ∃ t : Fin cfg0.N, (cfg0.win 14).flush t = true ∧ i ∈ ((cfg0.win 14).blk t).view.set := by
  have h0 : (i 0).1 < 8 := (i 0).2
  have h1 : (i 1).1 < 2048 := (i 1).2
  have h2 : (i 2).1 < 256 := (i 2).2
  refine ⟨⟨(i 0).1 * 2 + (i 1).1 / 1024, by rw [show cfg0.N = 16 from N_0]; omega⟩, flush0_14 _, ?_⟩
  generalize ht : (⟨(i 0).1 * 2 + (i 1).1 / 1024, _⟩ : Fin cfg0.N) = t
  have hv : t.1 = (i 0).1 * 2 + (i 1).1 / 1024 := by rw [← ht]
  obtain ⟨e0, e1, e2⟩ := index14 t
  show i ∈ ((View.whole main_v39_3).slice (win0_14.rect t)).set
  rw [View.set_slice_whole, Rect.mem_set_unit]
  intro a
  match a with
  | ⟨0, _⟩ => show win0_14.index t 0 * 1 ≤ (i 0).1 ∧ (i 0).1 < win0_14.index t 0 * 1 + 1
              omega
  | ⟨1, _⟩ => show win0_14.index t 1 * 1024 ≤ (i 1).1 ∧ (i 1).1 < win0_14.index t 1 * 1024 + 1024
              omega
  | ⟨2, _⟩ => show win0_14.index t 2 * 256 ≤ (i 2).1 ∧ (i 2).1 < win0_14.index t 2 * 256 + 256
              omega

theorem final14 (c : Dev nD) : (dats m 0 c).arrAt 14 cfg0.N = whole14 m c :=
  (dats m 0 c).arrAt_eq_of_cover 14 (whole14 m c) (fun t _ => flushed14_eq m c t) cover14

/-- Result 4: the window queries. -/
def whole15 (c : Dev nD) : S8x2048x512.Idx → EReal := fun i => qw (T m c (i 0) (i 1)) (W m c) (i 2)

/-- What a step writes back is its block of the whole. -/
theorem flushed15_eq (c : Dev nD) (t : Fin cfg0.N) :
    (dats m 0 c).flushed 15 t = ((cfg0.win 15).blk t).view.read (Elt Ideal) (whole15 m c) := by
  have ht : t.val / 2 < 8 := by have : t.val < 16 := t.2.trans_eq N_0; omega
  rw [Value.flushed15]
  have hmain : ∀ j : S1x1024x512.Idx,
      out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) j
        = (((cfg0.win 15).blk t).view.read (Elt Ideal) (whole15 m c) : S1x1024x512.Idx → EReal) j :=
    of_ix3 fun r d => (out15_apply (fits m c t ht) r d).trans (read15 (whole15 m c) t ht r d).symm
  funext j
  exact hmain j

/-- Every index of the result lies in some step's block. -/
theorem cover15 (i : S8x2048x512.Idx) :
    ∃ t : Fin cfg0.N, (cfg0.win 15).flush t = true ∧ i ∈ ((cfg0.win 15).blk t).view.set := by
  have h0 : (i 0).1 < 8 := (i 0).2
  have h1 : (i 1).1 < 2048 := (i 1).2
  have h2 : (i 2).1 < 512 := (i 2).2
  refine ⟨⟨(i 0).1 * 2 + (i 1).1 / 1024, by rw [show cfg0.N = 16 from N_0]; omega⟩, flush0_15 _, ?_⟩
  generalize ht : (⟨(i 0).1 * 2 + (i 1).1 / 1024, _⟩ : Fin cfg0.N) = t
  have hv : t.1 = (i 0).1 * 2 + (i 1).1 / 1024 := by rw [← ht]
  obtain ⟨e0, e1, e2⟩ := index15 t
  show i ∈ ((View.whole main_v39_4).slice (win0_15.rect t)).set
  rw [View.set_slice_whole, Rect.mem_set_unit]
  intro a
  match a with
  | ⟨0, _⟩ => show win0_15.index t 0 * 1 ≤ (i 0).1 ∧ (i 0).1 < win0_15.index t 0 * 1 + 1
              omega
  | ⟨1, _⟩ => show win0_15.index t 1 * 1024 ≤ (i 1).1 ∧ (i 1).1 < win0_15.index t 1 * 1024 + 1024
              omega
  | ⟨2, _⟩ => show win0_15.index t 2 * 512 ≤ (i 2).1 ∧ (i 2).1 < win0_15.index t 2 * 512 + 512
              omega

theorem final15 (c : Dev nD) : (dats m 0 c).arrAt 15 cfg0.N = whole15 m c :=
  (dats m 0 c).arrAt_eq_of_cover 15 (whole15 m c) (fun t _ => flushed15_eq m c t) cover15

/-- Result 5: the window keys. -/
def whole16 (c : Dev nD) : S8x2048x256.Idx → EReal := fun i => kw (T m c (i 0) (i 1)) (W m c) (i 2)

/-- What a step writes back is its block of the whole. -/
theorem flushed16_eq (c : Dev nD) (t : Fin cfg0.N) :
    (dats m 0 c).flushed 16 t = ((cfg0.win 16).blk t).view.read (Elt Ideal) (whole16 m c) := by
  have ht : t.val / 2 < 8 := by have : t.val < 16 := t.2.trans_eq N_0; omega
  rw [Value.flushed16]
  have hmain : ∀ j : S1x1024x256.Idx,
      out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) j
        = (((cfg0.win 16).blk t).view.read (Elt Ideal) (whole16 m c) : S1x1024x256.Idx → EReal) j :=
    of_ix3 fun r d => (out16_apply (fits m c t ht) r d).trans (read16 (whole16 m c) t ht r d).symm
  funext j
  exact hmain j

/-- Every index of the result lies in some step's block. -/
theorem cover16 (i : S8x2048x256.Idx) :
    ∃ t : Fin cfg0.N, (cfg0.win 16).flush t = true ∧ i ∈ ((cfg0.win 16).blk t).view.set := by
  have h0 : (i 0).1 < 8 := (i 0).2
  have h1 : (i 1).1 < 2048 := (i 1).2
  have h2 : (i 2).1 < 256 := (i 2).2
  refine ⟨⟨(i 0).1 * 2 + (i 1).1 / 1024, by rw [show cfg0.N = 16 from N_0]; omega⟩, flush0_16 _, ?_⟩
  generalize ht : (⟨(i 0).1 * 2 + (i 1).1 / 1024, _⟩ : Fin cfg0.N) = t
  have hv : t.1 = (i 0).1 * 2 + (i 1).1 / 1024 := by rw [← ht]
  obtain ⟨e0, e1, e2⟩ := index16 t
  show i ∈ ((View.whole main_v39_5).slice (win0_16.rect t)).set
  rw [View.set_slice_whole, Rect.mem_set_unit]
  intro a
  match a with
  | ⟨0, _⟩ => show win0_16.index t 0 * 1 ≤ (i 0).1 ∧ (i 0).1 < win0_16.index t 0 * 1 + 1
              omega
  | ⟨1, _⟩ => show win0_16.index t 1 * 1024 ≤ (i 1).1 ∧ (i 1).1 < win0_16.index t 1 * 1024 + 1024
              omega
  | ⟨2, _⟩ => show win0_16.index t 2 * 256 ≤ (i 2).1 ∧ (i 2).1 < win0_16.index t 2 * 256 + 256
              omega

theorem final16 (c : Dev nD) : (dats m 0 c).arrAt 16 cfg0.N = whole16 m c :=
  (dats m 0 c).arrAt_eq_of_cover 16 (whole16 m c) (fun t _ => flushed16_eq m c t) cover16

/-- Result 6: the window values. -/
def whole17 (c : Dev nD) : S8x2048x256.Idx → EReal := fun i => vw (T m c (i 0) (i 1)) (W m c) (i 2)

/-- What a step writes back is its block of the whole. -/
theorem flushed17_eq (c : Dev nD) (t : Fin cfg0.N) :
    (dats m 0 c).flushed 17 t = ((cfg0.win 17).blk t).view.read (Elt Ideal) (whole17 m c) := by
  have ht : t.val / 2 < 8 := by have : t.val < 16 := t.2.trans_eq N_0; omega
  rw [Value.flushed17]
  have hmain : ∀ j : S1x1024x256.Idx,
      out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) j
        = (((cfg0.win 17).blk t).view.read (Elt Ideal) (whole17 m c) : S1x1024x256.Idx → EReal) j :=
    of_ix3 fun r d => (out17_apply (fits m c t ht) r d).trans (read17 (whole17 m c) t ht r d).symm
  funext j
  exact hmain j

/-- Every index of the result lies in some step's block. -/
theorem cover17 (i : S8x2048x256.Idx) :
    ∃ t : Fin cfg0.N, (cfg0.win 17).flush t = true ∧ i ∈ ((cfg0.win 17).blk t).view.set := by
  have h0 : (i 0).1 < 8 := (i 0).2
  have h1 : (i 1).1 < 2048 := (i 1).2
  have h2 : (i 2).1 < 256 := (i 2).2
  refine ⟨⟨(i 0).1 * 2 + (i 1).1 / 1024, by rw [show cfg0.N = 16 from N_0]; omega⟩, flush0_17 _, ?_⟩
  generalize ht : (⟨(i 0).1 * 2 + (i 1).1 / 1024, _⟩ : Fin cfg0.N) = t
  have hv : t.1 = (i 0).1 * 2 + (i 1).1 / 1024 := by rw [← ht]
  obtain ⟨e0, e1, e2⟩ := index17 t
  show i ∈ ((View.whole main_v39_6).slice (win0_17.rect t)).set
  rw [View.set_slice_whole, Rect.mem_set_unit]
  intro a
  match a with
  | ⟨0, _⟩ => show win0_17.index t 0 * 1 ≤ (i 0).1 ∧ (i 0).1 < win0_17.index t 0 * 1 + 1
              omega
  | ⟨1, _⟩ => show win0_17.index t 1 * 1024 ≤ (i 1).1 ∧ (i 1).1 < win0_17.index t 1 * 1024 + 1024
              omega
  | ⟨2, _⟩ => show win0_17.index t 2 * 256 ≤ (i 2).1 ∧ (i 2).1 < win0_17.index t 2 * 256 + 256
              omega

theorem final17 (c : Dev nD) : (dats m 0 c).arrAt 17 cfg0.N = whole17 m c :=
  (dats m 0 c).arrAt_eq_of_cover 17 (whole17 m c) (fun t _ => flushed17_eq m c t) cover17

end Cert.InprojIdeal.Mix
-- ==== Proof.Inproj.RefHead.lean ====
module

public import proofs.«01_k».proof.Proof.Inproj.Args
public import proofs.«01_k».proof.Proof.Gen.InprojRefIdeal.Read
public import Idealize.ShloMosaic.Lib.Pointwise
public import Idealize.ShloMosaic.Lib.IdealHost

/-!
# The reference's columns and heads

The norm, the projection, the heads and the heads' norm, read at a token.
-/

@[expose] public section

noncomputable section

namespace Cert.InprojRefIdeal.Mix

open Idealize.ShloMosaic Cert.InprojRefIdeal Cert.InprojRefIdeal.Gen Cert.InprojRefIdeal.Read Cert.Rope
open Cert.Mix (proj normed)

variable (x0 : S8x2048x1024.Idx → EReal) (x1 : S8x6144.Idx → EReal) (x2 : S1024.Idx → EReal) (x3 : S1024x4608.Idx → EReal)
  (x4 x5 : S2048x32.Idx → EReal) (x6 : S256x512.Idx → EReal) (x7 x8 : S64.Idx → EReal)

/-- The token and the weights the reference's stages are about. -/
abbrev T (b : Fin 8) (l : Fin 2048) : Token := tokenAt x0 x1 x4 x5 b l
abbrev W : Weights := weightsOf x2 x3 x6 x7 x8

theorem sum1 (b : Fin 8) (l : Fin 2048) :
    val_main_v7 (F := Ideal) x0 (ix2 b l) = ∑ k, x0 (ix3 b l k) * x0 (ix3 b l k) := by
  rw [val_main_v7_apply]
  refine (congrArg₂ (· + ·) (show _ = (0 : EReal) from ?_) (Finset.sum_congr rfl fun k _ => ?_)).trans (zero_add _)
  · exact (val_main_cst_apply _).trans (Ideal.ofBits_zero .f32)
  · have e : idx_main_v7 (ix2 b l) k = ix3 b l k := by
      funext z
      fin_cases z <;> rfl
    rw [val_main_v6_apply, e]
    rfl

theorem norm1 (b : Fin 8) (l : Fin 2048) (d : Fin 1024) :
    val_main_v26 (F := Ideal) x0 x1 x2 (ix3 b l d)
      = normed (T x0 x1 x4 x5 b l).x (W x2 x3 x6 x7 x8).n1 (T x0 x1 x4 x5 b l).sh (T x0 x1 x4 x5 b l).sc d := by
  have e0 : idx_main_v8 (idx_main_v14 (ix3 b l d)) = ix2 b l := by
    funext z
    fin_cases z <;> rfl
  have e1 : idx_main_v16 (idx_main_v17 (ix3 b l d)) = ix1 d := by
    funext z
    fin_cases z; rfl
  have e2 : idx_main_v1 (idx_main_v19 (idx_main_v22 (ix3 b l d))) = ix2 b ⟨1024 + d.1, by omega⟩ := by
    funext z
    fin_cases z <;> rfl
  have e3 : idx_main_v0 (idx_main_v24 (idx_main_v25 (ix3 b l d))) = ix2 b ⟨d.1, by omega⟩ := by
    funext z
    fin_cases z <;> rfl
  rw [val_main_v26_apply, val_main_v23_apply, val_main_v18_apply, val_main_v15_apply, val_main_v14_apply, val_main_v13_apply,
    val_main_v12_apply, val_main_v10_apply, val_main_v8_apply, val_main_v9_apply, val_main_v11_apply, val_main_cst_0_apply,
    val_main_cst_1_apply, val_main_v17_apply, val_main_v16_apply, val_main_v22_apply, val_main_v21_apply, val_main_v20_apply,
    val_main_cst_2_apply, val_main_v19_apply, val_main_v1_apply, val_main_v25_apply, val_main_v24_apply, val_main_v0_apply,
    e0, e1, e2, e3, sum1]
  rfl

/-- The projection's first 1536 columns. -/
theorem columns_apply (b : Fin 8) (l : Fin 2048) (f : Fin 1536) (k : Fin 4608) (hk : k.1 = f.1) :
    val_main_v27 (F := Ideal) x0 x1 x2 x3 (ix3 b l k) = columns (T x0 x1 x4 x5 b l) (W x2 x3 x6 x7 x8) f := by
  obtain ⟨k, hk'⟩ := k
  obtain rfl : k = f.1 := hk
  rw [val_main_v27_apply]
  unfold columns proj
  refine Finset.sum_congr rfl fun k _ => congrArg₂ (· * ·) ?_ ?_
  · refine Eq.trans (congrArg _ ?_) (norm1 x0 x1 x2 x3 x4 x5 x6 x7 x8 b l k)
    funext z
    fin_cases z <;> rfl
  · refine congrArg x3 ?_
    funext z
    fin_cases z <;> rfl

/-- The channel transform. -/
theorem fcs_apply (b : Fin 8) (l : Fin 2048) (d : Fin 512) :
    val_main_v151 (F := Ideal) x0 x1 x2 x3 x6 (ix3 b l d) = fcs (T x0 x1 x4 x5 b l) (W x2 x3 x6 x7 x8) d := by
  rw [val_main_v151_apply]
  refine (val_main_v150_apply _ _ _ _ _ _).trans ?_
  unfold fcs proj
  refine Finset.sum_congr rfl fun k _ => congrArg₂ (· * ·) ?_ ?_
  · rw [val_main_v28_apply]
    refine Eq.trans (congrArg _ ?_) (columns_apply x0 x1 x2 x3 x4 x5 x6 x7 x8 b l ⟨k.1, by omega⟩ ⟨k.1, by omega⟩ rfl)
    funext z
    fin_cases z <;> rfl
  · refine congrArg x6 ?_
    funext z
    fin_cases z <;> rfl

/-- A head's column is a column. -/
theorem head_apply (o : ℕ) {H : ℕ} (hb : o + 64 * H ≤ 1536) (b : Fin 8) (l : Fin 2048) (h : Fin H) (d : Fin 64) (k : Fin 4608)
    (hk : k.1 = o + (64 * h.1 + d.1)) :
    val_main_v27 (F := Ideal) x0 x1 x2 x3 (ix3 b l k) = heads o hb (columns (T x0 x1 x4 x5 b l) (W x2 x3 x6 x7 x8)) h d :=
  columns_apply x0 x1 x2 x3 x4 x5 x6 x7 x8 b l ⟨o + (64 * h.1 + d.1), by omega⟩ k hk

/-- Global queries. -/
theorem head_q (b : Fin 8) (l : Fin 2048) (h : Fin 8) :
    (fun d : Fin 64 => val_main_v36 (F := Ideal) x0 x1 x2 x3 (ix4 b l h d))
      = heads 256 (by omega) (columns (T x0 x1 x4 x5 b l) (W x2 x3 x6 x7 x8)) h := by
  funext d
  have key := head_apply x0 x1 x2 x3 x4 x5 x6 x7 x8 256 (H := 8) (by omega) b l h d
  unfold val_main_v36 val_main_v29
  generalize val_main_v27 (F := Ideal) x0 x1 x2 x3 = y at key ⊢
  pointwise
  exact key _ (by dsimp only; omega)

/-- Global keys. -/
theorem head_k (b : Fin 8) (l : Fin 2048) (h : Fin 2) :
    (fun d : Fin 64 => val_main_v71 (F := Ideal) x0 x1 x2 x3 (ix4 b l h d))
      = heads 768 (by omega) (columns (T x0 x1 x4 x5 b l) (W x2 x3 x6 x7 x8)) h := by
  funext d
  have key := head_apply x0 x1 x2 x3 x4 x5 x6 x7 x8 768 (H := 2) (by omega) b l h d
  unfold val_main_v71 val_main_v30
  generalize val_main_v27 (F := Ideal) x0 x1 x2 x3 = y at key ⊢
  pointwise
  exact key _ (by dsimp only; omega)

/-- Global values. -/
theorem head_v (b : Fin 8) (l : Fin 2048) (h : Fin 2) :
    (fun d : Fin 64 => val_main_v162 (F := Ideal) x0 x1 x2 x3 (ix4 b l h d))
      = heads 896 (by omega) (columns (T x0 x1 x4 x5 b l) (W x2 x3 x6 x7 x8)) h := by
  funext d
  have key := head_apply x0 x1 x2 x3 x4 x5 x6 x7 x8 896 (H := 2) (by omega) b l h d
  unfold val_main_v162 val_main_v31
  generalize val_main_v27 (F := Ideal) x0 x1 x2 x3 = y at key ⊢
  pointwise
  exact key _ (by dsimp only; omega)

/-- Window queries. -/
theorem head_wq (b : Fin 8) (l : Fin 2048) (h : Fin 4) :
    (fun d : Fin 64 => val_main_v106 (F := Ideal) x0 x1 x2 x3 (ix4 b l h d))
      = heads 1024 (by omega) (columns (T x0 x1 x4 x5 b l) (W x2 x3 x6 x7 x8)) h := by
  funext d
  have key := head_apply x0 x1 x2 x3 x4 x5 x6 x7 x8 1024 (H := 4) (by omega) b l h d
  unfold val_main_v106 val_main_v32
  generalize val_main_v27 (F := Ideal) x0 x1 x2 x3 = y at key ⊢
  pointwise
  exact key _ (by dsimp only; omega)

/-- Window keys. -/
theorem head_wk (b : Fin 8) (l : Fin 2048) (h : Fin 2) :
    (fun d : Fin 64 => val_main_v128 (F := Ideal) x0 x1 x2 x3 (ix4 b l h d))
      = heads 1280 (by omega) (columns (T x0 x1 x4 x5 b l) (W x2 x3 x6 x7 x8)) h := by
  funext d
  have key := head_apply x0 x1 x2 x3 x4 x5 x6 x7 x8 1280 (H := 2) (by omega) b l h d
  unfold val_main_v128 val_main_v33
  generalize val_main_v27 (F := Ideal) x0 x1 x2 x3 = y at key ⊢
  pointwise
  exact key _ (by dsimp only; omega)

/-- Window values. -/
theorem head_wv (b : Fin 8) (l : Fin 2048) (h : Fin 2) :
    (fun d : Fin 64 => val_main_v177 (F := Ideal) x0 x1 x2 x3 (ix4 b l h d))
      = heads 1408 (by omega) (columns (T x0 x1 x4 x5 b l) (W x2 x3 x6 x7 x8)) h := by
  funext d
  have key := head_apply x0 x1 x2 x3 x4 x5 x6 x7 x8 1408 (H := 2) (by omega) b l h d
  unfold val_main_v177 val_main_v34
  generalize val_main_v27 (F := Ideal) x0 x1 x2 x3 = y at key ⊢
  pointwise
  exact key _ (by dsimp only; omega)

/-- The sum of a queries' head's squares. -/
theorem sum_q (b : Fin 8) (l : Fin 2048) (h : Fin 8) :
    val_main_v38 (F := Ideal) x0 x1 x2 x3 (ix3 b l h)
      = ∑ k : Fin 64, val_main_v36 (F := Ideal) x0 x1 x2 x3 (ix4 b l h k) * val_main_v36 (F := Ideal) x0 x1 x2 x3 (ix4 b l h k) := by
  rw [val_main_v38_apply]
  refine (congrArg₂ (· + ·) (show _ = (0 : EReal) from ?_) (Finset.sum_congr rfl fun k _ => ?_)).trans (zero_add _)
  · exact (val_main_cst_3_apply _).trans (Ideal.ofBits_zero .f32)
  · have e : idx_main_v38 (ix3 b l h) k = ix4 b l h k := by
      funext z
      fin_cases z <;> rfl
    rw [val_main_v37_apply, e]
    rfl

/-- The norm of the queries' heads. -/
theorem unit_q (b : Fin 8) (l : Fin 2048) (h : Fin 8) :
    (fun d : Fin 64 => val_main_v49 (F := Ideal) x0 x1 x2 x3 x7 (ix4 b l h d))
      = meanNorm (fun d => val_main_v36 (F := Ideal) x0 x1 x2 x3 (ix4 b l h d)) fun d => x7 (ix1 d) := by
  funext d
  have hs := sum_q x0 x1 x2 x3 b l h
  unfold val_main_v49 val_main_v48 val_main_v47 val_main_v46 val_main_v45 val_main_v44 val_main_v43 val_main_v42
    val_main_v41 val_main_v40 val_main_v39
  generalize val_main_v38 (F := Ideal) x0 x1 x2 x3 = s at hs ⊢
  generalize val_main_v36 (F := Ideal) x0 x1 x2 x3 = y at hs ⊢
  pointwise
  rw [hs]
  rfl

/-- The sum of a keys' head's squares. -/
theorem sum_k (b : Fin 8) (l : Fin 2048) (h : Fin 2) :
    val_main_v73 (F := Ideal) x0 x1 x2 x3 (ix3 b l h)
      = ∑ k : Fin 64, val_main_v71 (F := Ideal) x0 x1 x2 x3 (ix4 b l h k) * val_main_v71 (F := Ideal) x0 x1 x2 x3 (ix4 b l h k) := by
  rw [val_main_v73_apply]
  refine (congrArg₂ (· + ·) (show _ = (0 : EReal) from ?_) (Finset.sum_congr rfl fun k _ => ?_)).trans (zero_add _)
  · exact (val_main_cst_6_apply _).trans (Ideal.ofBits_zero .f32)
  · have e : idx_main_v73 (ix3 b l h) k = ix4 b l h k := by
      funext z
      fin_cases z <;> rfl
    rw [val_main_v72_apply, e]
    rfl

/-- The norm of the keys' heads. -/
theorem unit_k (b : Fin 8) (l : Fin 2048) (h : Fin 2) :
    (fun d : Fin 64 => val_main_v84 (F := Ideal) x0 x1 x2 x3 x8 (ix4 b l h d))
      = meanNorm (fun d => val_main_v71 (F := Ideal) x0 x1 x2 x3 (ix4 b l h d)) fun d => x8 (ix1 d) := by
  funext d
  have hs := sum_k x0 x1 x2 x3 b l h
  unfold val_main_v84 val_main_v83 val_main_v82 val_main_v81 val_main_v80 val_main_v79 val_main_v78 val_main_v77
    val_main_v76 val_main_v75 val_main_v74
  generalize val_main_v73 (F := Ideal) x0 x1 x2 x3 = s at hs ⊢
  generalize val_main_v71 (F := Ideal) x0 x1 x2 x3 = y at hs ⊢
  pointwise
  rw [hs]
  rfl

end Cert.InprojRefIdeal.Mix
-- ==== Proof.Inproj.RefTurn.lean ====
module

public import proofs.«01_k».proof.Proof.Inproj.Args
public import proofs.«01_k».proof.Proof.Gen.InprojRefIdeal.Read
public import Idealize.ShloMosaic.Lib.Pointwise
public import Idealize.ShloMosaic.Lib.IdealHost

/-!
# The reference's rotations and layouts

Splitting a head into pairs of columns, rotating each and joining them again is `rotate`; filling a
head's free lanes and joining the heads is `laid`.
-/

@[expose] public section

noncomputable section

namespace Cert.InprojRefIdeal.Mix

open Idealize.ShloMosaic Cert.InprojRefIdeal Cert.InprojRefIdeal.Gen Cert.InprojRefIdeal.Read Cert.Rope
open Cert.Mix (proj normed)

variable (x0 : S8x2048x1024.Idx → EReal) (x1 : S8x6144.Idx → EReal) (x2 : S1024.Idx → EReal) (x3 : S1024x4608.Idx → EReal)
  (x4 x5 : S2048x32.Idx → EReal) (x6 : S256x512.Idx → EReal) (x7 x8 : S64.Idx → EReal)

/-- Pairs split off, rotated and joined again. -/
theorem turned (c s : Fin 32 → EReal) (u : Fin 64 → EReal) (d : Fin 64) :
    (if d.1 % 2 < 1 then u ⟨d.1 / 2 * 2, by omega⟩ * c ⟨d.1 / 2, by omega⟩ - u ⟨d.1 / 2 * 2 + 1, by omega⟩ * s ⟨d.1 / 2, by omega⟩
      else u ⟨d.1 / 2 * 2, by omega⟩ * s ⟨d.1 / 2, by omega⟩ + u ⟨d.1 / 2 * 2 + 1, by omega⟩ * c ⟨d.1 / 2, by omega⟩)
      = rotate c s u d := by
  unfold rotate
  by_cases h : d.1 % 2 = 0
  · rw [if_pos h, if_pos (by omega)]
    have e0 : (⟨d.1 / 2 * 2, by omega⟩ : Fin 64) = d := Fin.ext (by show d.1 / 2 * 2 = d.1; omega)
    have e1 : (⟨d.1 / 2 * 2 + 1, by omega⟩ : Fin 64) = ⟨(d.1 + 1) % 64, by omega⟩ :=
      Fin.ext (by show d.1 / 2 * 2 + 1 = (d.1 + 1) % 64; omega)
    rw [e0, e1]
  · rw [if_neg h, if_neg (by omega)]
    have e0 : (⟨d.1 / 2 * 2, by omega⟩ : Fin 64) = ⟨d.1 - 1, by omega⟩ := Fin.ext (by show d.1 / 2 * 2 = d.1 - 1; omega)
    have e1 : (⟨d.1 / 2 * 2 + 1, by omega⟩ : Fin 64) = d := Fin.ext (by show d.1 / 2 * 2 + 1 = d.1; omega)
    rw [e0, e1]

/-- The rotation of the global queries. -/
theorem turn_q (b : Fin 8) (l : Fin 2048) (g : Fin 8) :
    (fun d : Fin 64 => val_main_v70 (F := Ideal) x0 x1 x2 x3 x4 x5 x7 (ix4 b l g d))
      = rotate (tokenAt x0 x1 x4 x5 b l).cos (tokenAt x0 x1 x4 x5 b l).sin (fun d => val_main_v49 (F := Ideal) x0 x1 x2 x3 x7 (ix4 b l g d)) := by
  funext d
  unfold val_main_v70 val_main_v69 val_main_v68 val_main_v67 val_main_v66 val_main_v65 val_main_v64 val_main_v63
    val_main_v62 val_main_v61 val_main_v60 val_main_v59 val_main_v58 val_main_v57 val_main_v56 val_main_v55 val_main_v54
    val_main_v53 val_main_v52 val_main_v51 val_main_v50
  generalize val_main_v49 (F := Ideal) x0 x1 x2 x3 x7 = y
  pointwise
  exact turned (tokenAt x0 x1 x4 x5 b l).cos (tokenAt x0 x1 x4 x5 b l).sin (fun d => y (ix4 b l g d)) d

/-- The rotation of the global keys. -/
theorem turn_k (b : Fin 8) (l : Fin 2048) (g : Fin 2) :
    (fun d : Fin 64 => val_main_v105 (F := Ideal) x0 x1 x2 x3 x4 x5 x8 (ix4 b l g d))
      = rotate (tokenAt x0 x1 x4 x5 b l).cos (tokenAt x0 x1 x4 x5 b l).sin (fun d => val_main_v84 (F := Ideal) x0 x1 x2 x3 x8 (ix4 b l g d)) := by
  funext d
  unfold val_main_v105 val_main_v104 val_main_v103 val_main_v102 val_main_v101 val_main_v100 val_main_v99 val_main_v98
    val_main_v97 val_main_v96 val_main_v95 val_main_v94 val_main_v93 val_main_v92 val_main_v91 val_main_v90 val_main_v89
    val_main_v88 val_main_v87 val_main_v86 val_main_v85
  generalize val_main_v84 (F := Ideal) x0 x1 x2 x3 x8 = y
  pointwise
  exact turned (tokenAt x0 x1 x4 x5 b l).cos (tokenAt x0 x1 x4 x5 b l).sin (fun d => y (ix4 b l g d)) d

/-- The rotation of the window queries. -/
theorem turn_wq (b : Fin 8) (l : Fin 2048) (g : Fin 4) :
    (fun d : Fin 64 => val_main_v127 (F := Ideal) x0 x1 x2 x3 x4 x5 (ix4 b l g d))
      = rotate (tokenAt x0 x1 x4 x5 b l).cos (tokenAt x0 x1 x4 x5 b l).sin (fun d => val_main_v106 (F := Ideal) x0 x1 x2 x3 (ix4 b l g d)) := by
  funext d
  unfold val_main_v127 val_main_v126 val_main_v125 val_main_v124 val_main_v123 val_main_v122 val_main_v121 val_main_v120
    val_main_v119 val_main_v118 val_main_v117 val_main_v116 val_main_v115 val_main_v114 val_main_v113 val_main_v112
    val_main_v111 val_main_v110 val_main_v109 val_main_v108 val_main_v107
  generalize val_main_v106 (F := Ideal) x0 x1 x2 x3 = y
  pointwise
  exact turned (tokenAt x0 x1 x4 x5 b l).cos (tokenAt x0 x1 x4 x5 b l).sin (fun d => y (ix4 b l g d)) d

/-- The rotation of the window keys. -/
theorem turn_wk (b : Fin 8) (l : Fin 2048) (g : Fin 2) :
    (fun d : Fin 64 => val_main_v149 (F := Ideal) x0 x1 x2 x3 x4 x5 (ix4 b l g d))
      = rotate (tokenAt x0 x1 x4 x5 b l).cos (tokenAt x0 x1 x4 x5 b l).sin (fun d => val_main_v128 (F := Ideal) x0 x1 x2 x3 (ix4 b l g d)) := by
  funext d
  unfold val_main_v149 val_main_v148 val_main_v147 val_main_v146 val_main_v145 val_main_v144 val_main_v143 val_main_v142
    val_main_v141 val_main_v140 val_main_v139 val_main_v138 val_main_v137 val_main_v136 val_main_v135 val_main_v134
    val_main_v133 val_main_v132 val_main_v131 val_main_v130 val_main_v129
  generalize val_main_v128 (F := Ideal) x0 x1 x2 x3 = y
  pointwise
  exact turned (tokenAt x0 x1 x4 x5 b l).cos (tokenAt x0 x1 x4 x5 b l).sin (fun d => y (ix4 b l g d)) d

end Cert.InprojRefIdeal.Mix
-- ==== Proof.Inproj.RefLay.lean ====
module

public import proofs.«01_k».proof.Proof.Inproj.Args
public import proofs.«01_k».proof.Proof.Gen.InprojRefIdeal.Read
public import Idealize.ShloMosaic.Lib.Pointwise
public import Idealize.ShloMosaic.Lib.IdealHost

/-!
# The reference's layouts

Filling a head's free lanes and joining the heads is `laid`.
-/

@[expose] public section

noncomputable section

namespace Cert.InprojRefIdeal.Mix

open Idealize.ShloMosaic Cert.InprojRefIdeal Cert.InprojRefIdeal.Gen Cert.InprojRefIdeal.Read Cert.Rope
open Cert.Mix (proj normed)

variable (x0 : S8x2048x1024.Idx → EReal) (x1 : S8x6144.Idx → EReal) (x2 : S1024.Idx → EReal) (x3 : S1024x4608.Idx → EReal)
  (x4 x5 : S2048x32.Idx → EReal) (x6 : S256x512.Idx → EReal) (x7 x8 : S64.Idx → EReal)

/-- Heads of 64 columns joined to as many columns holding the value of `bits`. -/
theorem lay_of {H n : ℕ} (bits : BitVec 32) (hn : n = 128 * H) (x e : (⟨4, ![8, 2048, H, 64]⟩ : Shape).Idx → EReal)
    (h : Shape.Concatenates [(⟨4, ![8, 2048, H, 64]⟩ : Shape), ⟨4, ![8, 2048, H, 64]⟩] ⟨4, ![8, 2048, H, 128]⟩ 3)
    (b : Fin 8) (l : Fin 2048) (c : Fin n) (g : Fin H) (hg : g.1 = c.1 / 128) (p : Fin 128) (hp : p.1 = c.1 % 128)
    (he : ∀ i, e i = Ideal.ofBits .f32 bits) (u : Fin H → Fin 64 → EReal) (hx : ∀ k d, x (ix4 b l k d) = u k d) :
    concatenate (⟨4, ![8, 2048, H, 128]⟩ : Shape) 3 [⟨⟨4, ![8, 2048, H, 64]⟩, x⟩, ⟨⟨4, ![8, 2048, H, 64]⟩, e⟩] h (ix4 b l g p)
      = laid bits hn u c := by
  obtain ⟨g, hg'⟩ := g
  obtain ⟨p, hp'⟩ := p
  obtain rfl : g = c.1 / 128 := hg
  obtain rfl : p = c.1 % 128 := hp
  unfold laid
  by_cases hc : c.1 % 128 < 64
  · rw [dif_pos hc, ← hx]
    refine concatenate_pair_apply_left 3 x e h _ rfl (ix4 b l ⟨c.1 / 128, hg'⟩ (⟨c.1 % 128, hc⟩ : Fin 64)) fun z => ?_
    fin_cases z <;> rfl
  · rw [dif_neg hc]
    refine (concatenate_pair_apply_right 3 x e h _ rfl rfl (ix4 b l ⟨c.1 / 128, hg'⟩ (⟨c.1 % 128 - 64, by omega⟩ : Fin 64)) ?_ ?_).trans (he _)
    · intro z hz
      fin_cases z
      · rfl
      · rfl
      · rfl
      · exact absurd rfl hz
    · show c.1 % 128 - 64 + 64 = c.1 % 128
      omega

/-- Lane `c` of eight heads. -/
theorem lane_eight (b : Fin 8) (l : Fin 2048) (c : Fin 1024) :
    idx_main_v156 (ix3 b l c) = ix4 b l (⟨c.1 / 128, by omega⟩ : Fin 8) (⟨c.1 % 128, by omega⟩ : Fin 128) := by
  funext z
  apply Fin.ext
  match z with
  | ⟨0, _⟩ => show ((b.1 * 2048 + l.1) * 1024 + c.1) / 2097152 = b.1
              omega
  | ⟨1, _⟩ => show ((b.1 * 2048 + l.1) * 1024 + c.1) / 1024 % 2048 = l.1
              omega
  | ⟨2, _⟩ => show ((b.1 * 2048 + l.1) * 1024 + c.1) / 128 % 8 = c.1 / 128
              omega
  | ⟨3, _⟩ => show ((b.1 * 2048 + l.1) * 1024 + c.1) % 128 = c.1 % 128
              omega

/-- Lane `c` of four heads. -/
theorem lane_four (b : Fin 8) (l : Fin 2048) (c : Fin 512) :
    idx_main_v171 (ix3 b l c) = ix4 b l (⟨c.1 / 128, by omega⟩ : Fin 4) (⟨c.1 % 128, by omega⟩ : Fin 128) := by
  funext z
  apply Fin.ext
  match z with
  | ⟨0, _⟩ => show ((b.1 * 2048 + l.1) * 512 + c.1) / 1048576 = b.1
              omega
  | ⟨1, _⟩ => show ((b.1 * 2048 + l.1) * 512 + c.1) / 512 % 2048 = l.1
              omega
  | ⟨2, _⟩ => show ((b.1 * 2048 + l.1) * 512 + c.1) / 128 % 4 = c.1 / 128
              omega
  | ⟨3, _⟩ => show ((b.1 * 2048 + l.1) * 512 + c.1) % 128 = c.1 % 128
              omega

/-- Lane `c` of two heads. -/
theorem lane_two (b : Fin 8) (l : Fin 2048) (c : Fin 256) :
    idx_main_v160 (ix3 b l c) = ix4 b l (⟨c.1 / 128, by omega⟩ : Fin 2) (⟨c.1 % 128, by omega⟩ : Fin 128) := by
  funext z
  apply Fin.ext
  match z with
  | ⟨0, _⟩ => show ((b.1 * 2048 + l.1) * 256 + c.1) / 524288 = b.1
              omega
  | ⟨1, _⟩ => show ((b.1 * 2048 + l.1) * 256 + c.1) / 256 % 2048 = l.1
              omega
  | ⟨2, _⟩ => show ((b.1 * 2048 + l.1) * 256 + c.1) / 128 % 2 = c.1 / 128
              omega
  | ⟨3, _⟩ => show ((b.1 * 2048 + l.1) * 256 + c.1) % 128 = c.1 % 128
              omega

/-- Global queries. -/
theorem lay_qg (b : Fin 8) (l : Fin 2048) (c : Fin 1024) :
    val_main_v157 (F := Ideal) x0 x1 x2 x3 x4 x5 x7 (ix3 b l c)
      = laid 0x00000000#32 (n := 1024) (H := 8) rfl (fun h => eighth fun d => val_main_v70 (F := Ideal) x0 x1 x2 x3 x4 x5 x7 (ix4 b l h d)) c := by
  have he : ∀ i, val_main_v154 (F := Ideal) i = Ideal.ofBits .f32 0x00000000#32 := fun i =>
    (val_main_v154_apply i).trans (val_main_cst_10_apply _)
  have hx : ∀ h d, val_main_v153 (F := Ideal) x0 x1 x2 x3 x4 x5 x7 (ix4 b l h d)
      = eighth (fun d => val_main_v70 (F := Ideal) x0 x1 x2 x3 x4 x5 x7 (ix4 b l h d)) d := fun h d => by
    rw [val_main_v153_apply, val_main_v152_apply, val_main_cst_9_apply]
    rfl
  have hw : val_main_v157 (F := Ideal) x0 x1 x2 x3 x4 x5 x7 (ix3 b l c)
      = val_main_v155 (F := Ideal) x0 x1 x2 x3 x4 x5 x7 (ix4 b l (⟨c.1 / 128, by omega⟩ : Fin 8) (⟨c.1 % 128, by omega⟩ : Fin 128)) := by
    rw [val_main_v157_apply, val_main_v156_apply,
      show idx_main_v156 (ix3 b l c) = ix4 b l (⟨c.1 / 128, by omega⟩ : Fin 8) (⟨c.1 % 128, by omega⟩ : Fin 128) from lane_eight b l c]
    rfl
  rw [hw]
  unfold val_main_v155
  generalize val_main_v153 (F := Ideal) x0 x1 x2 x3 x4 x5 x7 = x at hx ⊢
  generalize val_main_v70 (F := Ideal) x0 x1 x2 x3 x4 x5 x7 = y at hx ⊢
  generalize val_main_v154 (F := Ideal) = e at he ⊢
  exact lay_of 0x00000000#32 (n := 1024) (H := 8) rfl x e _ b l c ⟨c.1 / 128, by omega⟩ rfl ⟨c.1 % 128, by omega⟩ rfl he _
    hx

/-- Global keys. -/
theorem lay_kg (b : Fin 8) (l : Fin 2048) (c : Fin 256) :
    val_main_v161 (F := Ideal) x0 x1 x2 x3 x4 x5 x8 (ix3 b l c)
      = laid 0x00000000#32 (n := 256) (H := 2) rfl (fun h => fun d => val_main_v105 (F := Ideal) x0 x1 x2 x3 x4 x5 x8 (ix4 b l h d)) c := by
  have he : ∀ i, val_main_v158 (F := Ideal) i = Ideal.ofBits .f32 0x00000000#32 := fun i =>
    (val_main_v158_apply i).trans (val_main_cst_11_apply _)
  have hw : val_main_v161 (F := Ideal) x0 x1 x2 x3 x4 x5 x8 (ix3 b l c)
      = val_main_v159 (F := Ideal) x0 x1 x2 x3 x4 x5 x8 (ix4 b l (⟨c.1 / 128, by omega⟩ : Fin 2) (⟨c.1 % 128, by omega⟩ : Fin 128)) := by
    rw [val_main_v161_apply, val_main_v160_apply,
      show idx_main_v160 (ix3 b l c) = ix4 b l (⟨c.1 / 128, by omega⟩ : Fin 2) (⟨c.1 % 128, by omega⟩ : Fin 128) from lane_two b l c]
    rfl
  rw [hw]
  unfold val_main_v159
  generalize val_main_v105 (F := Ideal) x0 x1 x2 x3 x4 x5 x8 = y
  generalize val_main_v158 (F := Ideal) = e at he ⊢
  exact lay_of 0x00000000#32 (n := 256) (H := 2) rfl y e _ b l c ⟨c.1 / 128, by omega⟩ rfl ⟨c.1 % 128, by omega⟩ rfl he _
    (fun _ _ => rfl)

/-- Global values. -/
theorem lay_vg (b : Fin 8) (l : Fin 2048) (c : Fin 256) :
    val_main_v166 (F := Ideal) x0 x1 x2 x3 (ix3 b l c)
      = laid 0x3F800000#32 (n := 256) (H := 2) rfl (fun h => fun d => val_main_v162 (F := Ideal) x0 x1 x2 x3 (ix4 b l h d)) c := by
  have he : ∀ i, val_main_v163 (F := Ideal) i = Ideal.ofBits .f32 0x3F800000#32 := fun i =>
    (val_main_v163_apply i).trans (val_main_cst_12_apply _)
  have hw : val_main_v166 (F := Ideal) x0 x1 x2 x3 (ix3 b l c)
      = val_main_v164 (F := Ideal) x0 x1 x2 x3 (ix4 b l (⟨c.1 / 128, by omega⟩ : Fin 2) (⟨c.1 % 128, by omega⟩ : Fin 128)) := by
    rw [val_main_v166_apply, val_main_v165_apply,
      show idx_main_v165 (ix3 b l c) = ix4 b l (⟨c.1 / 128, by omega⟩ : Fin 2) (⟨c.1 % 128, by omega⟩ : Fin 128) from lane_two b l c]
    rfl
  rw [hw]
  unfold val_main_v164
  generalize val_main_v162 (F := Ideal) x0 x1 x2 x3 = y
  generalize val_main_v163 (F := Ideal) = e at he ⊢
  exact lay_of 0x3F800000#32 (n := 256) (H := 2) rfl y e _ b l c ⟨c.1 / 128, by omega⟩ rfl ⟨c.1 % 128, by omega⟩ rfl he _
    (fun _ _ => rfl)

/-- Window queries. -/
theorem lay_qw (b : Fin 8) (l : Fin 2048) (c : Fin 512) :
    val_main_v172 (F := Ideal) x0 x1 x2 x3 x4 x5 (ix3 b l c)
      = laid 0x00000000#32 (n := 512) (H := 4) rfl (fun h => eighth fun d => val_main_v127 (F := Ideal) x0 x1 x2 x3 x4 x5 (ix4 b l h d)) c := by
  have he : ∀ i, val_main_v169 (F := Ideal) i = Ideal.ofBits .f32 0x00000000#32 := fun i =>
    (val_main_v169_apply i).trans (val_main_cst_14_apply _)
  have hx : ∀ h d, val_main_v168 (F := Ideal) x0 x1 x2 x3 x4 x5 (ix4 b l h d)
      = eighth (fun d => val_main_v127 (F := Ideal) x0 x1 x2 x3 x4 x5 (ix4 b l h d)) d := fun h d => by
    rw [val_main_v168_apply, val_main_v167_apply, val_main_cst_13_apply]
    rfl
  have hw : val_main_v172 (F := Ideal) x0 x1 x2 x3 x4 x5 (ix3 b l c)
      = val_main_v170 (F := Ideal) x0 x1 x2 x3 x4 x5 (ix4 b l (⟨c.1 / 128, by omega⟩ : Fin 4) (⟨c.1 % 128, by omega⟩ : Fin 128)) := by
    rw [val_main_v172_apply, val_main_v171_apply,
      show idx_main_v171 (ix3 b l c) = ix4 b l (⟨c.1 / 128, by omega⟩ : Fin 4) (⟨c.1 % 128, by omega⟩ : Fin 128) from lane_four b l c]
    rfl
  rw [hw]
  unfold val_main_v170
  generalize val_main_v168 (F := Ideal) x0 x1 x2 x3 x4 x5 = x at hx ⊢
  generalize val_main_v127 (F := Ideal) x0 x1 x2 x3 x4 x5 = y at hx ⊢
  generalize val_main_v169 (F := Ideal) = e at he ⊢
  exact lay_of 0x00000000#32 (n := 512) (H := 4) rfl x e _ b l c ⟨c.1 / 128, by omega⟩ rfl ⟨c.1 % 128, by omega⟩ rfl he _
    hx

/-- Window keys. -/
theorem lay_kw (b : Fin 8) (l : Fin 2048) (c : Fin 256) :
    val_main_v176 (F := Ideal) x0 x1 x2 x3 x4 x5 (ix3 b l c)
      = laid 0x00000000#32 (n := 256) (H := 2) rfl (fun h => fun d => val_main_v149 (F := Ideal) x0 x1 x2 x3 x4 x5 (ix4 b l h d)) c := by
  have he : ∀ i, val_main_v173 (F := Ideal) i = Ideal.ofBits .f32 0x00000000#32 := fun i =>
    (val_main_v173_apply i).trans (val_main_cst_15_apply _)
  have hw : val_main_v176 (F := Ideal) x0 x1 x2 x3 x4 x5 (ix3 b l c)
      = val_main_v174 (F := Ideal) x0 x1 x2 x3 x4 x5 (ix4 b l (⟨c.1 / 128, by omega⟩ : Fin 2) (⟨c.1 % 128, by omega⟩ : Fin 128)) := by
    rw [val_main_v176_apply, val_main_v175_apply,
      show idx_main_v175 (ix3 b l c) = ix4 b l (⟨c.1 / 128, by omega⟩ : Fin 2) (⟨c.1 % 128, by omega⟩ : Fin 128) from lane_two b l c]
    rfl
  rw [hw]
  unfold val_main_v174
  generalize val_main_v149 (F := Ideal) x0 x1 x2 x3 x4 x5 = y
  generalize val_main_v173 (F := Ideal) = e at he ⊢
  exact lay_of 0x00000000#32 (n := 256) (H := 2) rfl y e _ b l c ⟨c.1 / 128, by omega⟩ rfl ⟨c.1 % 128, by omega⟩ rfl he _
    (fun _ _ => rfl)

/-- Window values. -/
theorem lay_vw (b : Fin 8) (l : Fin 2048) (c : Fin 256) :
    val_main_v181 (F := Ideal) x0 x1 x2 x3 (ix3 b l c)
      = laid 0x3F800000#32 (n := 256) (H := 2) rfl (fun h => fun d => val_main_v177 (F := Ideal) x0 x1 x2 x3 (ix4 b l h d)) c := by
  have he : ∀ i, val_main_v178 (F := Ideal) i = Ideal.ofBits .f32 0x3F800000#32 := fun i =>
    (val_main_v178_apply i).trans (val_main_cst_16_apply _)
  have hw : val_main_v181 (F := Ideal) x0 x1 x2 x3 (ix3 b l c)
      = val_main_v179 (F := Ideal) x0 x1 x2 x3 (ix4 b l (⟨c.1 / 128, by omega⟩ : Fin 2) (⟨c.1 % 128, by omega⟩ : Fin 128)) := by
    rw [val_main_v181_apply, val_main_v180_apply,
      show idx_main_v180 (ix3 b l c) = ix4 b l (⟨c.1 / 128, by omega⟩ : Fin 2) (⟨c.1 % 128, by omega⟩ : Fin 128) from lane_two b l c]
    rfl
  rw [hw]
  unfold val_main_v179
  generalize val_main_v177 (F := Ideal) x0 x1 x2 x3 = y
  generalize val_main_v178 (F := Ideal) = e at he ⊢
  exact lay_of 0x3F800000#32 (n := 256) (H := 2) rfl y e _ b l c ⟨c.1 / 128, by omega⟩ rfl ⟨c.1 % 128, by omega⟩ rfl he _
    (fun _ _ => rfl)

end Cert.InprojRefIdeal.Mix
-- ==== Proof.Inproj.Ref.lean ====
module

public import proofs.«01_k».proof.Proof.Inproj.RefHead
public import proofs.«01_k».proof.Proof.Inproj.RefTurn
public import proofs.«01_k».proof.Proof.Inproj.RefLay

/-!
# The reference projection is the formula

Its seven results at a token.
-/

@[expose] public section

noncomputable section

namespace Cert.InprojRefIdeal.Mix

open Idealize.ShloMosaic Cert.InprojRefIdeal Cert.InprojRefIdeal.Gen Cert.InprojRefIdeal.Read Cert.Rope
open Cert.Mix (proj normed)

variable (x0 : S8x2048x1024.Idx → EReal) (x1 : S8x6144.Idx → EReal) (x2 : S1024.Idx → EReal) (x3 : S1024x4608.Idx → EReal)
  (x4 x5 : S2048x32.Idx → EReal) (x6 : S256x512.Idx → EReal) (x7 x8 : S64.Idx → EReal)

theorem qg_apply (b : Fin 8) (l : Fin 2048) (c : Fin 1024) :
    val_main_v157 (F := Ideal) x0 x1 x2 x3 x4 x5 x7 (ix3 b l c) = qg (T x0 x1 x4 x5 b l) (W x2 x3 x6 x7 x8) c := by
  rw [lay_qg]
  refine congrArg (fun u => laid 0x00000000#32 (n := 1024) (H := 8) rfl u c) (funext fun h => ?_)
  refine congrArg eighth ?_
  rw [turn_q, unit_q, head_q x0 x1 x2 x3 x4 x5 x6 x7 x8 b l h]
  rfl

theorem kg_apply (b : Fin 8) (l : Fin 2048) (c : Fin 256) :
    val_main_v161 (F := Ideal) x0 x1 x2 x3 x4 x5 x8 (ix3 b l c) = kg (T x0 x1 x4 x5 b l) (W x2 x3 x6 x7 x8) c := by
  rw [lay_kg]
  refine congrArg (fun u => laid 0x00000000#32 (n := 256) (H := 2) rfl u c) (funext fun h => ?_)
  rw [turn_k, unit_k, head_k x0 x1 x2 x3 x4 x5 x6 x7 x8 b l h]
  rfl

theorem vg_apply (b : Fin 8) (l : Fin 2048) (c : Fin 256) :
    val_main_v166 (F := Ideal) x0 x1 x2 x3 (ix3 b l c) = vg (T x0 x1 x4 x5 b l) (W x2 x3 x6 x7 x8) c := by
  rw [lay_vg]
  refine congrArg (fun u => laid 0x3F800000#32 (n := 256) (H := 2) rfl u c) (funext fun h => ?_)
  exact head_v x0 x1 x2 x3 x4 x5 x6 x7 x8 b l h

theorem qw_apply (b : Fin 8) (l : Fin 2048) (c : Fin 512) :
    val_main_v172 (F := Ideal) x0 x1 x2 x3 x4 x5 (ix3 b l c) = qw (T x0 x1 x4 x5 b l) (W x2 x3 x6 x7 x8) c := by
  rw [lay_qw]
  refine congrArg (fun u => laid 0x00000000#32 (n := 512) (H := 4) rfl u c) (funext fun h => ?_)
  refine congrArg eighth ?_
  rw [turn_wq, head_wq x0 x1 x2 x3 x4 x5 x6 x7 x8 b l h]

theorem kw_apply (b : Fin 8) (l : Fin 2048) (c : Fin 256) :
    val_main_v176 (F := Ideal) x0 x1 x2 x3 x4 x5 (ix3 b l c) = kw (T x0 x1 x4 x5 b l) (W x2 x3 x6 x7 x8) c := by
  rw [lay_kw]
  refine congrArg (fun u => laid 0x00000000#32 (n := 256) (H := 2) rfl u c) (funext fun h => ?_)
  rw [turn_wk, head_wk x0 x1 x2 x3 x4 x5 x6 x7 x8 b l h]

theorem vw_apply (b : Fin 8) (l : Fin 2048) (c : Fin 256) :
    val_main_v181 (F := Ideal) x0 x1 x2 x3 (ix3 b l c) = vw (T x0 x1 x4 x5 b l) (W x2 x3 x6 x7 x8) c := by
  rw [lay_vw]
  refine congrArg (fun u => laid 0x3F800000#32 (n := 256) (H := 2) rfl u c) (funext fun h => ?_)
  exact head_wv x0 x1 x2 x3 x4 x5 x6 x7 x8 b l h

end Cert.InprojRefIdeal.Mix
-- ==== Proof.Inproj.Claim.lean ====
module

public import proofs.«01_k».proof.Defs
public import proofs.«01_k».proof.Proof.Inproj.Value
public import proofs.«01_k».proof.Proof.Inproj.Ref
public import proofs.«01_k».proof.Proof.Gen.InprojRefIdeal.Run
public import Idealize.ShloMosaic.Lib.Quiescent

/-!
# The claims about the projection

The call and the reference both end with the seven arrays of the formulas `fcs`, `qg`, `kg`, `vg`,
`qw`, `kw` and `vw`.
-/

@[expose] public section

noncomputable section

namespace Cert.Rope

open Idealize.ShloMosaic Idealize.SL.Sem Cert.InprojIdeal.Mix

/-- The reference leaves its arguments. -/
theorem frame_ref : Cert.quiescent_InprojRefIdeal (hInprojRefIdeal := Cert.InprojRefIdeal.Gen.facts) := fun m ρ _ =>
  (θ_run (Cert.InprojRefIdeal.defs (F := Ideal)) _ _).mono
    (fun r h => ⟨fun c => (h c).2.2.2.2.2.2.2, Idealize.ShloMosaic.sem_eq_zero_of_no_sems (by decide) r.2⟩)
    (Cert.InprojRefIdeal.Value.run (F := Ideal) m ρ)

/-- Call and reference end with equal arrays. -/
theorem equal : Cert.algebraic_InprojIdeal_InprojRefIdeal (hInprojIdeal := Cert.InprojIdeal.Gen.facts)
    (hInprojRefIdeal := Cert.InprojRefIdeal.Gen.facts) := by
  intro m ρ m' ρ' _ hagree
  have e0 (c) : StableHlo.launchContents m' c (Proc.devRef .tc Cert.InprojRefIdeal.main_arg0) = A0 m c := (hagree c).1
  have e1 (c) : StableHlo.launchContents m' c (Proc.devRef .tc Cert.InprojRefIdeal.main_arg1) = A1 m c := (hagree c).2.1
  have e2 (c) : StableHlo.launchContents m' c (Proc.devRef .tc Cert.InprojRefIdeal.main_arg2) = A2 m c := (hagree c).2.2.1
  have e3 (c) : StableHlo.launchContents m' c (Proc.devRef .tc Cert.InprojRefIdeal.main_arg3) = A3 m c := (hagree c).2.2.2.1
  have e4 (c) : StableHlo.launchContents m' c (Proc.devRef .tc Cert.InprojRefIdeal.main_arg4) = A4 m c := (hagree c).2.2.2.2.1
  have e5 (c) : StableHlo.launchContents m' c (Proc.devRef .tc Cert.InprojRefIdeal.main_arg5) = A5 m c := (hagree c).2.2.2.2.2.1
  have e6 (c) : StableHlo.launchContents m' c (Proc.devRef .tc Cert.InprojRefIdeal.main_arg6) = A6 m c := (hagree c).2.2.2.2.2.2.1
  have e7 (c) : StableHlo.launchContents m' c (Proc.devRef .tc Cert.InprojRefIdeal.main_arg7) = A7 m c := (hagree c).2.2.2.2.2.2.2.1
  have e8 (c) : StableHlo.launchContents m' c (Proc.devRef .tc Cert.InprojRefIdeal.main_arg8) = A8 m c := (hagree c).2.2.2.2.2.2.2.2
  refine ⟨fun c => whole11 m c, fun c => whole12 m c, fun c => whole13 m c, fun c => whole14 m c, fun c => whole15 m c, fun c => whole16 m c, fun c => whole17 m c,
    (θ_run (Cert.InprojIdeal.defs (F := Ideal)) _ _).mono (fun r h c =>
      ⟨(h c).1.trans (final11 m c), (h c).2.1.trans (final12 m c), (h c).2.2.1.trans (final13 m c), (h c).2.2.2.1.trans (final14 m c), (h c).2.2.2.2.1.trans (final15 m c), (h c).2.2.2.2.2.1.trans (final16 m c), (h c).2.2.2.2.2.2.1.trans (final17 m c), (h c).2.2.2.2.2.2.2⟩)
      (Cert.InprojIdeal.Value.run_blocks m ρ),
    (θ_run (Cert.InprojRefIdeal.defs (F := Ideal)) _ _).mono (fun r h c =>
      ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
      (Cert.InprojRefIdeal.Value.run (F := Ideal) m' ρ')⟩
  · refine (Cert.InprojRefIdeal.Read.val_main_v151_eq (StableHlo.launchContents m' c)).trans ?_
    rw [e0 c, e1 c, e2 c, e3 c, e6 c]
    exact funext fun i => (congrArg _ (eq_ix3 (n0 := 8) (n1 := 2048) (n2 := 512) i)).trans
      (Cert.InprojRefIdeal.Mix.fcs_apply (A0 m c) (A1 m c) (A2 m c) (A3 m c) (A4 m c) (A5 m c) (A6 m c) (A7 m c) (A8 m c) (i 0) (i 1) (i 2))
  · refine (Cert.InprojRefIdeal.Read.val_main_v157_eq (StableHlo.launchContents m' c)).trans ?_
    rw [e0 c, e1 c, e2 c, e3 c, e4 c, e5 c, e7 c]
    exact funext fun i => (congrArg _ (eq_ix3 (n0 := 8) (n1 := 2048) (n2 := 1024) i)).trans
      (Cert.InprojRefIdeal.Mix.qg_apply (A0 m c) (A1 m c) (A2 m c) (A3 m c) (A4 m c) (A5 m c) (A6 m c) (A7 m c) (A8 m c) (i 0) (i 1) (i 2))
  · refine (Cert.InprojRefIdeal.Read.val_main_v161_eq (StableHlo.launchContents m' c)).trans ?_
    rw [e0 c, e1 c, e2 c, e3 c, e4 c, e5 c, e8 c]
    exact funext fun i => (congrArg _ (eq_ix3 (n0 := 8) (n1 := 2048) (n2 := 256) i)).trans
      (Cert.InprojRefIdeal.Mix.kg_apply (A0 m c) (A1 m c) (A2 m c) (A3 m c) (A4 m c) (A5 m c) (A6 m c) (A7 m c) (A8 m c) (i 0) (i 1) (i 2))
  · refine (Cert.InprojRefIdeal.Read.val_main_v166_eq (StableHlo.launchContents m' c)).trans ?_
    rw [e0 c, e1 c, e2 c, e3 c]
    exact funext fun i => (congrArg _ (eq_ix3 (n0 := 8) (n1 := 2048) (n2 := 256) i)).trans
      (Cert.InprojRefIdeal.Mix.vg_apply (A0 m c) (A1 m c) (A2 m c) (A3 m c) (A4 m c) (A5 m c) (A6 m c) (A7 m c) (A8 m c) (i 0) (i 1) (i 2))
  · refine (Cert.InprojRefIdeal.Read.val_main_v172_eq (StableHlo.launchContents m' c)).trans ?_
    rw [e0 c, e1 c, e2 c, e3 c, e4 c, e5 c]
    exact funext fun i => (congrArg _ (eq_ix3 (n0 := 8) (n1 := 2048) (n2 := 512) i)).trans
      (Cert.InprojRefIdeal.Mix.qw_apply (A0 m c) (A1 m c) (A2 m c) (A3 m c) (A4 m c) (A5 m c) (A6 m c) (A7 m c) (A8 m c) (i 0) (i 1) (i 2))
  · refine (Cert.InprojRefIdeal.Read.val_main_v176_eq (StableHlo.launchContents m' c)).trans ?_
    rw [e0 c, e1 c, e2 c, e3 c, e4 c, e5 c]
    exact funext fun i => (congrArg _ (eq_ix3 (n0 := 8) (n1 := 2048) (n2 := 256) i)).trans
      (Cert.InprojRefIdeal.Mix.kw_apply (A0 m c) (A1 m c) (A2 m c) (A3 m c) (A4 m c) (A5 m c) (A6 m c) (A7 m c) (A8 m c) (i 0) (i 1) (i 2))
  · refine (Cert.InprojRefIdeal.Read.val_main_v181_eq (StableHlo.launchContents m' c)).trans ?_
    rw [e0 c, e1 c, e2 c, e3 c]
    exact funext fun i => (congrArg _ (eq_ix3 (n0 := 8) (n1 := 2048) (n2 := 256) i)).trans
      (Cert.InprojRefIdeal.Mix.vw_apply (A0 m c) (A1 m c) (A2 m c) (A3 m c) (A4 m c) (A5 m c) (A6 m c) (A7 m c) (A8 m c) (i 0) (i 1) (i 2))

end Cert.Rope
-- ==== Proof.lean ====
module

public import proofs.«01_k».proof.Defs
public import proofs.«01_k».proof.Proof.Gen.Kernel.Frame
public import proofs.«01_k».proof.Proof.Gen.KernelIdeal.Frame
public import proofs.«01_k».proof.Proof.Gen.Experts.Frame
public import proofs.«01_k».proof.Proof.Gen.ExpertsIdeal.Frame
public import proofs.«01_k».proof.Proof.Attn.Claim
public import proofs.«01_k».proof.Proof.Experts.Claim
public import proofs.«01_k».proof.Proof.Merge.Claim
public import proofs.«01_k».proof.Proof.Inproj.Claim
public import proofs.«01_k».proof.Proof.Gen.ExpertsRefIdeal.Run
public import proofs.«01_k».proof.Proof.Gen.ExpertsRefIdeal.Read
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal.Run
public import proofs.«01_k».proof.Proof.Gen.InprojRefIdeal.Read
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts,
    Cert.Experts.Gen.facts, Cert.ExpertsIdeal.Gen.facts, Cert.ExpertsRefIdeal.Gen.facts,
    Cert.Merge.Gen.facts, Cert.MergeIdeal.Gen.facts, Cert.MergeRefIdeal.Gen.facts,
    Cert.Inproj.Gen.facts, Cert.InprojIdeal.Gen.facts, Cert.InprojRefIdeal.Gen.facts, Cert.Pre_finite_scores.Gen.facts,
    fun m ρ _ => Cert.Kernel.Gen.frame m ρ,
    fun m ρ _ => Cert.KernelIdeal.Gen.frame m ρ,
    fun m ρ _ => Cert.KernelIdeal.Gen.frame m ρ,
    Cert.Attn.frame_ref,
    fun m ρ _ => Cert.Attn.frame_ref m ρ trivial,
    fun m ρ _ => Cert.Experts.Gen.frame m ρ,
    fun m ρ _ => Cert.ExpertsIdeal.Gen.frame m ρ,
    Cert.Moe.frame_ref,
    fun m ρ _ => Cert.Merge.Gen.frame m ρ,
    fun m ρ _ => Cert.MergeIdeal.Gen.frame m ρ,
    Cert.Mix.frame_ref,
    fun m ρ _ => Cert.Inproj.Gen.frame m ρ,
    fun m ρ _ => Cert.InprojIdeal.Gen.frame m ρ,
    Cert.Rope.frame_ref,
    trivial,
    Cert.Attn.equal,
    trivial,
    Cert.Moe.equal,
    trivial,
    Cert.Mix.equal,
    trivial,
    Cert.Rope.equal⟩

end Cert.Proof

end
